-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x4096x8x128 : Shape := ⟨4, ![16, 4096, 8, 128]⟩
abbrev S16x4096x8x64 : Shape := ⟨4, ![16, 4096, 8, 64]⟩
abbrev S16x4096x64 : Shape := ⟨3, ![16, 4096, 64]⟩
abbrev S_ : Shape := ⟨0, ![]⟩

class Facts : Prop where
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  h_S_ : 0 < S_.numel
  bcast_S_S16x4096x8x64 : S_.BroadcastsInDim S16x4096x8x64 (![] : Fin 0 → Fin S16x4096x8x64.rank)
  reducesTo_S16x4096x8x64_S_d0_1_2_3 : S16x4096x8x64.ReducesTo [0, 1, 2, 3] S_
  bcast_S_S16x4096x64 : S_.BroadcastsInDim S16x4096x64 (![] : Fin 0 → Fin S16x4096x64.rank)
  reducesTo_S16x4096x64_S_d0_1_2 : S16x4096x64.ReducesTo [0, 1, 2] S_

variable [Facts]

def fn_part1 {F : FTy → Type} [FloatOps F] (main_v13 : IVec S_ 1) (main_v16 : IVec S16x4096x64 1) : IVec S_ 1 :=
  let main_c_5 : IVec S_ 1 := constantI S_ 1 1#1
  let main_v17 : IVec S_ 1 := (fun x v => Host.reduce IntOp.andi x v reducesTo_S16x4096x64_S_d0_1_2 h_S_) main_v16 main_c_5
  let main_v18 : IVec S_ 1 := andi main_v13 main_v17
  main_v18

def fn {F : FTy → Type} [FloatOps F] (main_arg0 : FVec F S16x4096x8x128 .f32) (main_arg1 : FVec F S16x4096x8x64 .f32) (main_arg2 : FVec F S16x4096x8x128 .f32) (main_arg3 : FVec F S16x4096x64 .f32) (main_arg4 : FVec F S16x4096x8x128 .f32) : IVec S_ 1 :=
  let main_v0 : FVec F S16x4096x8x128 .f32 := Host.absf main_arg0
  let main_cst : FVec F S_ .f32 := constant S_ .f32 0x7F800000#32
  let main_v1 : FVec F S16x4096x8x128 .f32 := broadcastInDim S16x4096x8x128 ![] bcast_S_S16x4096x8x128 main_cst
  let main_v2 : IVec S16x4096x8x128 1 := cmpf .olt main_v0 main_v1
  let main_c : IVec S_ 1 := constantI S_ 1 1#1
  let main_v3 : IVec S_ 1 := (fun x v => Host.reduce IntOp.andi x v reducesTo_S16x4096x8x128_S_d0_1_2_3 h_S_) main_v2 main_c
  let main_v4 : FVec F S16x4096x8x64 .f32 := Host.absf main_arg1
  let main_cst_0 : FVec F S_ .f32 := constant S_ .f32 0x7F800000#32
  let main_v5 : FVec F S16x4096x8x64 .f32 := broadcastInDim S16x4096x8x64 ![] bcast_S_S16x4096x8x64 main_cst_0
  let main_v6 : IVec S16x4096x8x64 1 := cmpf .olt main_v4 main_v5
  let main_c_1 : IVec S_ 1 := constantI S_ 1 1#1
  let main_v7 : IVec S_ 1 := (fun x v => Host.reduce IntOp.andi x v reducesTo_S16x4096x8x64_S_d0_1_2_3 h_S_) main_v6 main_c_1
  let main_v8 : IVec S_ 1 := andi main_v3 main_v7
  let main_v9 : FVec F S16x4096x8x128 .f32 := Host.absf main_arg2
  let main_cst_2 : FVec F S_ .f32 := constant S_ .f32 0x7F800000#32
  let main_v10 : FVec F S16x4096x8x128 .f32 := broadcastInDim S16x4096x8x128 ![] bcast_S_S16x4096x8x128 main_cst_2
  let main_v11 : IVec S16x4096x8x128 1 := cmpf .olt main_v9 main_v10
  let main_c_3 : IVec S_ 1 := constantI S_ 1 1#1
  let main_v12 : IVec S_ 1 := (fun x v => Host.reduce IntOp.andi x v reducesTo_S16x4096x8x128_S_d0_1_2_3 h_S_) main_v11 main_c_3
  let main_v13 : IVec S_ 1 := andi main_v8 main_v12
  let main_v14 : FVec F S16x4096x64 .f32 := Host.absf main_arg3
  let main_cst_4 : FVec F S_ .f32 := constant S_ .f32 0x7F800000#32
  let main_v15 : FVec F S16x4096x64 .f32 := broadcastInDim S16x4096x64 ![] bcast_S_S16x4096x64 main_cst_4
  let main_v16 : IVec S16x4096x64 1 := cmpf .olt main_v14 main_v15
  fn_part1 (F := F) main_v13 main_v16
-- ==== Kernel.lean ====
abbrev S16x4096x8x128 : Shape := ⟨4, ![16, 4096, 8, 128]⟩
abbrev S16x4096x8x64 : Shape := ⟨4, ![16, 4096, 8, 64]⟩
abbrev S16x4096x64 : Shape := ⟨3, ![16, 4096, 64]⟩
abbrev S_ : Shape := ⟨0, ![]⟩
abbrev S16x4096x1024 : Shape := ⟨3, ![16, 4096, 1024]⟩
abbrev S16x4096x512 : Shape := ⟨3, ![16, 4096, 512]⟩
abbrev S16x4096x128 : Shape := ⟨3, ![16, 4096, 128]⟩
abbrev S16x1024x4096 : Shape := ⟨3, ![16, 1024, 4096]⟩
abbrev S1x512x512 : Shape := ⟨3, ![1, 512, 512]⟩
abbrev S1x512x256 : Shape := ⟨3, ![1, 512, 256]⟩
abbrev S1x4096x512 : Shape := ⟨3, ![1, 4096, 512]⟩
abbrev S1x4096x128 : Shape := ⟨3, ![1, 4096, 128]⟩
abbrev S1x512x4096 : Shape := ⟨3, ![1, 512, 4096]⟩
abbrev S2x4x512x512 : Shape := ⟨4, ![2, 4, 512, 512]⟩
abbrev S2x4x1x512 : Shape := ⟨4, ![2, 4, 1, 512]⟩
abbrev S4x1x512 : Shape := ⟨3, ![4, 1, 512]⟩
abbrev S4x128x512 : Shape := ⟨3, ![4, 128, 512]⟩
abbrev S1x512x128 : Shape := ⟨3, ![1, 512, 128]⟩
abbrev S512x128 : Shape := ⟨2, ![512, 128]⟩
abbrev S1x128 : Shape := ⟨2, ![1, 128]⟩
abbrev S512x256 : Shape := ⟨2, ![512, 256]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x128x512 : Shape := ⟨3, ![1, 128, 512]⟩
abbrev S128x512 : Shape := ⟨2, ![128, 512]⟩

abbrev nBuf : Space → Nat
  | .hbm => 28
  | .vmem => 17
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x8x64, .f32⟩
  | .hbm, ⟨2, _⟩ => ⟨S16x4096x8x128, .f32⟩
  | .hbm, ⟨3, _⟩ => ⟨S16x4096x64, .f32⟩
  | .hbm, ⟨4, _⟩ => ⟨S16x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .bf16⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S16x4096x512, .bf16⟩
  | .hbm, ⟨20, _⟩ => ⟨S16x4096x1024, .f32⟩
  | .hbm, ⟨21, _⟩ => ⟨S16x4096x1024, .bf16⟩
  | .hbm, ⟨22, _⟩ => ⟨S16x4096x128, .f32⟩
  | .hbm, ⟨23, _⟩ => ⟨S16x4096x128, .bf16⟩
  | .hbm, ⟨24, _⟩ => ⟨S16x4096x1024, .f32⟩
  | .hbm, ⟨25, _⟩ => ⟨S16x1024x4096, .f32⟩
  | .hbm, ⟨26, _⟩ => ⟨S16x1024x4096, .bf16⟩
  | .hbm, ⟨27, _⟩ => ⟨S16x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x512, .bf16⟩
  | .local _ .vmem, ⟨11, _⟩ => ⟨S1x512x512, .bf16⟩
  | .local _ .vmem, ⟨12, _⟩ => ⟨S2x4x512x512, .f32⟩
  | .local _ .vmem, ⟨13, _⟩ => ⟨S2x4x1x512, .f32⟩
  | .local _ .vmem, ⟨14, _⟩ => ⟨S4x1x512, .f32⟩
  | .local _ .vmem, ⟨15, _⟩ => ⟨S4x1x512, .f32⟩
  | .local _ .vmem, ⟨16, _⟩ => ⟨S4x128x512, .f32⟩
  | _, _ => ⟨S16x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_mult1 : BitVec 32 :=
  let c0_i32_65 : BitVec 32 := 0#32
  c0_i32_65
def k0_mult2 : BitVec 32 :=
  let c0_i32_80 : BitVec 32 := 0#32
  c0_i32_80
def k0_mult3 : BitVec 32 :=
  let c0_i32_94 : BitVec 32 := 0#32
  c0_i32_94
def k0_mult4 : BitVec 32 :=
  let c0_i32_108 : BitVec 32 := 0#32
  c0_i32_108
@[reducible] def k0_t1_loop (i : grid0.Coords) : Scf.Loop 32 :=
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_132 : BitVec 32 := 1#32
  ⟨c0_i32_129, v249, c1_i32_132⟩
def k0_mult5 (i : grid0.Coords) (k0_t1 : Fin (k0_t1_loop i).trips) : BitVec 32 :=
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let c1_i32_344 : BitVec 32 := 1#32
  let v668 : BitVec 32 := Scalar.addi v667 c1_i32_344
  let c512_i32_345 : BitVec 32 := 512#32
  let v669 : BitVec 32 := Scalar.muli v668 c512_i32_345
  v669
def k0_off1 (i : grid0.Coords) (k0_t1 : Fin (k0_t1_loop i).trips) (c1_i32_344 : BitVec 32) : Fin 3 → Nat :=
  let c0_346 : Index := 0#32
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let v668 : BitVec 32 := Scalar.addi v667 c1_i32_344
  let c512_i32_345 : BitVec 32 := 512#32
  let v669 : BitVec 32 := Scalar.muli v668 c512_i32_345
  let v670 : BitVec 32 := v669
  let v671 : Index := Scalar.indexCast v670
  let c0_347 : Index := 0#32
  ![0, v671.toNat, 0]
def k0_off2 (i : grid0.Coords) (k0_t1 : Fin (k0_t1_loop i).trips) (c1_i32_344 : BitVec 32) : Fin 3 → Nat :=
  let c0_348 : Index := 0#32
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let v668 : BitVec 32 := Scalar.addi v667 c1_i32_344
  let c512_i32_345 : BitVec 32 := 512#32
  let v669 : BitVec 32 := Scalar.muli v668 c512_i32_345
  let v670 : BitVec 32 := v669
  let v674 : Index := Scalar.indexCast v670
  let c0_349 : Index := 0#32
  ![0, v674.toNat, 0]
def k0_mult6 (i : grid0.Coords) (k0_t1 : Fin (k0_t1_loop i).trips) : BitVec 32 :=
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let c1_i32_344 : BitVec 32 := 1#32
  let v668 : BitVec 32 := Scalar.addi v667 c1_i32_344
  let c512_i32_360 : BitVec 32 := 512#32
  let v687 : BitVec 32 := Scalar.muli v668 c512_i32_360
  v687
def k0_off3 (i : grid0.Coords) (k0_t1 : Fin (k0_t1_loop i).trips) (c1_i32_344 : BitVec 32) : Fin 3 → Nat :=
  let c0_361 : Index := 0#32
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let v668 : BitVec 32 := Scalar.addi v667 c1_i32_344
  let c512_i32_360 : BitVec 32 := 512#32
  let v687 : BitVec 32 := Scalar.muli v668 c512_i32_360
  let v688 : BitVec 32 := v687
  let v689 : Index := Scalar.indexCast v688
  let c128_362 : Index := 128#32
  ![0, v689.toNat, 128]
def k0_mult7 (i : grid0.Coords) (k0_t1 : Fin (k0_t1_loop i).trips) : BitVec 32 :=
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let c1_i32_344 : BitVec 32 := 1#32
  let v668 : BitVec 32 := Scalar.addi v667 c1_i32_344
  let c512_i32_375 : BitVec 32 := 512#32
  let v705 : BitVec 32 := Scalar.muli v668 c512_i32_375
  v705
def k0_off4 (i : grid0.Coords) (k0_t1 : Fin (k0_t1_loop i).trips) (c1_i32_344 : BitVec 32) : Fin 3 → Nat :=
  let c0_376 : Index := 0#32
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let v668 : BitVec 32 := Scalar.addi v667 c1_i32_344
  let c512_i32_375 : BitVec 32 := 512#32
  let v705 : BitVec 32 := Scalar.muli v668 c512_i32_375
  let v706 : BitVec 32 := v705
  let v707 : Index := Scalar.indexCast v706
  let c256_377 : Index := 256#32
  ![0, v707.toNat, 256]
def k0_mult8 (i : grid0.Coords) (k0_t1 : Fin (k0_t1_loop i).trips) : BitVec 32 :=
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let c1_i32_344 : BitVec 32 := 1#32
  let v668 : BitVec 32 := Scalar.addi v667 c1_i32_344
  let c512_i32_390 : BitVec 32 := 512#32
  let v723 : BitVec 32 := Scalar.muli v668 c512_i32_390
  v723
def k0_off5 (i : grid0.Coords) (k0_t1 : Fin (k0_t1_loop i).trips) (c1_i32_344 : BitVec 32) : Fin 3 → Nat :=
  let c0_391 : Index := 0#32
  let c2_i32_343 : BitVec 32 := 2#32
  let c0_i32_129 : BitVec 32 := 0#32
  let c1_i32_132 : BitVec 32 := 1#32
  let arg14 : BitVec 32 := Scf.iv c0_i32_129 c1_i32_132 k0_t1
  let v667 : BitVec 32 := Scalar.muli c2_i32_343 arg14
  let v668 : BitVec 32 := Scalar.addi v667 c1_i32_344
  let c512_i32_390 : BitVec 32 := 512#32
  let v723 : BitVec 32 := Scalar.muli v668 c512_i32_390
  let v724 : BitVec 32 := v723
  let v725 : Index := Scalar.indexCast v724
  let c384_392 : Index := 384#32
  ![0, v725.toNat, 384]
def k0_mult9 (i : grid0.Coords) (k0_t1 : Fin (k0_t1_loop i).trips) : BitVec 32 :=
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_430 : BitVec 32 := 512#32
  let v770 : BitVec 32 := Scalar.muli v741 c512_i32_430
  v770
def k0_off6 (i : grid0.Coords) (k0_t1 : Fin (k0_t1_loop i).trips) : Fin 3 → Nat :=
  let c0_431 : Index := 0#32
  let c0_432 : Index := 0#32
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_430 : BitVec 32 := 512#32
  let v770 : BitVec 32 := Scalar.muli v741 c512_i32_430
  let v771 : BitVec 32 := v770
  let v772 : Index := Scalar.indexCast v771
  ![0, 0, v772.toNat]
def k0_mult10 (i : grid0.Coords) (k0_t1 : Fin (k0_t1_loop i).trips) : BitVec 32 :=
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_461 : BitVec 32 := 512#32
  let v809 : BitVec 32 := Scalar.muli v741 c512_i32_461
  v809
def k0_off7 (i : grid0.Coords) (k0_t1 : Fin (k0_t1_loop i).trips) : Fin 3 → Nat :=
  let c0_462 : Index := 0#32
  let c128_463 : Index := 128#32
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_461 : BitVec 32 := 512#32
  let v809 : BitVec 32 := Scalar.muli v741 c512_i32_461
  let v810 : BitVec 32 := v809
  let v811 : Index := Scalar.indexCast v810
  ![0, 128, v811.toNat]
def k0_mult11 (i : grid0.Coords) (k0_t1 : Fin (k0_t1_loop i).trips) : BitVec 32 :=
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_492 : BitVec 32 := 512#32
  let v848 : BitVec 32 := Scalar.muli v741 c512_i32_492
  v848
def k0_off8 (i : grid0.Coords) (k0_t1 : Fin (k0_t1_loop i).trips) : Fin 3 → Nat :=
  let c0_493 : Index := 0#32
  let c256_494 : Index := 256#32
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_492 : BitVec 32 := 512#32
  let v848 : BitVec 32 := Scalar.muli v741 c512_i32_492
  let v849 : BitVec 32 := v848
  let v850 : Index := Scalar.indexCast v849
  ![0, 256, v850.toNat]
def k0_mult12 (i : grid0.Coords) (k0_t1 : Fin (k0_t1_loop i).trips) : BitVec 32 :=
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_523 : BitVec 32 := 512#32
  let v887 : BitVec 32 := Scalar.muli v741 c512_i32_523
  v887
def k0_off9 (i : grid0.Coords) (k0_t1 : Fin (k0_t1_loop i).trips) : Fin 3 → Nat :=
  let c0_524 : Index := 0#32
  let c384_525 : Index := 384#32
  let c2_i32_405 : BitVec 32 := 2#32
  let c0_i32_129 : BitVec 32 := 0#32
  let c1_i32_132 : BitVec 32 := 1#32
  let arg14 : BitVec 32 := Scf.iv c0_i32_129 c1_i32_132 k0_t1
  let v741 : BitVec 32 := Scalar.muli c2_i32_405 arg14
  let c512_i32_523 : BitVec 32 := 512#32
  let v887 : BitVec 32 := Scalar.muli v741 c512_i32_523
  let v888 : BitVec 32 := v887
  let v889 : Index := Scalar.indexCast v888
  ![0, 384, v889.toNat]
def k0_mult13 (i : grid0.Coords) (k0_t1 : Fin (k0_t1_loop i).trips) : BitVec 32 :=
  let c2_i32_530 : BitVec 32 := 2#32
  let c0_i32_129 : BitVec 32 := 0#32
  let c1_i32_132 : BitVec 32 := 1#32
  let arg14 : BitVec 32 := Scf.iv c0_i32_129 c1_i32_132 k0_t1
  let v898 : BitVec 32 := Scalar.muli c2_i32_530 arg14
  let c2_i32_531 : BitVec 32 := 2#32
  let v899 : BitVec 32 := Scalar.addi v898 c2_i32_531
  let c512_i32_532 : BitVec 32 := 512#32
  let v900 : BitVec 32 := Scalar.muli v899 c512_i32_532
  v900
def k0_mult14 (i : grid0.Coords) (k0_t1 : Fin (k0_t1_loop i).trips) : BitVec 32 :=
  let c2_i32_530 : BitVec 32 := 2#32
  let c0_i32_129 : BitVec 32 := 0#32
  let c1_i32_132 : BitVec 32 := 1#32
  let arg14 : BitVec 32 := Scf.iv c0_i32_129 c1_i32_132 k0_t1
  let v898 : BitVec 32 := Scalar.muli c2_i32_530 arg14
  let c2_i32_531 : BitVec 32 := 2#32
  let v899 : BitVec 32 := Scalar.addi v898 c2_i32_531
  let c512_i32_547 : BitVec 32 := 512#32
  let v918 : BitVec 32 := Scalar.muli v899 c512_i32_547
  v918
def k0_mult15 (i : grid0.Coords) (k0_t1 : Fin (k0_t1_loop i).trips) : BitVec 32 :=
  let c2_i32_530 : BitVec 32 := 2#32
  let c0_i32_129 : BitVec 32 := 0#32
  let c1_i32_132 : BitVec 32 := 1#32
  let arg14 : BitVec 32 := Scf.iv c0_i32_129 c1_i32_132 k0_t1
  let v898 : BitVec 32 := Scalar.muli c2_i32_530 arg14
  let c2_i32_531 : BitVec 32 := 2#32
  let v899 : BitVec 32 := Scalar.addi v898 c2_i32_531
  let c512_i32_562 : BitVec 32 := 512#32
  let v936 : BitVec 32 := Scalar.muli v899 c512_i32_562
  v936
def k0_mult16 (i : grid0.Coords) (k0_t1 : Fin (k0_t1_loop i).trips) : BitVec 32 :=
  let c2_i32_530 : BitVec 32 := 2#32
  let c0_i32_129 : BitVec 32 := 0#32
  let c1_i32_132 : BitVec 32 := 1#32
  let arg14 : BitVec 32 := Scf.iv c0_i32_129 c1_i32_132 k0_t1
  let v898 : BitVec 32 := Scalar.muli c2_i32_530 arg14
  let c2_i32_531 : BitVec 32 := 2#32
  let v899 : BitVec 32 := Scalar.addi v898 c2_i32_531
  let c512_i32_577 : BitVec 32 := 512#32
  let v954 : BitVec 32 := Scalar.muli v899 c512_i32_577
  v954
def k0_mult17 (i : grid0.Coords) (k0_t1 : Fin (k0_t1_loop i).trips) : BitVec 32 :=
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_618 : BitVec 32 := 512#32
  let v1002 : BitVec 32 := Scalar.muli v973 c512_i32_618
  v1002
def k0_off10 (i : grid0.Coords) (k0_t1 : Fin (k0_t1_loop i).trips) : Fin 3 → Nat :=
  let c0_619 : Index := 0#32
  let c0_620 : Index := 0#32
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_618 : BitVec 32 := 512#32
  let v1002 : BitVec 32 := Scalar.muli v973 c512_i32_618
  let v1003 : BitVec 32 := v1002
  let v1004 : Index := Scalar.indexCast v1003
  ![0, 0, v1004.toNat]
def k0_mult18 (i : grid0.Coords) (k0_t1 : Fin (k0_t1_loop i).trips) : BitVec 32 :=
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_649 : BitVec 32 := 512#32
  let v1041 : BitVec 32 := Scalar.muli v973 c512_i32_649
  v1041
def k0_off11 (i : grid0.Coords) (k0_t1 : Fin (k0_t1_loop i).trips) : Fin 3 → Nat :=
  let c0_650 : Index := 0#32
  let c128_651 : Index := 128#32
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_649 : BitVec 32 := 512#32
  let v1041 : BitVec 32 := Scalar.muli v973 c512_i32_649
  let v1042 : BitVec 32 := v1041
  let v1043 : Index := Scalar.indexCast v1042
  ![0, 128, v1043.toNat]
def k0_mult19 (i : grid0.Coords) (k0_t1 : Fin (k0_t1_loop i).trips) : BitVec 32 :=
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_680 : BitVec 32 := 512#32
  let v1080 : BitVec 32 := Scalar.muli v973 c512_i32_680
  v1080
def k0_off12 (i : grid0.Coords) (k0_t1 : Fin (k0_t1_loop i).trips) : Fin 3 → Nat :=
  let c0_681 : Index := 0#32
  let c256_682 : Index := 256#32
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_680 : BitVec 32 := 512#32
  let v1080 : BitVec 32 := Scalar.muli v973 c512_i32_680
  let v1081 : BitVec 32 := v1080
  let v1082 : Index := Scalar.indexCast v1081
  ![0, 256, v1082.toNat]
def k0_mult20 (i : grid0.Coords) (k0_t1 : Fin (k0_t1_loop i).trips) : BitVec 32 :=
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_711 : BitVec 32 := 512#32
  let v1119 : BitVec 32 := Scalar.muli v973 c512_i32_711
  v1119
def k0_off13 (i : grid0.Coords) (k0_t1 : Fin (k0_t1_loop i).trips) : Fin 3 → Nat :=
  let c0_712 : Index := 0#32
  let c384_713 : Index := 384#32
  let c2_i32_592 : BitVec 32 := 2#32
  let c0_i32_129 : BitVec 32 := 0#32
  let c1_i32_132 : BitVec 32 := 1#32
  let arg14 : BitVec 32 := Scf.iv c0_i32_129 c1_i32_132 k0_t1
  let v972 : BitVec 32 := Scalar.muli c2_i32_592 arg14
  let c1_i32_593 : BitVec 32 := 1#32
  let v973 : BitVec 32 := Scalar.addi v972 c1_i32_593
  let c512_i32_711 : BitVec 32 := 512#32
  let v1119 : BitVec 32 := Scalar.muli v973 c512_i32_711
  let v1120 : BitVec 32 := v1119
  let v1121 : Index := Scalar.indexCast v1120
  ![0, 384, v1121.toNat]
@[reducible] def k0_t2_loop (i : grid0.Coords) : Scf.Loop 32 :=
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let v246 : BitVec 32 := Scalar.addi c0_i32_129 v245
  let c1_i32_133 : BitVec 32 := 1#32
  ⟨v249, v246, c1_i32_133⟩
def k0_mult21 (i : grid0.Coords) (k0_t2 : Fin (k0_t2_loop i).trips) : BitVec 32 :=
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let c1_i32_344 : BitVec 32 := 1#32
  let v668 : BitVec 32 := Scalar.addi v667 c1_i32_344
  let c512_i32_345 : BitVec 32 := 512#32
  let v669 : BitVec 32 := Scalar.muli v668 c512_i32_345
  v669
def k0_off14 (i : grid0.Coords) (k0_t2 : Fin (k0_t2_loop i).trips) (c1_i32_344 : BitVec 32) : Fin 3 → Nat :=
  let c0_346 : Index := 0#32
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let v668 : BitVec 32 := Scalar.addi v667 c1_i32_344
  let c512_i32_345 : BitVec 32 := 512#32
  let v669 : BitVec 32 := Scalar.muli v668 c512_i32_345
  let v670 : BitVec 32 := v669
  let v671 : Index := Scalar.indexCast v670
  let c0_347 : Index := 0#32
  ![0, v671.toNat, 0]
def k0_off15 (i : grid0.Coords) (k0_t2 : Fin (k0_t2_loop i).trips) (c1_i32_344 : BitVec 32) : Fin 3 → Nat :=
  let c0_348 : Index := 0#32
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let v668 : BitVec 32 := Scalar.addi v667 c1_i32_344
  let c512_i32_345 : BitVec 32 := 512#32
  let v669 : BitVec 32 := Scalar.muli v668 c512_i32_345
  let v670 : BitVec 32 := v669
  let v674 : Index := Scalar.indexCast v670
  let c0_349 : Index := 0#32
  ![0, v674.toNat, 0]
def k0_mult22 (i : grid0.Coords) (k0_t2 : Fin (k0_t2_loop i).trips) : BitVec 32 :=
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let c1_i32_344 : BitVec 32 := 1#32
  let v668 : BitVec 32 := Scalar.addi v667 c1_i32_344
  let c512_i32_360 : BitVec 32 := 512#32
  let v687 : BitVec 32 := Scalar.muli v668 c512_i32_360
  v687
def k0_off16 (i : grid0.Coords) (k0_t2 : Fin (k0_t2_loop i).trips) (c1_i32_344 : BitVec 32) : Fin 3 → Nat :=
  let c0_361 : Index := 0#32
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let v668 : BitVec 32 := Scalar.addi v667 c1_i32_344
  let c512_i32_360 : BitVec 32 := 512#32
  let v687 : BitVec 32 := Scalar.muli v668 c512_i32_360
  let v688 : BitVec 32 := v687
  let v689 : Index := Scalar.indexCast v688
  let c128_362 : Index := 128#32
  ![0, v689.toNat, 128]
def k0_mult23 (i : grid0.Coords) (k0_t2 : Fin (k0_t2_loop i).trips) : BitVec 32 :=
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let c1_i32_344 : BitVec 32 := 1#32
  let v668 : BitVec 32 := Scalar.addi v667 c1_i32_344
  let c512_i32_375 : BitVec 32 := 512#32
  let v705 : BitVec 32 := Scalar.muli v668 c512_i32_375
  v705
def k0_off17 (i : grid0.Coords) (k0_t2 : Fin (k0_t2_loop i).trips) (c1_i32_344 : BitVec 32) : Fin 3 → Nat :=
  let c0_376 : Index := 0#32
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let v668 : BitVec 32 := Scalar.addi v667 c1_i32_344
  let c512_i32_375 : BitVec 32 := 512#32
  let v705 : BitVec 32 := Scalar.muli v668 c512_i32_375
  let v706 : BitVec 32 := v705
  let v707 : Index := Scalar.indexCast v706
  let c256_377 : Index := 256#32
  ![0, v707.toNat, 256]
def k0_mult24 (i : grid0.Coords) (k0_t2 : Fin (k0_t2_loop i).trips) : BitVec 32 :=
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let c1_i32_344 : BitVec 32 := 1#32
  let v668 : BitVec 32 := Scalar.addi v667 c1_i32_344
  let c512_i32_390 : BitVec 32 := 512#32
  let v723 : BitVec 32 := Scalar.muli v668 c512_i32_390
  v723
def k0_off18 (i : grid0.Coords) (k0_t2 : Fin (k0_t2_loop i).trips) (c1_i32_344 : BitVec 32) : Fin 3 → Nat :=
  let c0_391 : Index := 0#32
  let c2_i32_343 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v667 : BitVec 32 := Scalar.muli c2_i32_343 arg14
  let v668 : BitVec 32 := Scalar.addi v667 c1_i32_344
  let c512_i32_390 : BitVec 32 := 512#32
  let v723 : BitVec 32 := Scalar.muli v668 c512_i32_390
  let v724 : BitVec 32 := v723
  let v725 : Index := Scalar.indexCast v724
  let c384_392 : Index := 384#32
  ![0, v725.toNat, 384]
def k0_mult25 (i : grid0.Coords) (k0_t2 : Fin (k0_t2_loop i).trips) : BitVec 32 :=
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_430 : BitVec 32 := 512#32
  let v770 : BitVec 32 := Scalar.muli v741 c512_i32_430
  v770
def k0_off19 (i : grid0.Coords) (k0_t2 : Fin (k0_t2_loop i).trips) : Fin 3 → Nat :=
  let c0_431 : Index := 0#32
  let c0_432 : Index := 0#32
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_430 : BitVec 32 := 512#32
  let v770 : BitVec 32 := Scalar.muli v741 c512_i32_430
  let v771 : BitVec 32 := v770
  let v772 : Index := Scalar.indexCast v771
  ![0, 0, v772.toNat]
def k0_mult26 (i : grid0.Coords) (k0_t2 : Fin (k0_t2_loop i).trips) : BitVec 32 :=
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_461 : BitVec 32 := 512#32
  let v809 : BitVec 32 := Scalar.muli v741 c512_i32_461
  v809
def k0_off20 (i : grid0.Coords) (k0_t2 : Fin (k0_t2_loop i).trips) : Fin 3 → Nat :=
  let c0_462 : Index := 0#32
  let c128_463 : Index := 128#32
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_461 : BitVec 32 := 512#32
  let v809 : BitVec 32 := Scalar.muli v741 c512_i32_461
  let v810 : BitVec 32 := v809
  let v811 : Index := Scalar.indexCast v810
  ![0, 128, v811.toNat]
def k0_mult27 (i : grid0.Coords) (k0_t2 : Fin (k0_t2_loop i).trips) : BitVec 32 :=
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_492 : BitVec 32 := 512#32
  let v848 : BitVec 32 := Scalar.muli v741 c512_i32_492
  v848
def k0_off21 (i : grid0.Coords) (k0_t2 : Fin (k0_t2_loop i).trips) : Fin 3 → Nat :=
  let c0_493 : Index := 0#32
  let c256_494 : Index := 256#32
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_492 : BitVec 32 := 512#32
  let v848 : BitVec 32 := Scalar.muli v741 c512_i32_492
  let v849 : BitVec 32 := v848
  let v850 : Index := Scalar.indexCast v849
  ![0, 256, v850.toNat]
def k0_mult28 (i : grid0.Coords) (k0_t2 : Fin (k0_t2_loop i).trips) : BitVec 32 :=
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_523 : BitVec 32 := 512#32
  let v887 : BitVec 32 := Scalar.muli v741 c512_i32_523
  v887
def k0_off22 (i : grid0.Coords) (k0_t2 : Fin (k0_t2_loop i).trips) : Fin 3 → Nat :=
  let c0_524 : Index := 0#32
  let c384_525 : Index := 384#32
  let c2_i32_405 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v741 : BitVec 32 := Scalar.muli c2_i32_405 arg14
  let c512_i32_523 : BitVec 32 := 512#32
  let v887 : BitVec 32 := Scalar.muli v741 c512_i32_523
  let v888 : BitVec 32 := v887
  let v889 : Index := Scalar.indexCast v888
  ![0, 384, v889.toNat]
def k0_mult29 (i : grid0.Coords) (k0_t2 : Fin (k0_t2_loop i).trips) : BitVec 32 :=
  let c2_i32_530 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v898 : BitVec 32 := Scalar.muli c2_i32_530 arg14
  let c2_i32_531 : BitVec 32 := 2#32
  let v899 : BitVec 32 := Scalar.addi v898 c2_i32_531
  let c512_i32_532 : BitVec 32 := 512#32
  let v900 : BitVec 32 := Scalar.muli v899 c512_i32_532
  v900
def k0_mult30 (i : grid0.Coords) (k0_t2 : Fin (k0_t2_loop i).trips) : BitVec 32 :=
  let c2_i32_530 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v898 : BitVec 32 := Scalar.muli c2_i32_530 arg14
  let c2_i32_531 : BitVec 32 := 2#32
  let v899 : BitVec 32 := Scalar.addi v898 c2_i32_531
  let c512_i32_547 : BitVec 32 := 512#32
  let v918 : BitVec 32 := Scalar.muli v899 c512_i32_547
  v918
def k0_mult31 (i : grid0.Coords) (k0_t2 : Fin (k0_t2_loop i).trips) : BitVec 32 :=
  let c2_i32_530 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v898 : BitVec 32 := Scalar.muli c2_i32_530 arg14
  let c2_i32_531 : BitVec 32 := 2#32
  let v899 : BitVec 32 := Scalar.addi v898 c2_i32_531
  let c512_i32_562 : BitVec 32 := 512#32
  let v936 : BitVec 32 := Scalar.muli v899 c512_i32_562
  v936
def k0_mult32 (i : grid0.Coords) (k0_t2 : Fin (k0_t2_loop i).trips) : BitVec 32 :=
  let c2_i32_530 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v898 : BitVec 32 := Scalar.muli c2_i32_530 arg14
  let c2_i32_531 : BitVec 32 := 2#32
  let v899 : BitVec 32 := Scalar.addi v898 c2_i32_531
  let c512_i32_577 : BitVec 32 := 512#32
  let v954 : BitVec 32 := Scalar.muli v899 c512_i32_577
  v954
def k0_mult33 (i : grid0.Coords) (k0_t2 : Fin (k0_t2_loop i).trips) : BitVec 32 :=
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_618 : BitVec 32 := 512#32
  let v1002 : BitVec 32 := Scalar.muli v973 c512_i32_618
  v1002
def k0_off23 (i : grid0.Coords) (k0_t2 : Fin (k0_t2_loop i).trips) : Fin 3 → Nat :=
  let c0_619 : Index := 0#32
  let c0_620 : Index := 0#32
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_618 : BitVec 32 := 512#32
  let v1002 : BitVec 32 := Scalar.muli v973 c512_i32_618
  let v1003 : BitVec 32 := v1002
  let v1004 : Index := Scalar.indexCast v1003
  ![0, 0, v1004.toNat]
def k0_mult34 (i : grid0.Coords) (k0_t2 : Fin (k0_t2_loop i).trips) : BitVec 32 :=
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_649 : BitVec 32 := 512#32
  let v1041 : BitVec 32 := Scalar.muli v973 c512_i32_649
  v1041
def k0_off24 (i : grid0.Coords) (k0_t2 : Fin (k0_t2_loop i).trips) : Fin 3 → Nat :=
  let c0_650 : Index := 0#32
  let c128_651 : Index := 128#32
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_649 : BitVec 32 := 512#32
  let v1041 : BitVec 32 := Scalar.muli v973 c512_i32_649
  let v1042 : BitVec 32 := v1041
  let v1043 : Index := Scalar.indexCast v1042
  ![0, 128, v1043.toNat]
def k0_mult35 (i : grid0.Coords) (k0_t2 : Fin (k0_t2_loop i).trips) : BitVec 32 :=
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_680 : BitVec 32 := 512#32
  let v1080 : BitVec 32 := Scalar.muli v973 c512_i32_680
  v1080
def k0_off25 (i : grid0.Coords) (k0_t2 : Fin (k0_t2_loop i).trips) : Fin 3 → Nat :=
  let c0_681 : Index := 0#32
  let c256_682 : Index := 256#32
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_680 : BitVec 32 := 512#32
  let v1080 : BitVec 32 := Scalar.muli v973 c512_i32_680
  let v1081 : BitVec 32 := v1080
  let v1082 : Index := Scalar.indexCast v1081
  ![0, 256, v1082.toNat]
def k0_mult36 (i : grid0.Coords) (k0_t2 : Fin (k0_t2_loop i).trips) : BitVec 32 :=
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_711 : BitVec 32 := 512#32
  let v1119 : BitVec 32 := Scalar.muli v973 c512_i32_711
  v1119
def k0_off26 (i : grid0.Coords) (k0_t2 : Fin (k0_t2_loop i).trips) : Fin 3 → Nat :=
  let c0_712 : Index := 0#32
  let c384_713 : Index := 384#32
  let c2_i32_592 : BitVec 32 := 2#32
  let c0_i32_129 : BitVec 32 := 0#32
  let arg2 : BitVec 32 := BitVec.ofNat 32 (i 2).val
  let c1_i32_52 : BitVec 32 := 1#32
  let v146 : BitVec 32 := Scalar.addi arg2 c1_i32_52
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v245 : BitVec 32 := Scalar.subi v244 c0_i32_129
  let c1_i32_131 : BitVec 32 := 1#32
  let v247 : BitVec 32 := Scalar.divsi v245 c1_i32_131
  let v248 : BitVec 32 := Scalar.muli v247 c1_i32_131
  let v249 : BitVec 32 := Scalar.addi c0_i32_129 v248
  let c1_i32_133 : BitVec 32 := 1#32
  let arg14 : BitVec 32 := Scf.iv v249 c1_i32_133 k0_t2
  let v972 : BitVec 32 := Scalar.muli c2_i32_592 arg14
  let c1_i32_593 : BitVec 32 := 1#32
  let v973 : BitVec 32 := Scalar.addi v972 c1_i32_593
  let c512_i32_711 : BitVec 32 := 512#32
  let v1119 : BitVec 32 := Scalar.muli v973 c512_i32_711
  let v1120 : BitVec 32 := v1119
  let v1121 : Index := Scalar.indexCast v1120
  ![0, 384, v1121.toNat]
def k0_cond1 (i : grid0.Coords) : BitVec 1 :=
  let arg2 : BitVec 32 := BitVec.ofNat 32 (i 2).val
  let c1_i32_52 : BitVec 32 := 1#32
  let v146 : BitVec 32 := Scalar.addi arg2 c1_i32_52
  let c2_i32_134 : BitVec 32 := 2#32
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v252 : BitVec 32 := Scalar.muli c2_i32_134 v244
  let v253 : BitVec 32 := Scalar.subi v146 v252
  let c2_i32_135 : BitVec 32 := 2#32
  let v254 : BitVec 1 := Scalar.cmpi .eq v253 c2_i32_135
  let v255 : BitVec 32 := Scalar.extui v254
  let c0_i32_136 : BitVec 32 := 0#32
  let v256 : BitVec 1 := Scalar.cmpi .ne v255 c0_i32_136
  v256

def k0_mult37 (i : grid0.Coords) : BitVec 32 :=
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_344 : BitVec 32 := 512#32
  let v668 : BitVec 32 := Scalar.muli v667 c512_i32_344
  v668
def k0_off27 (i : grid0.Coords) : Fin 3 → Nat :=
  let c0_345 : Index := 0#32
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_344 : BitVec 32 := 512#32
  let v668 : BitVec 32 := Scalar.muli v667 c512_i32_344
  let v669 : BitVec 32 := v668
  let v670 : Index := Scalar.indexCast v669
  let c0_346 : Index := 0#32
  ![0, v670.toNat, 0]
def k0_off28 (i : grid0.Coords) : Fin 3 → Nat :=
  let c0_347 : Index := 0#32
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_344 : BitVec 32 := 512#32
  let v668 : BitVec 32 := Scalar.muli v667 c512_i32_344
  let v669 : BitVec 32 := v668
  let v673 : Index := Scalar.indexCast v669
  let c0_348 : Index := 0#32
  ![0, v673.toNat, 0]
def k0_mult38 (i : grid0.Coords) : BitVec 32 :=
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_359 : BitVec 32 := 512#32
  let v686 : BitVec 32 := Scalar.muli v667 c512_i32_359
  v686
def k0_off29 (i : grid0.Coords) : Fin 3 → Nat :=
  let c0_360 : Index := 0#32
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_359 : BitVec 32 := 512#32
  let v686 : BitVec 32 := Scalar.muli v667 c512_i32_359
  let v687 : BitVec 32 := v686
  let v688 : Index := Scalar.indexCast v687
  let c128_361 : Index := 128#32
  ![0, v688.toNat, 128]
def k0_mult39 (i : grid0.Coords) : BitVec 32 :=
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_374 : BitVec 32 := 512#32
  let v704 : BitVec 32 := Scalar.muli v667 c512_i32_374
  v704
def k0_off30 (i : grid0.Coords) : Fin 3 → Nat :=
  let c0_375 : Index := 0#32
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_374 : BitVec 32 := 512#32
  let v704 : BitVec 32 := Scalar.muli v667 c512_i32_374
  let v705 : BitVec 32 := v704
  let v706 : Index := Scalar.indexCast v705
  let c256_376 : Index := 256#32
  ![0, v706.toNat, 256]
def k0_mult40 (i : grid0.Coords) : BitVec 32 :=
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_389 : BitVec 32 := 512#32
  let v722 : BitVec 32 := Scalar.muli v667 c512_i32_389
  v722
def k0_off31 (i : grid0.Coords) : Fin 3 → Nat :=
  let c0_390 : Index := 0#32
  let arg2 : BitVec 32 := BitVec.ofNat 32 (i 2).val
  let c1_i32_52 : BitVec 32 := 1#32
  let v146 : BitVec 32 := Scalar.addi arg2 c1_i32_52
  let c1_i32_343 : BitVec 32 := 1#32
  let v667 : BitVec 32 := Scalar.subi v146 c1_i32_343
  let c512_i32_389 : BitVec 32 := 512#32
  let v722 : BitVec 32 := Scalar.muli v667 c512_i32_389
  let v723 : BitVec 32 := v722
  let v724 : Index := Scalar.indexCast v723
  let c384_391 : Index := 384#32
  ![0, v724.toNat, 384]
def k0_mult41 (i : grid0.Coords) : BitVec 32 :=
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_429 : BitVec 32 := 512#32
  let v769 : BitVec 32 := Scalar.muli v740 c512_i32_429
  v769
def k0_off32 (i : grid0.Coords) : Fin 3 → Nat :=
  let c0_430 : Index := 0#32
  let c0_431 : Index := 0#32
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_429 : BitVec 32 := 512#32
  let v769 : BitVec 32 := Scalar.muli v740 c512_i32_429
  let v770 : BitVec 32 := v769
  let v771 : Index := Scalar.indexCast v770
  ![0, 0, v771.toNat]
def k0_mult42 (i : grid0.Coords) : BitVec 32 :=
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_460 : BitVec 32 := 512#32
  let v808 : BitVec 32 := Scalar.muli v740 c512_i32_460
  v808
def k0_off33 (i : grid0.Coords) : Fin 3 → Nat :=
  let c0_461 : Index := 0#32
  let c128_462 : Index := 128#32
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_460 : BitVec 32 := 512#32
  let v808 : BitVec 32 := Scalar.muli v740 c512_i32_460
  let v809 : BitVec 32 := v808
  let v810 : Index := Scalar.indexCast v809
  ![0, 128, v810.toNat]
def k0_mult43 (i : grid0.Coords) : BitVec 32 :=
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_491 : BitVec 32 := 512#32
  let v847 : BitVec 32 := Scalar.muli v740 c512_i32_491
  v847
def k0_off34 (i : grid0.Coords) : Fin 3 → Nat :=
  let c0_492 : Index := 0#32
  let c256_493 : Index := 256#32
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_491 : BitVec 32 := 512#32
  let v847 : BitVec 32 := Scalar.muli v740 c512_i32_491
  let v848 : BitVec 32 := v847
  let v849 : Index := Scalar.indexCast v848
  ![0, 256, v849.toNat]
def k0_mult44 (i : grid0.Coords) : BitVec 32 :=
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_522 : BitVec 32 := 512#32
  let v886 : BitVec 32 := Scalar.muli v740 c512_i32_522
  v886
def k0_off35 (i : grid0.Coords) : Fin 3 → Nat :=
  let c0_523 : Index := 0#32
  let c384_524 : Index := 384#32
  let arg2 : BitVec 32 := BitVec.ofNat 32 (i 2).val
  let c1_i32_52 : BitVec 32 := 1#32
  let v146 : BitVec 32 := Scalar.addi arg2 c1_i32_52
  let c2_i32_404 : BitVec 32 := 2#32
  let v740 : BitVec 32 := Scalar.subi v146 c2_i32_404
  let c512_i32_522 : BitVec 32 := 512#32
  let v886 : BitVec 32 := Scalar.muli v740 c512_i32_522
  let v887 : BitVec 32 := v886
  let v888 : Index := Scalar.indexCast v887
  ![0, 384, v888.toNat]
def k0_off36 (i : grid0.Coords) : Fin 4 → Nat :=
  let arg2 : BitVec 32 := BitVec.ofNat 32 (i 2).val
  let c1_i32_52 : BitVec 32 := 1#32
  let v146 : BitVec 32 := Scalar.addi arg2 c1_i32_52
  let c2_i32_134 : BitVec 32 := 2#32
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v252 : BitVec 32 := Scalar.muli c2_i32_134 v244
  let v253 : BitVec 32 := Scalar.subi v146 v252
  let c2_i32_135 : BitVec 32 := 2#32
  let v254 : BitVec 1 := Scalar.cmpi .eq v253 c2_i32_135
  let c1_i32_137 : BitVec 32 := 1#32
  let c0_i32_138 : BitVec 32 := 0#32
  let v257 : BitVec 32 := Scalar.select v254 c1_i32_137 c0_i32_138
  let v259 : Index := Scalar.indexCast v257
  let c0_140 : Index := 0#32
  let c0_141 : Index := 0#32
  let c0_142 : Index := 0#32
  ![v259.toNat, 0, 0, 0]
def k0_mult45 (i : grid0.Coords) : BitVec 32 :=
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32 : BitVec 32 := 512#32
  let v339 : BitVec 32 := Scalar.muli v258 c512_i32
  v339
def k0_off37 (i : grid0.Coords) : Fin 3 → Nat :=
  let c0_175 : Index := 0#32
  let c0_176 : Index := 0#32
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32 : BitVec 32 := 512#32
  let v339 : BitVec 32 := Scalar.muli v258 c512_i32
  let v340 : BitVec 32 := v339
  let v341 : Index := Scalar.indexCast v340
  ![0, 0, v341.toNat]
def k0_off38 (i : grid0.Coords) : Fin 4 → Nat :=
  let arg2 : BitVec 32 := BitVec.ofNat 32 (i 2).val
  let c1_i32_52 : BitVec 32 := 1#32
  let v146 : BitVec 32 := Scalar.addi arg2 c1_i32_52
  let c2_i32_134 : BitVec 32 := 2#32
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v252 : BitVec 32 := Scalar.muli c2_i32_134 v244
  let v253 : BitVec 32 := Scalar.subi v146 v252
  let c2_i32_135 : BitVec 32 := 2#32
  let v254 : BitVec 1 := Scalar.cmpi .eq v253 c2_i32_135
  let c1_i32_137 : BitVec 32 := 1#32
  let c0_i32_138 : BitVec 32 := 0#32
  let v257 : BitVec 32 := Scalar.select v254 c1_i32_137 c0_i32_138
  let v350 : Index := Scalar.indexCast v257
  let c1_181 : Index := 1#32
  let c0_182 : Index := 0#32
  let c0_183 : Index := 0#32
  ![v350.toNat, 1, 0, 0]
def k0_mult46 (i : grid0.Coords) : BitVec 32 :=
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_216 : BitVec 32 := 512#32
  let v430 : BitVec 32 := Scalar.muli v258 c512_i32_216
  v430
def k0_off39 (i : grid0.Coords) : Fin 3 → Nat :=
  let c0_217 : Index := 0#32
  let c128_218 : Index := 128#32
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_216 : BitVec 32 := 512#32
  let v430 : BitVec 32 := Scalar.muli v258 c512_i32_216
  let v431 : BitVec 32 := v430
  let v432 : Index := Scalar.indexCast v431
  ![0, 128, v432.toNat]
def k0_off40 (i : grid0.Coords) : Fin 4 → Nat :=
  let arg2 : BitVec 32 := BitVec.ofNat 32 (i 2).val
  let c1_i32_52 : BitVec 32 := 1#32
  let v146 : BitVec 32 := Scalar.addi arg2 c1_i32_52
  let c2_i32_134 : BitVec 32 := 2#32
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v252 : BitVec 32 := Scalar.muli c2_i32_134 v244
  let v253 : BitVec 32 := Scalar.subi v146 v252
  let c2_i32_135 : BitVec 32 := 2#32
  let v254 : BitVec 1 := Scalar.cmpi .eq v253 c2_i32_135
  let c1_i32_137 : BitVec 32 := 1#32
  let c0_i32_138 : BitVec 32 := 0#32
  let v257 : BitVec 32 := Scalar.select v254 c1_i32_137 c0_i32_138
  let v441 : Index := Scalar.indexCast v257
  let c2_223 : Index := 2#32
  let c0_224 : Index := 0#32
  let c0_225 : Index := 0#32
  ![v441.toNat, 2, 0, 0]
def k0_mult47 (i : grid0.Coords) : BitVec 32 :=
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_258 : BitVec 32 := 512#32
  let v521 : BitVec 32 := Scalar.muli v258 c512_i32_258
  v521
def k0_off41 (i : grid0.Coords) : Fin 3 → Nat :=
  let c0_259 : Index := 0#32
  let c256_260 : Index := 256#32
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_258 : BitVec 32 := 512#32
  let v521 : BitVec 32 := Scalar.muli v258 c512_i32_258
  let v522 : BitVec 32 := v521
  let v523 : Index := Scalar.indexCast v522
  ![0, 256, v523.toNat]
def k0_off42 (i : grid0.Coords) : Fin 4 → Nat :=
  let arg2 : BitVec 32 := BitVec.ofNat 32 (i 2).val
  let c1_i32_52 : BitVec 32 := 1#32
  let v146 : BitVec 32 := Scalar.addi arg2 c1_i32_52
  let c2_i32_134 : BitVec 32 := 2#32
  let c1_i32_122 : BitVec 32 := 1#32
  let v227 : BitVec 32 := Scalar.subi v146 c1_i32_122
  let c0_i32_123 : BitVec 32 := 0#32
  let v229 : BitVec 1 := Scalar.cmpi .sgt v227 c0_i32_123
  let v230 : BitVec 32 := Scalar.extui v229
  let c0_i32_124 : BitVec 32 := 0#32
  let v231 : BitVec 1 := Scalar.cmpi .slt v227 c0_i32_124
  let v232 : BitVec 32 := Scalar.extui v231
  let v233 : BitVec 32 := Scalar.subi v230 v232
  let c2_i32 : BitVec 32 := 2#32
  let c0_i32_125 : BitVec 32 := 0#32
  let v234 : BitVec 1 := Scalar.cmpi .sgt c2_i32 c0_i32_125
  let v235 : BitVec 32 := Scalar.extui v234
  let c0_i32_126 : BitVec 32 := 0#32
  let v236 : BitVec 1 := Scalar.cmpi .slt c2_i32 c0_i32_126
  let v237 : BitVec 32 := Scalar.extui v236
  let v238 : BitVec 32 := Scalar.subi v235 v237
  let v239 : BitVec 1 := Scalar.cmpi .ne v233 v238
  let v240 : BitVec 32 := Scalar.remsi v227 c2_i32
  let c0_i32_127 : BitVec 32 := 0#32
  let v241 : BitVec 1 := Scalar.cmpi .ne v240 c0_i32_127
  let v242 : BitVec 1 := Scalar.andi v239 v241
  let v228 : BitVec 32 := Scalar.divsi v227 c2_i32
  let c1_i32_128 : BitVec 32 := 1#32
  let v243 : BitVec 32 := Scalar.subi v228 c1_i32_128
  let v244 : BitVec 32 := Scalar.select v242 v243 v228
  let v252 : BitVec 32 := Scalar.muli c2_i32_134 v244
  let v253 : BitVec 32 := Scalar.subi v146 v252
  let c2_i32_135 : BitVec 32 := 2#32
  let v254 : BitVec 1 := Scalar.cmpi .eq v253 c2_i32_135
  let c1_i32_137 : BitVec 32 := 1#32
  let c0_i32_138 : BitVec 32 := 0#32
  let v257 : BitVec 32 := Scalar.select v254 c1_i32_137 c0_i32_138
  let v532 : Index := Scalar.indexCast v257
  let c3_265 : Index := 3#32
  let c0_266 : Index := 0#32
  let c0_267 : Index := 0#32
  ![v532.toNat, 3, 0, 0]
def k0_mult48 (i : grid0.Coords) : BitVec 32 :=
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_300 : BitVec 32 := 512#32
  let v612 : BitVec 32 := Scalar.muli v258 c512_i32_300
  v612
def k0_off43 (i : grid0.Coords) : Fin 3 → Nat :=
  let c0_301 : Index := 0#32
  let c384_302 : Index := 384#32
  let arg2 : BitVec 32 := BitVec.ofNat 32 (i 2).val
  let c1_i32_52 : BitVec 32 := 1#32
  let v146 : BitVec 32 := Scalar.addi arg2 c1_i32_52
  let c1_i32_139 : BitVec 32 := 1#32
  let v258 : BitVec 32 := Scalar.subi v146 c1_i32_139
  let c512_i32_300 : BitVec 32 := 512#32
  let v612 : BitVec 32 := Scalar.muli v258 c512_i32_300
  let v613 : BitVec 32 := v612
  let v614 : Index := Scalar.indexCast v613
  ![0, 384, v614.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x8x128 : Shape := ⟨4, ![16, 4096, 8, 128]⟩
abbrev S16x4096x8x64 : Shape := ⟨4, ![16, 4096, 8, 64]⟩
abbrev S16x4096x64 : Shape := ⟨3, ![16, 4096, 64]⟩
abbrev S4096 : Shape := ⟨1, ![4096]⟩
abbrev S_ : Shape := ⟨0, ![]⟩
abbrev S16x8x4096x4096 : Shape := ⟨4, ![16, 8, 4096, 4096]⟩
abbrev S16x4096x4096x8 : Shape := ⟨4, ![16, 4096, 4096, 8]⟩
abbrev S1x4096 : Shape := ⟨2, ![1, 4096]⟩
abbrev S4096x1 : Shape := ⟨2, ![4096, 1]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x128x4096 : Shape := ⟨4, ![16, 8, 128, 4096]⟩
abbrev S16x4096x1024 : Shape := ⟨3, ![16, 4096, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x8x64, .f32⟩
  | .hbm, ⟨2, _⟩ => ⟨S16x4096x8x128, .f32⟩
  | .hbm, ⟨3, _⟩ => ⟨S16x4096x64, .f32⟩
  | .hbm, ⟨4, _⟩ => ⟨S16x4096x8x128, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x8x4096x4096, .f32⟩
  | .hbm, ⟨29, _⟩ => ⟨S16x4096x4096x8, .f32⟩
  | .hbm, ⟨30, _⟩ => ⟨S16x8x4096x4096, .f32⟩
  | .hbm, ⟨31, _⟩ => ⟨S16x8x4096x4096, .f32⟩
  | .hbm, ⟨32, _⟩ => ⟨S16x8x4096x4096, .f32⟩
  | .hbm, ⟨33, _⟩ => ⟨S16x8x4096x4096, .f32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S16x8x4096x4096, .i1⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S_, .f32⟩
  | .hbm, ⟨47, _⟩ => ⟨S16x8x4096, .f32⟩
  | .hbm, ⟨48, _⟩ => ⟨S16x8x4096, .f32⟩
  | .hbm, ⟨49, _⟩ => ⟨S16x8x4096x1, .f32⟩
  | .hbm, ⟨50, _⟩ => ⟨S16x8x4096x4096, .f32⟩
  | .hbm, ⟨51, _⟩ => ⟨S16x8x4096x4096, .f32⟩
  | .hbm, ⟨52, _⟩ => ⟨S16x8x4096x4096, .f32⟩
  | .hbm, ⟨53, _⟩ => ⟨S_, .f32⟩
  | .hbm, ⟨54, _⟩ => ⟨S16x8x4096, .f32⟩
  | .hbm, ⟨55, _⟩ => ⟨S16x8x4096x1, .f32⟩
  | .hbm, ⟨56, _⟩ => ⟨S16x8x4096x4096, .f32⟩
  | .hbm, ⟨57, _⟩ => ⟨S16x8x4096x4096, .f32⟩
  | .hbm, ⟨58, _⟩ => ⟨S16x8x128x4096, .f32⟩
  | .hbm, ⟨59, _⟩ => ⟨S16x4096x8x128, .f32⟩
  | .hbm, ⟨60, _⟩ => ⟨S16x4096x1024, .f32⟩
  | .hbm, ⟨61, _⟩ => ⟨S16x4096x1024, .bf16⟩
  | _, _ => ⟨S16x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024x1024 : Shape := ⟨2, ![1024, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 22
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S65536x1024, .f32⟩
  | .hbm, ⟨13, _⟩ => ⟨S65536x1024, .bf16⟩
  | .hbm, ⟨14, _⟩ => ⟨S1024x1024, .bf16⟩
  | .hbm, ⟨15, _⟩ => ⟨S65536x1024, .f32⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16x4096x1024 : Shape := ⟨3, ![16, 4096, 1024]⟩
abbrev S1024x1024 : Shape := ⟨2, ![1024, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S_, .f32⟩
  | .hbm, ⟨46, _⟩ => ⟨S16x4096x2816, .f32⟩
  | .hbm, ⟨47, _⟩ => ⟨S16x4096x2816, .f32⟩
  | .hbm, ⟨48, _⟩ => ⟨S_, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S16x4096x2816, .f32⟩
  | .hbm, ⟨53, _⟩ => ⟨S16x4096x2816, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S_, .f32⟩
  | .hbm, ⟨60, _⟩ => ⟨S16x4096, .f32⟩
  | .hbm, ⟨61, _⟩ => ⟨S16x4096x1, .f32⟩
  | .hbm, ⟨62, _⟩ => ⟨S_, .f32⟩
  | .hbm, ⟨63, _⟩ => ⟨S16x4096x1, .f32⟩
  | .hbm, ⟨64, _⟩ => ⟨S16x4096x1, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S1x1x1024, .f32⟩
  | .hbm, ⟨72, _⟩ => ⟨S16x4096x1024, .f32⟩
  | .hbm, ⟨73, _⟩ => ⟨S16x4096x1024, .f32⟩
  | .hbm, ⟨74, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S65536x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x4096x1024 : Shape := ⟨3, ![16, 4096, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S16x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x4096x2816, .f32⟩
  | .hbm, ⟨35, _⟩ => ⟨S16x4096x2816, .f32⟩
  | .hbm, ⟨36, _⟩ => ⟨S16x4096x2816, .f32⟩
  | .hbm, ⟨37, _⟩ => ⟨S_, .f32⟩
  | .hbm, ⟨38, _⟩ => ⟨S16x4096x2816, .f32⟩
  | .hbm, ⟨39, _⟩ => ⟨S16x4096x2816, .f32⟩
  | .hbm, ⟨40, _⟩ => ⟨S_, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S16x4096x2816, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024x1024 : Shape := ⟨2, ![1024, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S65536x1024, .f32⟩
  | .hbm, ⟨12, _⟩ => ⟨S65536x1024, .bf16⟩
  | .hbm, ⟨13, _⟩ => ⟨S1024x1024, .bf16⟩
  | .hbm, ⟨14, _⟩ => ⟨S65536x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x4096x1024 : Shape := ⟨3, ![16, 4096, 1024]⟩
abbrev S1024x1024 : Shape := ⟨2, ![1024, 1024]⟩
abbrev S16x1x1024 : Shape := ⟨3, ![16, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S1024x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S1x1x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x1x1024, .f32⟩
  | .hbm, ⟨40, _⟩ => ⟨S16x1x1024, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S_, .f32⟩
  | .hbm, ⟨45, _⟩ => ⟨S16x4096x2816, .f32⟩
  | .hbm, ⟨46, _⟩ => ⟨S16x4096x2816, .f32⟩
  | .hbm, ⟨47, _⟩ => ⟨S_, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S16x4096x2816, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Offs.lean ====
module

public import proofs.«01_k».proof.Proof.Gen.KernelIdeal.Frame

@[expose] public section

set_option maxRecDepth 16384

namespace Cert.KernelIdeal.Body

open Cert.KernelIdeal Cert.KernelIdeal.Gen
open Idealize.ShloMosaic Idealize.ShloMosaic.TcCoe

/-- The query tile of a grid point is one of eight. -/
theorem qt_lt (i : grid0.Coords) : (i 2).val < 8 := (i 2).isLt

/-- The pairs of tiles before the last: half the query tile's number. -/
theorem trips1 (i : grid0.Coords) : (k0_t1_loop i).trips = (i 2).val / 2 := by
  have hq := qt_lt i
  unfold k0_t1_loop
  generalize (i 2).val = q at hq ⊢
  interval_cases q <;> decide +kernel

/-- No pair is left over for the second loop. -/
theorem trips2 (i : grid0.Coords) : (k0_t2_loop i).trips = 0 := by
  have hq := qt_lt i
  unfold k0_t2_loop
  generalize (i 2).val = q at hq ⊢
  interval_cases q <;> decide +kernel

/-- The odd tail is there when the query tile's number is odd. -/
theorem cond1_iff (i : grid0.Coords) : k0_cond1 i = 1#1 ↔ (i 2).val % 2 = 1 := by
  have hq := qt_lt i
  unfold k0_cond1
  generalize (i 2).val = q at hq ⊢
  interval_cases q <;> decide +kernel

theorem trip_lt (i : grid0.Coords) (k : Fin (k0_t1_loop i).trips) : k.val < 4 := by
  have h := lt_of_lt_of_eq k.isLt (trips1 i); have hq := qt_lt i; omega

/-- Where a trip stages its tile's keys from. -/
theorem off1_1 (i : grid0.Coords) (k : Fin (k0_t1_loop i).trips) : k0_off1 i k 1#32 = ![0, 512 * (2 * k.val + 1), 0] := by
  have hk := trip_lt i k
  unfold k0_off1
  generalize k.val = j at hk ⊢
  interval_cases j <;> decide +kernel

/-- Where a trip stages its tile's keys from. -/
theorem off1_2 (i : grid0.Coords) (k : Fin (k0_t1_loop i).trips) : k0_off1 i k 2#32 = ![0, 512 * (2 * k.val + 2), 0] := by
  have hk := trip_lt i k
  unfold k0_off1
  generalize k.val = j at hk ⊢
  interval_cases j <;> decide +kernel

/-- Where a trip stages its tile's keys from. -/
theorem off2_1 (i : grid0.Coords) (k : Fin (k0_t1_loop i).trips) : k0_off2 i k 1#32 = ![0, 512 * (2 * k.val + 1), 0] := by
  have hk := trip_lt i k
  unfold k0_off2
  generalize k.val = j at hk ⊢
  interval_cases j <;> decide +kernel

/-- Where a trip stages its tile's keys from. -/
theorem off2_2 (i : grid0.Coords) (k : Fin (k0_t1_loop i).trips) : k0_off2 i k 2#32 = ![0, 512 * (2 * k.val + 2), 0] := by
  have hk := trip_lt i k
  unfold k0_off2
  generalize k.val = j at hk ⊢
  interval_cases j <;> decide +kernel

/-- Where a trip stages its tile's keys from. -/
theorem off3_1 (i : grid0.Coords) (k : Fin (k0_t1_loop i).trips) : k0_off3 i k 1#32 = ![0, 512 * (2 * k.val + 1), 128] := by
  have hk := trip_lt i k
  unfold k0_off3
  generalize k.val = j at hk ⊢
  interval_cases j <;> decide +kernel

/-- Where a trip stages its tile's keys from. -/
theorem off3_2 (i : grid0.Coords) (k : Fin (k0_t1_loop i).trips) : k0_off3 i k 2#32 = ![0, 512 * (2 * k.val + 2), 128] := by
  have hk := trip_lt i k
  unfold k0_off3
  generalize k.val = j at hk ⊢
  interval_cases j <;> decide +kernel

/-- Where a trip stages its tile's keys from. -/
theorem off4_1 (i : grid0.Coords) (k : Fin (k0_t1_loop i).trips) : k0_off4 i k 1#32 = ![0, 512 * (2 * k.val + 1), 256] := by
  have hk := trip_lt i k
  unfold k0_off4
  generalize k.val = j at hk ⊢
  interval_cases j <;> decide +kernel

/-- Where a trip stages its tile's keys from. -/
theorem off4_2 (i : grid0.Coords) (k : Fin (k0_t1_loop i).trips) : k0_off4 i k 2#32 = ![0, 512 * (2 * k.val + 2), 256] := by
  have hk := trip_lt i k
  unfold k0_off4
  generalize k.val = j at hk ⊢
  interval_cases j <;> decide +kernel

/-- Where a trip stages its tile's keys from. -/
theorem off5_1 (i : grid0.Coords) (k : Fin (k0_t1_loop i).trips) : k0_off5 i k 1#32 = ![0, 512 * (2 * k.val + 1), 384] := by
  have hk := trip_lt i k
  unfold k0_off5
  generalize k.val = j at hk ⊢
  interval_cases j <;> decide +kernel

/-- Where a trip stages its tile's keys from. -/
theorem off5_2 (i : grid0.Coords) (k : Fin (k0_t1_loop i).trips) : k0_off5 i k 2#32 = ![0, 512 * (2 * k.val + 2), 384] := by
  have hk := trip_lt i k
  unfold k0_off5
  generalize k.val = j at hk ⊢
  interval_cases j <;> decide +kernel

/-- Where a trip reads its tile's values. -/
theorem off6 (i : grid0.Coords) (k : Fin (k0_t1_loop i).trips) : k0_off6 i k = ![0, 0, 512 * (2 * k.val)] := by
  have hk := trip_lt i k
  unfold k0_off6
  generalize k.val = j at hk ⊢
  interval_cases j <;> decide +kernel

/-- Where a trip reads its tile's values. -/
theorem off7 (i : grid0.Coords) (k : Fin (k0_t1_loop i).trips) : k0_off7 i k = ![0, 128, 512 * (2 * k.val)] := by
  have hk := trip_lt i k
  unfold k0_off7
  generalize k.val = j at hk ⊢
  interval_cases j <;> decide +kernel

/-- Where a trip reads its tile's values. -/
theorem off8 (i : grid0.Coords) (k : Fin (k0_t1_loop i).trips) : k0_off8 i k = ![0, 256, 512 * (2 * k.val)] := by
  have hk := trip_lt i k
  unfold k0_off8
  generalize k.val = j at hk ⊢
  interval_cases j <;> decide +kernel

/-- Where a trip reads its tile's values. -/
theorem off9 (i : grid0.Coords) (k : Fin (k0_t1_loop i).trips) : k0_off9 i k = ![0, 384, 512 * (2 * k.val)] := by
  have hk := trip_lt i k
  unfold k0_off9
  generalize k.val = j at hk ⊢
  interval_cases j <;> decide +kernel

/-- Where a trip reads its tile's values. -/
theorem off10 (i : grid0.Coords) (k : Fin (k0_t1_loop i).trips) : k0_off10 i k = ![0, 0, 512 * (2 * k.val + 1)] := by
  have hk := trip_lt i k
  unfold k0_off10
  generalize k.val = j at hk ⊢
  interval_cases j <;> decide +kernel

/-- Where a trip reads its tile's values. -/
theorem off11 (i : grid0.Coords) (k : Fin (k0_t1_loop i).trips) : k0_off11 i k = ![0, 128, 512 * (2 * k.val + 1)] := by
  have hk := trip_lt i k
  unfold k0_off11
  generalize k.val = j at hk ⊢
  interval_cases j <;> decide +kernel

/-- Where a trip reads its tile's values. -/
theorem off12 (i : grid0.Coords) (k : Fin (k0_t1_loop i).trips) : k0_off12 i k = ![0, 256, 512 * (2 * k.val + 1)] := by
  have hk := trip_lt i k
  unfold k0_off12
  generalize k.val = j at hk ⊢
  interval_cases j <;> decide +kernel

/-- Where a trip reads its tile's values. -/
theorem off13 (i : grid0.Coords) (k : Fin (k0_t1_loop i).trips) : k0_off13 i k = ![0, 384, 512 * (2 * k.val + 1)] := by
  have hk := trip_lt i k
  unfold k0_off13
  generalize k.val = j at hk ⊢
  interval_cases j <;> decide +kernel

/-- Where the odd tail stages its keys from. -/
theorem off27 (i : grid0.Coords) : k0_off27 i = ![0, 512 * (i 2).val, 0] := by
  have hq := qt_lt i
  unfold k0_off27
  generalize (i 2).val = q at hq ⊢
  interval_cases q <;> decide +kernel

/-- Where the odd tail stages its keys from. -/
theorem off28 (i : grid0.Coords) : k0_off28 i = ![0, 512 * (i 2).val, 0] := by
  have hq := qt_lt i
  unfold k0_off28
  generalize (i 2).val = q at hq ⊢
  interval_cases q <;> decide +kernel

/-- Where the odd tail stages its keys from. -/
theorem off29 (i : grid0.Coords) : k0_off29 i = ![0, 512 * (i 2).val, 128] := by
  have hq := qt_lt i
  unfold k0_off29
  generalize (i 2).val = q at hq ⊢
  interval_cases q <;> decide +kernel

/-- Where the odd tail stages its keys from. -/
theorem off30 (i : grid0.Coords) : k0_off30 i = ![0, 512 * (i 2).val, 256] := by
  have hq := qt_lt i
  unfold k0_off30
  generalize (i 2).val = q at hq ⊢
  interval_cases q <;> decide +kernel

/-- Where the odd tail stages its keys from. -/
theorem off31 (i : grid0.Coords) : k0_off31 i = ![0, 512 * (i 2).val, 384] := by
  have hq := qt_lt i
  unfold k0_off31
  generalize (i 2).val = q at hq ⊢
  interval_cases q <;> decide +kernel

/-- Where the odd tail reads its values. -/
theorem off32 (i : grid0.Coords) (h : (i 2).val % 2 = 1) : k0_off32 i = ![0, 0, 512 * ((i 2).val - 1)] := by
  have hq := qt_lt i
  unfold k0_off32
  generalize (i 2).val = q at hq h ⊢
  interval_cases q <;> first | (exact absurd h (by decide)) | decide +kernel

/-- Where the odd tail reads its values. -/
theorem off33 (i : grid0.Coords) (h : (i 2).val % 2 = 1) : k0_off33 i = ![0, 128, 512 * ((i 2).val - 1)] := by
  have hq := qt_lt i
  unfold k0_off33
  generalize (i 2).val = q at hq h ⊢
  interval_cases q <;> first | (exact absurd h (by decide)) | decide +kernel

/-- Where the odd tail reads its values. -/
theorem off34 (i : grid0.Coords) (h : (i 2).val % 2 = 1) : k0_off34 i = ![0, 256, 512 * ((i 2).val - 1)] := by
  have hq := qt_lt i
  unfold k0_off34
  generalize (i 2).val = q at hq h ⊢
  interval_cases q <;> first | (exact absurd h (by decide)) | decide +kernel

/-- Where the odd tail reads its values. -/
theorem off35 (i : grid0.Coords) (h : (i 2).val % 2 = 1) : k0_off35 i = ![0, 384, 512 * ((i 2).val - 1)] := by
  have hq := qt_lt i
  unfold k0_off35
  generalize (i 2).val = q at hq h ⊢
  interval_cases q <;> first | (exact absurd h (by decide)) | decide +kernel

/-- The slot of the last tile's logits. -/
theorem off36 (i : grid0.Coords) : k0_off36 i = ![(i 2).val % 2, 0, 0, 0] := by
  have hq := qt_lt i
  unfold k0_off36
  generalize (i 2).val = q at hq ⊢
  interval_cases q <;> decide +kernel

/-- Where the last tile's values lie. -/
theorem off37 (i : grid0.Coords) : k0_off37 i = ![0, 0, 512 * (i 2).val] := by
  have hq := qt_lt i
  unfold k0_off37
  generalize (i 2).val = q at hq ⊢
  interval_cases q <;> decide +kernel

/-- The slot of the last tile's logits. -/
theorem off38 (i : grid0.Coords) : k0_off38 i = ![(i 2).val % 2, 1, 0, 0] := by
  have hq := qt_lt i
  unfold k0_off38
  generalize (i 2).val = q at hq ⊢
  interval_cases q <;> decide +kernel

/-- Where the last tile's values lie. -/
theorem off39 (i : grid0.Coords) : k0_off39 i = ![0, 128, 512 * (i 2).val] := by
  have hq := qt_lt i
  unfold k0_off39
  generalize (i 2).val = q at hq ⊢
  interval_cases q <;> decide +kernel

/-- The slot of the last tile's logits. -/
theorem off40 (i : grid0.Coords) : k0_off40 i = ![(i 2).val % 2, 2, 0, 0] := by
  have hq := qt_lt i
  unfold k0_off40
  generalize (i 2).val = q at hq ⊢
  interval_cases q <;> decide +kernel

/-- Where the last tile's values lie. -/
theorem off41 (i : grid0.Coords) : k0_off41 i = ![0, 256, 512 * (i 2).val] := by
  have hq := qt_lt i
  unfold k0_off41
  generalize (i 2).val = q at hq ⊢
  interval_cases q <;> decide +kernel

/-- The slot of the last tile's logits. -/
theorem off42 (i : grid0.Coords) : k0_off42 i = ![(i 2).val % 2, 3, 0, 0] := by
  have hq := qt_lt i
  unfold k0_off42
  generalize (i 2).val = q at hq ⊢
  interval_cases q <;> decide +kernel

/-- Where the last tile's values lie. -/
theorem off43 (i : grid0.Coords) : k0_off43 i = ![0, 384, 512 * (i 2).val] := by
  have hq := qt_lt i
  unfold k0_off43
  generalize (i 2).val = q at hq ⊢
  interval_cases q <;> decide +kernel

end Cert.KernelIdeal.Body
-- ==== Proof.BodyEven.lean ====
module

public import proofs.«01_k».proof.Proof.Gen.KernelIdeal.Loops
public import proofs.«01_k».proof.Proof.Offs
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 16000000 in
/-- The body at a grid point whose tiles pair up with one left over: no odd tail. -/
noncomputable def runEven (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec F S1x512x512 .bf16) (x4 : Vec F S1x512x256 .bf16) (x5 : Vec F S1x4096x512 .bf16) (x6 : Vec F S1x4096x128 .bf16) (x7 : Vec F S1x512x4096 .bf16) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : ¬ k0_cond1 i = 1#1) :
    { L8 : List (View.Piece (Elt F) S1x512x512 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ (arg8.view.loc (c : Thread nD τ) ↦[arg8.view.set]{fullShare} (arg8.view.writes (Elt F) f8 L8)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_mla_attention_eq_skeleton]; unfold cc0_mla_attention_skel
    simp only [k0_part29_eq_skeleton,k0_part30_eq_skeleton,k0_part31_eq_skeleton,k0_part32_eq_skeleton,k0_part33_eq_skeleton,k0_part34_eq_skeleton,k0_part35_eq_skeleton,k0_part36_eq_skeleton,k0_part37_eq_skeleton,k0_part38_eq_skeleton,k0_part39_eq_skeleton,k0_part40_eq_skeleton,k0_part41_eq_skeleton,k0_part42_eq_skeleton,k0_part43_eq_skeleton,k0_part44_eq_skeleton,k0_part45_eq_skeleton,k0_part46_eq_skeleton,k0_part47_eq_skeleton,k0_part48_eq_skeleton,k0_part49_eq_skeleton,k0_part50_eq_skeleton,k0_part51_eq_skeleton,k0_part52_eq_skeleton]
    unfold owns
    iintro ⟨⟨%f3, %hf3, H3⟩, ⟨%f4, %hf4, H4⟩, ⟨%f5, %hf5, H5⟩, ⟨%f6, %hf6, H6⟩, ⟨%f7, %hf7, H7⟩, H8, H9, H10, H11, H12, H13, Hk⟩
    obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    isplitl [H11]; · iexists _; iexact H11
    isplitl [H12]; · iexists _; iexact H12
    iexists _; iexact H13

end Cert.KernelIdeal.Body
-- ==== Proof.BodyOdd.lean ====
module

public import proofs.«01_k».proof.Proof.Gen.KernelIdeal.Loops
public import proofs.«01_k».proof.Proof.BodyEven
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

instance (i : grid0.Coords) [h : Fact ((i 2).val % 2 = 1)] : ClosedOff (k0_off36 i) :=
  ⟨![1, 0, 0, 0], by rw [off36, h.out]⟩

instance (i : grid0.Coords) [h : Fact ((i 2).val % 2 = 1)] : ClosedOff (k0_off38 i) :=
  ⟨![1, 1, 0, 0], by rw [off38, h.out]⟩

instance (i : grid0.Coords) [h : Fact ((i 2).val % 2 = 1)] : ClosedOff (k0_off40 i) :=
  ⟨![1, 2, 0, 0], by rw [off40, h.out]⟩

instance (i : grid0.Coords) [h : Fact ((i 2).val % 2 = 1)] : ClosedOff (k0_off42 i) :=
  ⟨![1, 3, 0, 0], by rw [off42, h.out]⟩

set_option maxHeartbeats 16000000 in
/-- The body at a grid point with an odd tail: one more tile is staged and folded after the pairs. -/
noncomputable def runOdd (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec F S1x512x512 .bf16) (x4 : Vec F S1x512x256 .bf16) (x5 : Vec F S1x4096x512 .bf16) (x6 : Vec F S1x4096x128 .bf16) (x7 : Vec F S1x512x4096 .bf16) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hc : k0_cond1 i = 1#1) :
    { L8 : List (View.Piece (Elt F) S1x512x512 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ (arg8.view.loc (c : Thread nD τ) ↦[arg8.view.set]{fullShare} (arg8.view.writes (Elt F) f8 L8)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_mla_attention_eq_skeleton]; unfold cc0_mla_attention_skel
    simp only [k0_part29_eq_skeleton,k0_part30_eq_skeleton,k0_part31_eq_skeleton,k0_part32_eq_skeleton,k0_part33_eq_skeleton,k0_part34_eq_skeleton,k0_part35_eq_skeleton,k0_part36_eq_skeleton,k0_part37_eq_skeleton,k0_part38_eq_skeleton,k0_part39_eq_skeleton,k0_part40_eq_skeleton,k0_part41_eq_skeleton,k0_part42_eq_skeleton,k0_part43_eq_skeleton,k0_part44_eq_skeleton,k0_part45_eq_skeleton,k0_part46_eq_skeleton,k0_part47_eq_skeleton,k0_part48_eq_skeleton,k0_part49_eq_skeleton,k0_part50_eq_skeleton,k0_part51_eq_skeleton,k0_part52_eq_skeleton]
    unfold owns
    iintro ⟨⟨%f3, %hf3, H3⟩, ⟨%f4, %hf4, H4⟩, ⟨%f5, %hf5, H5⟩, ⟨%f6, %hf6, H6⟩, ⟨%f7, %hf7, H7⟩, H8, H9, H10, H11, H12, H13, Hk⟩
    obtain rfl := harg3.eq_unread hf3; obtain rfl := harg4.eq_unread hf4; obtain rfl := harg5.eq_unread hf5; obtain rfl := harg6.eq_unread hf6; obtain rfl := harg7.eq_unread hf7
    haveI : Fact ((i 2).val % 2 = 1) := ⟨(cond1_iff i).mp hc⟩
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    isplitl [H11]; · iexists _; iexact H11
    isplitl [H12]; · iexists _; iexact H12
    iexists _; iexact H13

end Cert.KernelIdeal.Body
-- ==== Proof.MlaFrame.lean ====
module

public import proofs.«01_k».proof.Proof.BodyEven
public import proofs.«01_k».proof.Proof.BodyOdd
public import Idealize.ShloMosaic.Lib.Claim

/-! The attention call's launch: its five inputs read whole blocks, its output block is forgotten, and the five
scratch buffers pass from point to point at whatever contents. What follows is that every argument array ends as it began. -/

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (o : Dev nD → Fin cfg0.N → Vec F S1x512x512 .bf16)

abbrev w0 (t : Fin cfg0.N) := win0_0.stage (cfg0.slots t 0)
abbrev h0 (t : Fin cfg0.N) : (w0 t).IsWhole := hstage0_0 ((cfg0.slots t 0).cast nbuf0_0)
abbrev w1 (t : Fin cfg0.N) := win0_1.stage (cfg0.slots t 1)
abbrev h1 (t : Fin cfg0.N) : (w1 t).IsWhole := hstage0_1 ((cfg0.slots t 1).cast nbuf0_1)
abbrev w2 (t : Fin cfg0.N) := win0_2.stage (cfg0.slots t 2)
abbrev h2 (t : Fin cfg0.N) : (w2 t).IsWhole := hstage0_2 ((cfg0.slots t 2).cast nbuf0_2)
abbrev w3 (t : Fin cfg0.N) := win0_3.stage (cfg0.slots t 3)
abbrev h3 (t : Fin cfg0.N) : (w3 t).IsWhole := hstage0_3 ((cfg0.slots t 3).cast nbuf0_3)
abbrev w4 (t : Fin cfg0.N) := win0_4.stage (cfg0.slots t 4)
abbrev h4 (t : Fin cfg0.N) : (w4 t).IsWhole := hstage0_4 ((cfg0.slots t 4).cast nbuf0_4)
abbrev w5 (t : Fin cfg0.N) := win0_5.stage (cfg0.slots t 5)
abbrev h5 (t : Fin cfg0.N) : (w5 t).IsWhole := hstage0_5 ((cfg0.slots t 5).cast nbuf0_5)
abbrev s0 := Memref.whole cc0_scratch0
abbrev s1 := Memref.whole cc0_scratch1
abbrev s2 := Memref.whole cc0_scratch2
abbrev s3 := Memref.whole cc0_scratch3
abbrev s4 := Memref.whole cc0_scratch4

/-- The proof data: an input's buffer keeps its block, the output's holds `o`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o c t
  Φ _ := Pipeline.ΦA spec0 c
  q _ := fullShare
  owed _ := 0

theorem A_eq (c : Dev nD) (w : Fin cfg0.W) : (dats m o 0 c).A w = V m c (Pipeline.arrRef spec0 w) := by dsimp only [dats]
theorem after_0 (c : Dev nD) (t : Fin cfg0.N) : (dats m o 0 c).after 0 t = iblk m c 0 t := by dsimp only [dats]
theorem after_1 (c : Dev nD) (t : Fin cfg0.N) : (dats m o 0 c).after 1 t = iblk m c 1 t := by dsimp only [dats]
theorem after_2 (c : Dev nD) (t : Fin cfg0.N) : (dats m o 0 c).after 2 t = iblk m c 2 t := by dsimp only [dats]
theorem after_3 (c : Dev nD) (t : Fin cfg0.N) : (dats m o 0 c).after 3 t = iblk m c 3 t := by dsimp only [dats]
theorem after_4 (c : Dev nD) (t : Fin cfg0.N) : (dats m o 0 c).after 4 t = iblk m c 4 t := by dsimp only [dats]
theorem after_5 (c : Dev nD) (t : Fin cfg0.N) : (dats m o 0 c).after 5 t = o c t := by dsimp only [dats]
theorem before_0 (c : Dev nD) (t : Fin cfg0.N) (d) : (dats m o 0 c).before 0 t d = iblk m c 0 t :=
  before0_0_of m (dats m o 0 c) (A_eq m o c 0) (after_0 m o c) t d
theorem before_1 (c : Dev nD) (t : Fin cfg0.N) (d) : (dats m o 0 c).before 1 t d = iblk m c 1 t :=
  before0_1_of m (dats m o 0 c) (A_eq m o c 1) (after_1 m o c) t d
theorem before_2 (c : Dev nD) (t : Fin cfg0.N) (d) : (dats m o 0 c).before 2 t d = iblk m c 2 t :=
  before0_2_of m (dats m o 0 c) (A_eq m o c 2) (after_2 m o c) t d
theorem before_3 (c : Dev nD) (t : Fin cfg0.N) (d) : (dats m o 0 c).before 3 t d = iblk m c 3 t :=
  before0_3_of m (dats m o 0 c) (A_eq m o c 3) (after_3 m o c) t d
theorem before_4 (c : Dev nD) (t : Fin cfg0.N) (d) : (dats m o 0 c).before 4 t d = iblk m c 4 t :=
  before0_4_of m (dats m o 0 c) (A_eq m o c 4) (after_4 m o c) t d

/-- The invariant between points: the scratch buffers at some contents and the generator at some state. -/
theorem PhiA_eq (c : Dev nD) : (Pipeline.ΦA spec0 c : sProp 𝕄) = iprop(((∃ d, owns (c : Thread nD τ) s0 fullShare d) ∗ (∃ d, owns (c : Thread nD τ) s1 fullShare d) ∗ (∃ d, owns (c : Thread nD τ) s2 fullShare d) ∗ (∃ d, owns (c : Thread nD τ) s3 fullShare d) ∗ (∃ d, owns (c : Thread nD τ) s4 fullShare d)) ∗ (∃ r, prngReg c r)) := by
  unfold Pipeline.ΦA; rw [scopedRest0_eq]; simp only [owns_whole]; try rfl

def bodyPre (c : Dev nD) (t : Fin cfg0.N) : sProp 𝕄 :=
  iprop((dats m o 0 c).Φ t.castSucc ∗ (dats m o 0 c).owesAt () t.castSucc
    ∗ (∃ d, owns (c : Thread nD τ) (w0 t) fullShare ((dats m o 0 c).before 0 t d))
    ∗ (∃ d, owns (c : Thread nD τ) (w1 t) fullShare ((dats m o 0 c).before 1 t d))
    ∗ (∃ d, owns (c : Thread nD τ) (w2 t) fullShare ((dats m o 0 c).before 2 t d))
    ∗ (∃ d, owns (c : Thread nD τ) (w3 t) fullShare ((dats m o 0 c).before 3 t d))
    ∗ (∃ d, owns (c : Thread nD τ) (w4 t) fullShare ((dats m o 0 c).before 4 t d))
    ∗ (∃ X, owns (c : Thread nD τ) (w5 t) fullShare X))

def bodyPost (c : Dev nD) (t : Fin cfg0.N) : sProp 𝕄 :=
  iprop((dats m o 0 c).Φ t.succ ∗ (dats m o 0 c).owesAt () t.succ
    ∗ owns (c : Thread nD τ) (w0 t) fullShare ((dats m o 0 c).after 0 t)
    ∗ owns (c : Thread nD τ) (w1 t) fullShare ((dats m o 0 c).after 1 t)
    ∗ owns (c : Thread nD τ) (w2 t) fullShare ((dats m o 0 c).after 2 t)
    ∗ owns (c : Thread nD τ) (w3 t) fullShare ((dats m o 0 c).after 3 t)
    ∗ owns (c : Thread nD τ) (w4 t) fullShare ((dats m o 0 c).after 4 t)
    ∗ (∃ X, owns (c : Thread nD τ) (w5 t) fullShare X))

/-- A memref held at given contents, its buffer's contents named. -/
theorem own_eq (c : Dev nD) {sp : Space} {S : Shape} {e : EltTy} (M : Memref sig .tc sp S e) (X : Vec F S e) :
    (owns (c : Thread nD τ) M fullShare X : sProp 𝕄) = iprop(∃ f, ⌜M.view.read (Elt F) f = X⌝ ∗ (M.view.loc (c : Thread nD τ) ↦[M.view.set]{fullShare} f)) := by
  unfold owns; rfl

/-- The coordinates of the point, as the body is handed them. -/
abbrev crd (t : Fin cfg0.N) : grid0.Coords := grid0.coords t

set_option maxHeartbeats 4000000 in
theorem sound_body (c : Dev nD) (t : Fin cfg0.N) :
    bodyPre m o c t ⊢ wp frame (wpE (defs₀ (F := F)) Variants.none c none) Set.univ (bodyAt0 t) (fun _ => bodyPost m o c t) := by
  unfold bodyPre bodyPost bodyAt0
  simp only [before_0, before_1, before_2, before_3, before_4]
  rw [show (dats m o 0 c).Φ t.succ = (dats m o 0 c).Φ t.castSucc from rfl,
    show (dats m o 0 c).owesAt () t.succ = (dats m o 0 c).owesAt () t.castSucc from rfl,
    after_0, after_1, after_2, after_3, after_4]
  rw [show (dats m o 0 c).Φ t.castSucc = Pipeline.ΦA spec0 c from rfl, PhiA_eq]
  simp only [own_eq c s0, own_eq c s1, own_eq c s2, own_eq c s3, own_eq c s4, own_eq c (w5 t)]
  iintro ⟨⟨⟨⟨%u9, %g9, -, H9⟩, ⟨%u10, %g10, -, H10⟩, ⟨%u11, %g11, -, H11⟩, ⟨%u12, %g12, -, H12⟩, ⟨%u13, %g13, -, H13⟩⟩, Hg⟩, Ho, ⟨%d0, H0⟩, ⟨%d1, H1⟩, ⟨%d2, H2⟩, ⟨%d3, H3⟩, ⟨%d4, H4⟩, ⟨%u8, %g8, -, H8⟩⟩
  by_cases hc : k0_cond1 (crd t) = 1#1
  · iapply ((runOdd c (crd t) (w0 t) (h0 t) (w1 t) (h1 t) (w2 t) (h2 t) (w3 t) (h3 t) (w4 t) (h4 t) (w5 t) (h5 t) s0 (Memref.isWhole_whole _) s1 (Memref.isWhole_whole _) s2 (Memref.isWhole_whole _) s3 (Memref.isWhole_whole _) s4 (Memref.isWhole_whole _) (iblk m c 0 t) (iblk m c 1 t) (iblk m c 2 t) (iblk m c 3 t) (iblk m c 4 t) g8 g9 g10 g11 g12 g13 hc).2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]
        · iexists _; iexists _; isplitr; swap; · iexact H9
          ipureintro; rfl
        isplitl [H10]
        · iexists _; iexists _; isplitr; swap; · iexact H10
          ipureintro; rfl
        isplitl [H11]
        · iexists _; iexists _; isplitr; swap; · iexact H11
          ipureintro; rfl
        isplitl [H12]
        · iexists _; iexists _; isplitr; swap; · iexact H12
          ipureintro; rfl
        iexists _; iexists _; isplitr; swap; · iexact H13
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexists _; isplitr; swap; · iexact H8
    ipureintro; rfl
  · iapply ((runEven c (crd t) (w0 t) (h0 t) (w1 t) (h1 t) (w2 t) (h2 t) (w3 t) (h3 t) (w4 t) (h4 t) (w5 t) (h5 t) s0 (Memref.isWhole_whole _) s1 (Memref.isWhole_whole _) s2 (Memref.isWhole_whole _) s3 (Memref.isWhole_whole _) s4 (Memref.isWhole_whole _) (iblk m c 0 t) (iblk m c 1 t) (iblk m c 2 t) (iblk m c 3 t) (iblk m c 4 t) g8 g9 g10 g11 g12 g13 hc).2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]
        · iexists _; iexists _; isplitr; swap; · iexact H9
          ipureintro; rfl
        isplitl [H10]
        · iexists _; iexists _; isplitr; swap; · iexact H10
          ipureintro; rfl
        isplitl [H11]
        · iexists _; iexists _; isplitr; swap; · iexact H11
          ipureintro; rfl
        isplitl [H12]
        · iexists _; iexists _; isplitr; swap; · iexact H12
          ipureintro; rfl
        iexists _; iexists _; isplitr; swap; · iexact H13
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; iexists _; isplitr; swap; · iexact H8
    ipureintro; rfl

theorem defs₀_row (t : Fin cfg0.N) :
    defs₀ (F := F) .tc cfg0.body (cfg0.bodyArgs t (cfg0.slots t)) = bodyAt0 t := by
  unfold defs₀; rw [Defs.onTc_tc]

/-- Only the output window is forgotten. -/
def fgt : Fin cfg0.W → Bool := fun w => w.val == 5

theorem body_obligation (c : Dev nD) : BodyObligationLoose (dats (F := F) m o 0 c) (defs₀ (F := F)) Variants.none () Set.univ fgt := fun t => by
  rw [bigSep_W0, bigSep_W0, defs₀_row]
  exact triple_restated (sound_body m o c t) rfl .rfl fun _ => .rfl

set_option backward.isDefEq.respectTransparency.types false in
theorem run_main : θ_run defs (onTc (τ := τ) (main (F := F))) (s₀ m ρ)
    (fun r => RDat.FramePost cfg0 (fun c => (dats m o 0 c).toRForget fgt) (V m) r ∧ r.2.sem = fun _ => 0) :=
  Pipeline.θ_run_frame_forget (Q' := _) cfgs (dats m o) (0 : Fin 1) launch0 defs₀ Variants.none fgt m ρ main
    (hbody := fun c => body_obligation m o c) (hshare := fun c => (dats m o 0 c).share_full fun _ => rfl)
    (howed := fun _ _ => rfl) (V := V m) (hmain := hmain m Variants.none) (hA := A_eq m o) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ fun c t => iblk m c 5 t)

end Cert.KernelIdeal.Mla

end
-- ==== Proof.MlaMath.lean ====
/- The row mathematics of attention over the extended reals: the online recurrence over tiles of keys is the softmax. -/
module

public import Idealize.ShloMosaic.PureOps.Ideal

@[expose] public section

noncomputable section

namespace Cert.Mla

open Idealize.ShloMosaic

/-- A row's maximum. -/
abbrev mx {n : ℕ} (a : Fin n → EReal) : EReal := Finset.univ.fold max ⊥ a

/-- The running maximum, the running weight and the running weighted sum over the first tiles. -/
def M (a : ℕ → Fin 512 → EReal) : ℕ → EReal
  | 0 => ⊥
  | n + 1 => max (M a n) (mx (a n))
def L (a : ℕ → Fin 512 → EReal) : ℕ → EReal
  | 0 => 0
  | n + 1 => Ideal.exp2 (M a n - M a (n + 1)) * L a n + ∑ j, Ideal.exp2 (a n j - M a (n + 1))
def A (a v : ℕ → Fin 512 → EReal) : ℕ → EReal
  | 0 => 0
  | n + 1 => Ideal.exp2 (M a n - M a (n + 1)) * A a v n + ∑ j, v n j * Ideal.exp2 (a n j - M a (n + 1))

/-- A tile's logits: each masked or real, one of them real. -/
def Fin' (x : EReal) : Prop := x = ⊥ ∨ ∃ r : ℝ, x = r
structure Ok (a : Fin 512 → EReal) : Prop where
  each : ∀ j, Fin' (a j)
  some : ∃ j, ∃ r : ℝ, a j = r

theorem le_mx {n : ℕ} (a : Fin n → EReal) (j : Fin n) : a j ≤ mx a :=
  (Finset.le_fold_max _).2 (Or.inr ⟨j, Finset.mem_univ _, le_rfl⟩)

theorem mx_eq {n : ℕ} (a : Fin n → EReal) (h : ∃ j, ∃ r : ℝ, a j = r) : ∃ j, mx a = a j := by
  obtain ⟨j0, r, hr⟩ := h
  have e : mx a = Finset.univ.sup a := rfl
  obtain ⟨i, _, hi⟩ := Finset.exists_mem_eq_sup Finset.univ ⟨j0, Finset.mem_univ _⟩ a
  exact ⟨i, e.trans hi⟩

theorem mx_real {n : ℕ} (a : Fin n → EReal) (h : ∀ j, Fin' (a j)) (h' : ∃ j, ∃ r : ℝ, a j = r) : ∃ r : ℝ, mx a = r := by
  obtain ⟨j, hj⟩ := mx_eq a h'
  obtain ⟨j0, r, hr⟩ := h'
  rcases h j with hb | ⟨q, hq⟩
  · exfalso
    have := le_mx a j0
    rw [hj, hb, hr] at this
    exact absurd (le_bot_iff.1 this) (EReal.coe_ne_bot r)
  · exact ⟨q, hj.trans hq⟩

theorem le_M (a : ℕ → Fin 512 → EReal) {n N : ℕ} (h : n < N) (j : Fin 512) : a n j ≤ M a N := by
  induction N with
  | zero => omega
  | succ k ih =>
    rcases Nat.lt_succ_iff_lt_or_eq.1 h with h | h
    · exact (ih h).trans (le_max_left _ _)
    · subst h; exact (le_mx (a n) j).trans (le_max_right _ _)

theorem M_eq (a : ℕ → Fin 512 → EReal) {N : ℕ} (hN : 0 < N) (h : ∀ n < N, Ok (a n)) : ∃ n < N, ∃ j, M a N = a n j := by
  induction N with
  | zero => omega
  | succ k ih =>
    obtain ⟨j, hj⟩ := mx_eq (a k) (h k (by omega)).some
    rcases Nat.eq_zero_or_pos k with h0 | h0
    · subst h0; exact ⟨0, by omega, j, by rw [M, M, max_eq_right bot_le, hj]⟩
    · obtain ⟨n, hn, i, hi⟩ := ih h0 fun n hn => h n (by omega)
      rcases le_total (M a k) (mx (a k)) with hl | hl
      · exact ⟨k, by omega, j, by rw [M, max_eq_right hl, hj]⟩
      · exact ⟨n, by omega, i, by rw [M, max_eq_left hl, hi]⟩

theorem M_real (a : ℕ → Fin 512 → EReal) {N : ℕ} (hN : 0 < N) (h : ∀ n < N, Ok (a n)) : ∃ r : ℝ, M a N = r := by
  obtain ⟨n, hn, j, e⟩ := M_eq a hN h
  rcases (h n hn).each j with hb | ⟨q, hq⟩
  · exfalso
    obtain ⟨j0, r, hr⟩ := (h n hn).some
    have := le_M a hn j0
    rw [e, hb, hr] at this
    exact absurd (le_bot_iff.1 this) (EReal.coe_ne_bot r)
  · exact ⟨q, e.trans hq⟩

theorem coe_mul_sum {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert i s hi ih => rw [Finset.sum_insert hi, Finset.sum_insert hi, EReal.left_distrib_of_nonneg_of_ne_top (EReal.coe_nonneg.2 hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp2_step {x : EReal} (hx : Fin' x) (m m' : ℝ) :
    Ideal.exp2 ((m : EReal) - m') * Ideal.exp2 (x - m) = Ideal.exp2 (x - m') := by
  rcases hx with rfl | ⟨r, rfl⟩
  · rw [EReal.bot_sub, EReal.bot_sub, Ideal.exp2_bot, mul_zero]
  · rw [← EReal.coe_sub, ← EReal.coe_sub, ← EReal.coe_sub, Ideal.exp2_coe, Ideal.exp2_coe, Ideal.exp2_coe, ← EReal.coe_mul]
    congr 1
    change (2 : ℝ) ^ (m - m') * (2 : ℝ) ^ (r - m) = (2 : ℝ) ^ (r - m')
    rw [← Real.rpow_add two_pos]; congr 1; ring

theorem exp2_real (m m' : ℝ) : ∃ c : ℝ, 0 ≤ c ∧ Ideal.exp2 ((m : EReal) - m') = c :=
  ⟨Real.rpow 2 (m - m'), Real.rpow_nonneg (by norm_num) _, by rw [← EReal.coe_sub, Ideal.exp2_coe]⟩

theorem A_eq (a v : ℕ → Fin 512 → EReal) (N : ℕ) (h : ∀ n < N, Ok (a n)) :
    A a v N = ∑ n ∈ Finset.range N, ∑ j, v n j * Ideal.exp2 (a n j - M a N) := by
  induction N with
  | zero => rfl
  | succ k ih =>
    rw [Finset.sum_range_succ, A]
    congr 1
    rcases Nat.eq_zero_or_pos k with h0 | h0
    · subst h0; rw [A, mul_zero]; rfl
    · obtain ⟨m, hm⟩ := M_real a h0 fun n hn => h n (by omega)
      obtain ⟨m', hm'⟩ := M_real a (N := k + 1) (by omega) h
      rw [ih fun n hn => h n (by omega), hm, hm']
      obtain ⟨c, hc, e⟩ := exp2_real m m'
      rw [e, coe_mul_sum _ _ hc]
      refine Finset.sum_congr rfl fun n hn => ?_
      rw [coe_mul_sum _ _ hc]
      refine Finset.sum_congr rfl fun j _ => ?_
      rw [mul_left_comm, ← e, exp2_step ((h n (by have := Finset.mem_range.1 hn; omega)).each j)]

theorem L_eq (a : ℕ → Fin 512 → EReal) (N : ℕ) (h : ∀ n < N, Ok (a n)) :
    L a N = ∑ n ∈ Finset.range N, ∑ j, Ideal.exp2 (a n j - M a N) := by
  have e : L a N = A a (fun _ _ => 1) N := by
    clear h
    induction N with
    | zero => rfl
    | succ k ih => rw [L, A, ih]; simp only [one_mul]
  rw [e, A_eq a _ N h]; simp only [one_mul]

/-- The key `512 n + j`. -/
def key (n : Fin 8) (j : Fin 512) : Fin 4096 := ⟨512 * n.val + j.val, by omega⟩

theorem sum_keys (f : Fin 4096 → EReal) : ∑ k, f k = ∑ n : Fin 8, ∑ j, f (key n j) := by
  rw [← (finProdFinEquiv (m := 8) (n := 512)).sum_comp, Fintype.sum_prod_type]
  refine Finset.sum_congr rfl fun n _ => Finset.sum_congr rfl fun j _ => ?_
  have e : (finProdFinEquiv (n, j) : Fin (8 * 512)) = key n j := Fin.ext (by simp only [finProdFinEquiv_apply_val, key]; omega)
  rw [e]

theorem sum_tiles (g : Fin 8 → EReal) (g' : ℕ → EReal) (N : ℕ) (hN : N ≤ 8) (h : ∀ n : Fin 8, n.val < N → g n = g' n.val)
    (h0 : ∀ n : Fin 8, N ≤ n.val → g n = 0) : ∑ n, g n = ∑ n ∈ Finset.range N, g' n := by
  have e : ∑ n, g n = ∑ n : Fin 8, if n.val < N then g' n.val else 0 := Finset.sum_congr rfl fun n _ => by
    split
    · exact h n ‹_›
    · exact h0 n (by omega)
  rw [e, Finset.sum_fin_eq_sum_range]
  have e2 : ∑ i ∈ Finset.range 8, (if h : i < 8 then (if i < N then g' i else 0) else 0) = ∑ i ∈ Finset.range 8, if i < N then g' i else 0 :=
    Finset.sum_congr rfl fun i hi => dif_pos (Finset.mem_range.1 hi)
  rw [e2, ← Finset.sum_filter]
  congr 1
  ext i; simp only [Finset.mem_filter, Finset.mem_range]; omega

/-- Logits scaled for base two. -/
def inLog2 (x y : EReal) : Prop := (x = ⊥ ∧ y = ⊥) ∨ ∃ r : ℝ, x = r ∧ y = ((r / Real.log 2 : ℝ) : EReal)

theorem exp2_log2 {x y : EReal} (h : inLog2 x y) (ρ : ℝ) :
    Ideal.exp2 (y - ((ρ / Real.log 2 : ℝ) : EReal)) = Ideal.exp (x - ρ) := by
  have h2 : Real.log 2 ≠ 0 := (Real.log_pos one_lt_two).ne'
  rcases h with ⟨rfl, rfl⟩ | ⟨r, rfl, rfl⟩
  · rw [EReal.bot_sub, EReal.bot_sub]; rfl
  · rw [← EReal.coe_sub, ← EReal.coe_sub, Ideal.exp2_coe, Ideal.exp_coe]
    congr 1
    change (2 : ℝ) ^ (r / Real.log 2 - ρ / Real.log 2) = Real.exp (r - ρ)
    rw [Real.rpow_def_of_pos two_pos]; congr 1; field_simp

/-- The recurrence's quotient is the softmax's weighted sum. -/
theorem final (r w : Fin 4096 → EReal) (a v : ℕ → Fin 512 → EReal) (N : ℕ) (hN : N ≤ 8) (h0 : 0 < N)
    (ha : ∀ n : Fin 8, n.val < N → ∀ j, inLog2 (r (key n j)) (a n.val j))
    (hv : ∀ n : Fin 8, n.val < N → ∀ j, v n.val j = w (key n j))
    (hm : ∀ n : Fin 8, N ≤ n.val → ∀ j, r (key n j) = ⊥)
    (hs : ∀ n : Fin 8, n.val < N → ∃ j, ∃ q : ℝ, r (key n j) = q) :
    Ideal.div (A a v N) (L a N) = ∑ k, Ideal.div (Ideal.exp (r k - mx r)) (∑ k', Ideal.exp (r k' - mx r)) * w k := by
  have h2 : 0 < Real.log 2 := Real.log_pos one_lt_two
  have key_surj : ∀ k : Fin 4096, ∃ n j, k = key n j := fun k =>
    ⟨⟨k.val / 512, by omega⟩, ⟨k.val % 512, by omega⟩, Fin.ext (by simp only [key]; omega)⟩
  have hr : ∀ k, Fin' (r k) := fun k => by
    obtain ⟨n, j, rfl⟩ := key_surj k
    by_cases hn : n.val < N
    · rcases ha n hn j with ⟨e, _⟩ | ⟨q, e, _⟩
      · exact Or.inl e
      · exact Or.inr ⟨q, e⟩
    · exact Or.inl (hm n (by omega) j)
  have hok : ∀ n < N, Ok (a n) := fun n hn => by
    have hn8 : n < 8 := by omega
    refine ⟨fun j => ?_, ?_⟩
    · rcases ha ⟨n, hn8⟩ hn j with ⟨_, e⟩ | ⟨q, _, e⟩
      · exact Or.inl e
      · exact Or.inr ⟨_, e⟩
    · obtain ⟨j, q, e⟩ := hs ⟨n, hn8⟩ hn
      rcases ha ⟨n, hn8⟩ hn j with ⟨e', _⟩ | ⟨q', _, e'⟩
      · rw [e'] at e; exact absurd e.symm (EReal.coe_ne_bot q)
      · exact ⟨j, _, e'⟩
  have hsome : ∃ k, ∃ q : ℝ, r k = q := by
    obtain ⟨j, q, e⟩ := hs ⟨0, by omega⟩ h0; exact ⟨_, q, e⟩
  obtain ⟨ρ, hρ⟩ := mx_real r hr hsome
  obtain ⟨μ, hμ⟩ := M_real a h0 hok
  have hμρ : μ = ρ / Real.log 2 := by
    apply le_antisymm
    · obtain ⟨n, hn, j, e⟩ := M_eq a h0 hok
      rcases ha ⟨n, by omega⟩ hn j with ⟨_, e'⟩ | ⟨q, e1, e'⟩
      · rw [hμ] at e; rw [← e] at e'; exact absurd e' (EReal.coe_ne_bot μ)
      · have hle := le_mx r (key ⟨n, by omega⟩ j)
        rw [hρ, e1] at hle
        have h3 : μ = q / Real.log 2 := EReal.coe_injective (hμ.symm.trans (e.trans e'))
        rw [h3]; exact div_le_div_of_nonneg_right (EReal.coe_le_coe_iff.1 hle) h2.le
    · obtain ⟨k, hk⟩ := mx_eq r hsome
      obtain ⟨n, j, rfl⟩ := key_surj k
      by_cases hn : n.val < N
      · rcases ha n hn j with ⟨e', _⟩ | ⟨q, e1, e'⟩
        · rw [hρ, e'] at hk; exact absurd hk (EReal.coe_ne_bot ρ)
        · have hle := le_M a hn j
          rw [hμ, e'] at hle
          have h3 : ρ = q := EReal.coe_injective (hρ.symm.trans (hk.trans e1))
          rw [h3]; exact EReal.coe_le_coe_iff.1 hle
      · rw [hρ, hm n (by omega) j] at hk; exact absurd hk (EReal.coe_ne_bot ρ)
  have hL : L a N = ∑ k, Ideal.exp (r k - ρ) := by
    rw [L_eq a N hok, sum_keys, hμ, hμρ]
    refine (sum_tiles _ _ N hN (fun n hn => ?_) fun n hn => ?_).symm
    · exact Finset.sum_congr rfl fun j _ => (exp2_log2 (ha n hn j) ρ).symm
    · refine Finset.sum_eq_zero fun j _ => ?_
      rw [hm n hn j, EReal.bot_sub]; rfl
  have hA : A a v N = ∑ k, w k * Ideal.exp (r k - ρ) := by
    rw [A_eq a v N hok, sum_keys, hμ, hμρ]
    refine (sum_tiles _ _ N hN (fun n hn => ?_) fun n hn => ?_).symm
    · exact Finset.sum_congr rfl fun j _ => by rw [exp2_log2 (ha n hn j) ρ, hv n hn j]
    · refine Finset.sum_eq_zero fun j _ => ?_
      rw [hm n hn j, EReal.bot_sub, Ideal.exp_bot, mul_zero]
  have hex : ∀ k, ∃ c : ℝ, 0 ≤ c ∧ Ideal.exp (r k - ρ) = c := fun k => by
    rcases hr k with e | ⟨q, e⟩
    · exact ⟨0, le_rfl, by rw [e, EReal.bot_sub]; rfl⟩
    · exact ⟨Real.exp (q - ρ), (Real.exp_pos _).le, by rw [e, ← EReal.coe_sub, Ideal.exp_coe]⟩
  choose c hc hce using hex
  have hl : ∑ k, Ideal.exp (r k - ρ) = ((∑ k, c k : ℝ) : EReal) := by
    rw [coe_sum]; exact Finset.sum_congr rfl fun k _ => hce k
  have hpos : 0 < ∑ k, c k := by
    obtain ⟨k, q, hq⟩ := hsome
    refine Finset.sum_pos' (fun k _ => hc k) ⟨k, Finset.mem_univ _, ?_⟩
    have := hce k
    rw [hq, ← EReal.coe_sub, Ideal.exp_coe] at this
    rw [← EReal.coe_injective this]; exact Real.exp_pos _
  rw [hA, hL, hρ, hl, Ideal.div_coe hpos.ne', mul_comm, coe_mul_sum _ _ (by positivity)]
  refine Finset.sum_congr rfl fun k _ => ?_
  rw [Ideal.div_coe hpos.ne', mul_comm (w k), ← mul_assoc, mul_comm (((1 / ∑ k, c k : ℝ)) : EReal)]

end Cert.Mla

end
-- ==== Proof.MlaRd.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaMath

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

theorem negInf : Ideal.ofBits .f32 0xFF800000#32 = (⊥ : EReal) := by
  simp [Ideal.ofBits, Ideal.ieee]

theorem p22 (mx : FVec Ideal S1x1x1x512 .f32) (m : FVec Ideal S1x1x512 .f32) (q : Fin 512) :
    (k0_pay22 (F := Ideal) mx m) (ix3 0 0 q) = max (m (ix3 0 0 q)) (mx (ix4 0 0 0 q)) := by
  pointwise [k0_pay22, k0_pay19, k0_pay18]

theorem p23 (mx : FVec Ideal S1x1x1x512 .f32) (m l : FVec Ideal S1x1x512 .f32) (s : FVec Ideal S1x1x512x512 .f32) (q : Fin 512) :
    k0_pay23 (F := Ideal) (k0_pay20 (F := Ideal) mx m) (k0_pay21 (F := Ideal) s mx m) l (ix3 0 0 q)
      = Ideal.exp2 (m (ix3 0 0 q) - max (m (ix3 0 0 q)) (mx (ix4 0 0 0 q))) * l (ix3 0 0 q)
        + ∑ j : Fin 512, Ideal.exp2 (s (ix4 0 0 j q) - max (m (ix3 0 0 q)) (mx (ix4 0 0 0 q))) := by
  pointwise [k0_pay23, k0_pay20, k0_pay21, k0_pay19, k0_pay18]
  rfl

theorem p24 (mx : FVec Ideal S1x1x1x512 .f32) (m : FVec Ideal S1x1x512 .f32) (s : FVec Ideal S1x1x512x512 .f32)
    (acc : FVec Ideal S1x128x512 .f32) (v : FVec Ideal S1x128x512 .bf16) (d : Fin 128) (q : Fin 512) :
    k0_pay24 (F := Ideal) (k0_pay20 (F := Ideal) mx m) (k0_pay21 (F := Ideal) s mx m) acc v (ix3 0 d q)
      = Ideal.exp2 (m (ix3 0 0 q) - max (m (ix3 0 0 q)) (mx (ix4 0 0 0 q))) * acc (ix3 0 d q)
        + ∑ j : Fin 512, v (ix3 0 d j) * Ideal.exp2 (s (ix4 0 0 j q) - max (m (ix3 0 0 q)) (mx (ix4 0 0 0 q))) := by
  pointwise [k0_pay24, k0_pay20, k0_pay21, k0_pay19, k0_pay18]
  rfl

theorem p6 (w : FVec Ideal S512x256 .bf16) (kn kr : FVec Ideal S1x512x128 .bf16) (j q : Fin 512) :
    k0_pay6 (F := Ideal) w kn kr (ix4 0 0 j q) = k0_pay5 w kn kr (ix2 j q) := by
  pointwise [k0_pay6]

theorem p7 (w : FVec Ideal S512x256 .bf16) (kn kr : FVec Ideal S1x512x128 .bf16) (q : Fin 512) :
    k0_pay7 (F := Ideal) w kn kr (ix4 0 0 0 q) = Cert.Mla.mx (fun j : Fin 512 => k0_pay5 w kn kr (ix2 j q)) := by
  pointwise [k0_pay7]
  rw [show Ideal.ofBits .f32 0xFF800000#32 = (⊥ : EReal) from negInf]

/-! ## Reads of rectangles -/

section Rd
variable {sig : RefSig} {κ : Kind} {sp : Space} {s : Shape} {e : EltTy} {Val : EltTy → Type}

/-- A load at a unit-stride rectangle reads the view at the shifted index. -/
theorem ldAt (v : View sig κ sp s e) (f : v.ty.Contents Val) {off off' size : Fin s.rank → ℕ} (inb : ∀ a, off a + size a ≤ s.size a)
    (x : (Rect.unit off size inb).shape.Idx) (y : s.Idx) (heq : off = off') (hx : ∀ a, (y a).val = off' a + (x a).val) :
    v.readAt Val (Rect.unit off size inb).toLoadRect f x = v.read Val f y := by
  subst heq
  exact congrArg (v.read Val f) (funext fun a => Fin.ext (by
    show off a + 1 * (x a).val = (y a).val
    rw [hx a, Nat.one_mul]))
end Rd

/-- Head `h`'s key columns of tile `n`, the shared rotary key columns of tile `n`, head `h`'s value rows of tile `n`. -/
def knT (x : FVec Ideal S1x4096x512 .bf16) (h : Fin 4) (n : ℕ) : FVec Ideal S1x512x128 .bf16 :=
  fun ix => x (ix3 0 ⟨(512 * n + (ix 1).val) % 4096, Nat.mod_lt _ (by decide)⟩ ⟨128 * h.val + (ix 2).val, by have := (ix 2).isLt; have : (ix 2).val < 128 := this; omega⟩)
def krT (x : FVec Ideal S1x4096x128 .bf16) (n : ℕ) : FVec Ideal S1x512x128 .bf16 :=
  fun ix => x (ix3 0 ⟨(512 * n + (ix 1).val) % 4096, Nat.mod_lt _ (by decide)⟩ (ix 2))
def vT (x : FVec Ideal S1x512x4096 .bf16) (h : Fin 4) (n : ℕ) : FVec Ideal S1x128x512 .bf16 :=
  fun ix => x (ix3 0 ⟨128 * h.val + (ix 1).val, by have := (ix 1).isLt; have : (ix 1).val < 128 := this; omega⟩ ⟨(512 * n + (ix 2).val) % 4096, Nat.mod_lt _ (by decide)⟩)

theorem fin3 {P : Fin 3 → Prop} (h0 : P 0) (h1 : P 1) (h2 : P 2) : ∀ a, P a := by
  intro a; fin_cases a <;> assumption
theorem fin4 {P : Fin 4 → Prop} (h0 : P 0) (h1 : P 1) (h2 : P 2) (h3 : P 3) : ∀ a, P a := by
  intro a; fin_cases a <;> assumption

theorem rd5 {sig : RefSig} {κ : Kind} {sp : Space} (v : View sig κ sp S1x4096x512 .bf16) (f : v.ty.Contents (Elt Ideal)) {off : Fin 3 → ℕ} (h : Fin 4) (n : ℕ) (hn : n < 8)
    (inb : ∀ a, off a + S1x512x128.size a ≤ S1x4096x512.size a) (heq : off = ![0, 512 * n, 128 * h.val]) :
    v.readAt (Elt Ideal) (Rect.unit (s := S1x4096x512) off S1x512x128.size inb).toLoadRect f = knT (v.read (Elt Ideal) f) h n := by
  funext x
  have h1 : (x 1).val < 512 := (x 1).isLt
  refine ldAt v f inb x _ heq (fin3 ?_ ?_ ?_)
  · have : (x 0).val < 1 := (x 0).isLt
    show 0 = 0 + (x 0).val; omega
  · show (512 * n + (x 1).val) % 4096 = 512 * n + (x 1).val; omega
  · rfl
theorem rd6 {sig : RefSig} {κ : Kind} {sp : Space} (v : View sig κ sp S1x4096x128 .bf16) (f : v.ty.Contents (Elt Ideal)) {off : Fin 3 → ℕ} (n : ℕ) (hn : n < 8)
    (inb : ∀ a, off a + S1x512x128.size a ≤ S1x4096x128.size a) (heq : off = ![0, 512 * n, 0]) :
    v.readAt (Elt Ideal) (Rect.unit (s := S1x4096x128) off S1x512x128.size inb).toLoadRect f = krT (v.read (Elt Ideal) f) n := by
  funext x
  have h1 : (x 1).val < 512 := (x 1).isLt
  refine ldAt v f inb x _ heq (fin3 ?_ ?_ ?_)
  · have : (x 0).val < 1 := (x 0).isLt
    show 0 = 0 + (x 0).val; omega
  · show (512 * n + (x 1).val) % 4096 = 512 * n + (x 1).val; omega
  · show (x 2).val = 0 + (x 2).val; omega
theorem rd7 {sig : RefSig} {κ : Kind} {sp : Space} (v : View sig κ sp S1x512x4096 .bf16) (f : v.ty.Contents (Elt Ideal)) {off : Fin 3 → ℕ} (h : Fin 4) (n : ℕ) (hn : n < 8)
    (inb : ∀ a, off a + S1x128x512.size a ≤ S1x512x4096.size a) (heq : off = ![0, 128 * h.val, 512 * n]) :
    v.readAt (Elt Ideal) (Rect.unit (s := S1x512x4096) off S1x128x512.size inb).toLoadRect f = vT (v.read (Elt Ideal) f) h n := by
  funext x
  have h1 : (x 2).val < 512 := (x 2).isLt
  refine ldAt v f inb x _ heq (fin3 ?_ ?_ ?_)
  · have : (x 0).val < 1 := (x 0).isLt
    show 0 = 0 + (x 0).val; omega
  · rfl
  · show (512 * n + (x 2).val) % 4096 = 512 * n + (x 2).val; omega

/-- The logits of a tile against one query head, and the values of a tile. -/
def lg (w : FVec Ideal S512x256 .bf16) (x5 : FVec Ideal S1x4096x512 .bf16) (x6 : FVec Ideal S1x4096x128 .bf16) (h : Fin 4) (q : Fin 512) (n : ℕ) (j : Fin 512) : EReal :=
  k0_pay5 (F := Ideal) w (knT x5 h n) (krT x6 n) (ix2 j q)
def vl (x7 : FVec Ideal S1x512x4096 .bf16) (h : Fin 4) (d : Fin 128) (n : ℕ) (j : Fin 512) : EReal := vT x7 h n (ix3 0 d j)

section Wr
variable {sig : RefSig} {κ : Kind} {sp : Space}

theorem hit11 (v : View sig κ sp S4x1x512 .f32) (f : v.ty.Contents (Elt Ideal)) (h : Fin 4) (inb : ∀ a, ![h.val, 0, 0] a + S1x1x512.size a ≤ S4x1x512.size a)
    (w : FVec Ideal S1x1x512 .f32) (L) (q : Fin 512) :
    v.read (Elt Ideal) (v.writes (Elt Ideal) f (⟨Rect.unit (s := S4x1x512) ![h.val, 0, 0] S1x1x512.size inb, w⟩ :: L)) (ix3 h 0 q) = w (ix3 0 0 q) :=
  View.read_writes_cons_unit_of_mem v f inb w L _ (ix3 0 0 q) rfl (fin3 (rfl) rfl (Nat.zero_add _).symm)
theorem skip11 (v : View sig κ sp S4x1x512 .f32) (f : v.ty.Contents (Elt Ideal)) (g h : Fin 4) (hne : g ≠ h) (inb : ∀ a, ![g.val, 0, 0] a + S1x1x512.size a ≤ S4x1x512.size a)
    (w : FVec Ideal S1x1x512 .f32) (L) (q : Fin 512) :
    v.read (Elt Ideal) (v.writes (Elt Ideal) f (⟨Rect.unit (s := S4x1x512) ![g.val, 0, 0] S1x1x512.size inb, w⟩ :: L)) (ix3 h 0 q) = v.read (Elt Ideal) (v.writes (Elt Ideal) f L) (ix3 h 0 q) :=
  View.read_writes_cons_unit_of_not_mem v f inb w L _ rfl (0 : Fin 3) (by
    have : g.val ≠ h.val := fun e => hne (Fin.ext e)
    show h.val < g.val ∨ g.val + 1 ≤ h.val
    omega)

theorem hit13 (v : View sig κ sp S4x128x512 .f32) (f : v.ty.Contents (Elt Ideal)) (h : Fin 4) (inb : ∀ a, ![h.val, 0, 0] a + S1x128x512.size a ≤ S4x128x512.size a)
    (w : FVec Ideal S1x128x512 .f32) (L) (d : Fin 128) (q : Fin 512) :
    v.read (Elt Ideal) (v.writes (Elt Ideal) f (⟨Rect.unit (s := S4x128x512) ![h.val, 0, 0] S1x128x512.size inb, w⟩ :: L)) (ix3 h d q) = w (ix3 0 d q) :=
  View.read_writes_cons_unit_of_mem v f inb w L _ (ix3 0 d q) rfl (fin3 (rfl) (Nat.zero_add _).symm (Nat.zero_add _).symm)
theorem skip13 (v : View sig κ sp S4x128x512 .f32) (f : v.ty.Contents (Elt Ideal)) (g h : Fin 4) (hne : g ≠ h) (inb : ∀ a, ![g.val, 0, 0] a + S1x128x512.size a ≤ S4x128x512.size a)
    (w : FVec Ideal S1x128x512 .f32) (L) (d : Fin 128) (q : Fin 512) :
    v.read (Elt Ideal) (v.writes (Elt Ideal) f (⟨Rect.unit (s := S4x128x512) ![g.val, 0, 0] S1x128x512.size inb, w⟩ :: L)) (ix3 h d q) = v.read (Elt Ideal) (v.writes (Elt Ideal) f L) (ix3 h d q) :=
  View.read_writes_cons_unit_of_not_mem v f inb w L _ rfl (0 : Fin 3) (by
    have : g.val ≠ h.val := fun e => hne (Fin.ext e)
    show h.val < g.val ∨ g.val + 1 ≤ h.val
    omega)

theorem hit9 (v : View sig κ sp S2x4x512x512 .f32) (f : v.ty.Contents (Elt Ideal)) (b : Fin 2) (h : Fin 4) (inb : ∀ a, ![b.val, h.val, 0, 0] a + S1x1x512x512.size a ≤ S2x4x512x512.size a)
    (w : FVec Ideal S1x1x512x512 .f32) (L) (j q : Fin 512) :
    v.read (Elt Ideal) (v.writes (Elt Ideal) f (⟨Rect.unit (s := S2x4x512x512) ![b.val, h.val, 0, 0] S1x1x512x512.size inb, w⟩ :: L)) (ix4 b h j q) = w (ix4 0 0 j q) :=
  View.read_writes_cons_unit_of_mem v f inb w L _ (ix4 0 0 j q) rfl (fin4 rfl (rfl) (Nat.zero_add _).symm (Nat.zero_add _).symm)
theorem skip9 (v : View sig κ sp S2x4x512x512 .f32) (f : v.ty.Contents (Elt Ideal)) (b : Fin 2) (g h : Fin 4) (hne : g ≠ h) (inb : ∀ a, ![b.val, g.val, 0, 0] a + S1x1x512x512.size a ≤ S2x4x512x512.size a)
    (w : FVec Ideal S1x1x512x512 .f32) (L) (j q : Fin 512) :
    v.read (Elt Ideal) (v.writes (Elt Ideal) f (⟨Rect.unit (s := S2x4x512x512) ![b.val, g.val, 0, 0] S1x1x512x512.size inb, w⟩ :: L)) (ix4 b h j q) = v.read (Elt Ideal) (v.writes (Elt Ideal) f L) (ix4 b h j q) :=
  View.read_writes_cons_unit_of_not_mem v f inb w L _ rfl (1 : Fin 4) (by
    have : g.val ≠ h.val := fun e => hne (Fin.ext e)
    show h.val < g.val ∨ g.val + 1 ≤ h.val
    omega)

theorem hit10 (v : View sig κ sp S2x4x1x512 .f32) (f : v.ty.Contents (Elt Ideal)) (b : Fin 2) (h : Fin 4) (inb : ∀ a, ![b.val, h.val, 0, 0] a + S1x1x1x512.size a ≤ S2x4x1x512.size a)
    (w : FVec Ideal S1x1x1x512 .f32) (L) (q : Fin 512) :
    v.read (Elt Ideal) (v.writes (Elt Ideal) f (⟨Rect.unit (s := S2x4x1x512) ![b.val, h.val, 0, 0] S1x1x1x512.size inb, w⟩ :: L)) (ix4 b h 0 q) = w (ix4 0 0 0 q) :=
  View.read_writes_cons_unit_of_mem v f inb w L _ (ix4 0 0 0 q) rfl (fin4 rfl (rfl) rfl (Nat.zero_add _).symm)
theorem skip10 (v : View sig κ sp S2x4x1x512 .f32) (f : v.ty.Contents (Elt Ideal)) (b : Fin 2) (g h : Fin 4) (hne : g ≠ h) (inb : ∀ a, ![b.val, g.val, 0, 0] a + S1x1x1x512.size a ≤ S2x4x1x512.size a)
    (w : FVec Ideal S1x1x1x512 .f32) (L) (q : Fin 512) :
    v.read (Elt Ideal) (v.writes (Elt Ideal) f (⟨Rect.unit (s := S2x4x1x512) ![b.val, g.val, 0, 0] S1x1x1x512.size inb, w⟩ :: L)) (ix4 b h 0 q) = v.read (Elt Ideal) (v.writes (Elt Ideal) f L) (ix4 b h 0 q) :=
  View.read_writes_cons_unit_of_not_mem v f inb w L _ rfl (1 : Fin 4) (by
    have : g.val ≠ h.val := fun e => hne (Fin.ext e)
    show h.val < g.val ∨ g.val + 1 ≤ h.val
    omega)

theorem slot9 (v : View sig κ sp S2x4x512x512 .f32) (f : v.ty.Contents (Elt Ideal)) (b' b : Fin 2) (g h : Fin 4) (hne : b' ≠ b) (inb : ∀ a, ![b'.val, g.val, 0, 0] a + S1x1x512x512.size a ≤ S2x4x512x512.size a)
    (w : FVec Ideal S1x1x512x512 .f32) (L) (j q : Fin 512) :
    v.read (Elt Ideal) (v.writes (Elt Ideal) f (⟨Rect.unit (s := S2x4x512x512) ![b'.val, g.val, 0, 0] S1x1x512x512.size inb, w⟩ :: L)) (ix4 b h j q) = v.read (Elt Ideal) (v.writes (Elt Ideal) f L) (ix4 b h j q) :=
  View.read_writes_cons_unit_of_not_mem v f inb w L _ rfl (0 : Fin 4) (by
    have : b'.val ≠ b.val := fun e => hne (Fin.ext e)
    show b.val < b'.val ∨ b'.val + 1 ≤ b.val
    omega)

theorem slot10 (v : View sig κ sp S2x4x1x512 .f32) (f : v.ty.Contents (Elt Ideal)) (b' b : Fin 2) (g h : Fin 4) (hne : b' ≠ b) (inb : ∀ a, ![b'.val, g.val, 0, 0] a + S1x1x1x512.size a ≤ S2x4x1x512.size a)
    (w : FVec Ideal S1x1x1x512 .f32) (L) (q : Fin 512) :
    v.read (Elt Ideal) (v.writes (Elt Ideal) f (⟨Rect.unit (s := S2x4x1x512) ![b'.val, g.val, 0, 0] S1x1x1x512.size inb, w⟩ :: L)) (ix4 b h 0 q) = v.read (Elt Ideal) (v.writes (Elt Ideal) f L) (ix4 b h 0 q) :=
  View.read_writes_cons_unit_of_not_mem v f inb w L _ rfl (0 : Fin 4) (by
    have : b'.val ≠ b.val := fun e => hne (Fin.ext e)
    show b.val < b'.val ∨ b'.val + 1 ≤ b.val
    omega)

theorem ld11 (v : View sig κ sp S4x1x512 .f32) (f : v.ty.Contents (Elt Ideal)) (h : Fin 4) {off : Fin 3 → ℕ} (heq : off = ![h.val, 0, 0]) (inb : ∀ a, off a + S1x1x512.size a ≤ S4x1x512.size a) (q : Fin 512) :
    v.readAt (Elt Ideal) (Rect.unit (s := S4x1x512) off S1x1x512.size inb).toLoadRect f (ix3 0 0 q) = v.read (Elt Ideal) f (ix3 h 0 q) :=
  ldAt v f inb (ix3 0 0 q) _ heq (fin3 rfl rfl (Nat.zero_add _).symm)

theorem ld13 (v : View sig κ sp S4x128x512 .f32) (f : v.ty.Contents (Elt Ideal)) (h : Fin 4) {off : Fin 3 → ℕ} (heq : off = ![h.val, 0, 0]) (inb : ∀ a, off a + S1x128x512.size a ≤ S4x128x512.size a) (d : Fin 128) (q : Fin 512) :
    v.readAt (Elt Ideal) (Rect.unit (s := S4x128x512) off S1x128x512.size inb).toLoadRect f (ix3 0 d q) = v.read (Elt Ideal) f (ix3 h d q) :=
  ldAt v f inb (ix3 0 d q) _ heq (fin3 rfl (Nat.zero_add _).symm (Nat.zero_add _).symm)

theorem ld9 (v : View sig κ sp S2x4x512x512 .f32) (f : v.ty.Contents (Elt Ideal)) (b : Fin 2) (h : Fin 4) {off : Fin 4 → ℕ} (heq : off = ![b.val, h.val, 0, 0]) (inb : ∀ a, off a + S1x1x512x512.size a ≤ S2x4x512x512.size a) (j q : Fin 512) :
    v.readAt (Elt Ideal) (Rect.unit (s := S2x4x512x512) off S1x1x512x512.size inb).toLoadRect f (ix4 0 0 j q) = v.read (Elt Ideal) f (ix4 b h j q) :=
  ldAt v f inb (ix4 0 0 j q) _ heq (fin4 rfl rfl (Nat.zero_add _).symm (Nat.zero_add _).symm)

theorem ld10 (v : View sig κ sp S2x4x1x512 .f32) (f : v.ty.Contents (Elt Ideal)) (b : Fin 2) (h : Fin 4) {off : Fin 4 → ℕ} (heq : off = ![b.val, h.val, 0, 0]) (inb : ∀ a, off a + S1x1x1x512.size a ≤ S2x4x1x512.size a) (q : Fin 512) :
    v.readAt (Elt Ideal) (Rect.unit (s := S2x4x1x512) off S1x1x1x512.size inb).toLoadRect f (ix4 0 0 0 q) = v.read (Elt Ideal) f (ix4 b h 0 q) :=
  ldAt v f inb (ix4 0 0 0 q) _ heq (fin4 rfl rfl rfl (Nat.zero_add _).symm)

end Wr

theorem stepM {a : ℕ → Fin 512 → EReal} {n : ℕ} {m x : EReal} (hm : m = Cert.Mla.M a n) (hx : x = Cert.Mla.mx (a n)) :
    max m x = Cert.Mla.M a (n + 1) := by subst hm hx; rfl
theorem stepL {a : ℕ → Fin 512 → EReal} {n : ℕ} {m x l : EReal} {s : Fin 512 → EReal} (hm : m = Cert.Mla.M a n) (hx : x = Cert.Mla.mx (a n))
    (hl : l = Cert.Mla.L a n) (hs : ∀ j, s j = a n j) :
    Ideal.exp2 (m - max m x) * l + ∑ j : Fin 512, Ideal.exp2 (s j - max m x) = Cert.Mla.L a (n + 1) := by
  obtain rfl : s = a n := funext hs
  subst hm hx hl; rfl
theorem stepA {a v : ℕ → Fin 512 → EReal} {n : ℕ} {m x l : EReal} {s w : Fin 512 → EReal} (hm : m = Cert.Mla.M a n) (hx : x = Cert.Mla.mx (a n))
    (hl : l = Cert.Mla.A a v n) (hs : ∀ j, s j = a n j) (hw : ∀ j, w j = v n j) :
    Ideal.exp2 (m - max m x) * l + ∑ j : Fin 512, w j * Ideal.exp2 (s j - max m x) = Cert.Mla.A a v (n + 1) := by
  obtain rfl : s = a n := funext hs
  obtain rfl : w = v n := funext hw
  subst hm hx hl; rfl

end Cert.KernelIdeal.Mla
-- ==== Proof.MlaTrip.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaRd
public import proofs.«01_k».proof.Proof.Offs

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

theorem trM0 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h10 : arg10.view.read (Elt Ideal) f_arg10 (ix4 0 0 0 q) = Cert.Mla.mx ((lg v35 (arg5.view.read (Elt Ideal) X_arg5) (arg6.view.read (Elt Ideal) X_arg6) 0 q) (2 * k.val)))
   (h11 : arg11.view.read (Elt Ideal) f_arg11 (ix3 0 0 q) = Cert.Mla.M (lg v35 (arg5.view.read (Elt Ideal) X_arg5) (arg6.view.read (Elt Ideal) X_arg6) 0 q) (2 * k.val)) :
   arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.1 acc f_arg9 f_arg10 f_arg11 f_arg12 f_arg13)) (ix3 0 0 q)
     = Cert.Mla.M (lg v35 (arg5.view.read (Elt Ideal) X_arg5) (arg6.view.read (Elt Ideal) X_arg6) 0 q) (2 * k.val + 2) := by
  unfold trip_k0_t1; dsimp only
  refine (skip11 _ _ 3 0 (by decide) _ _ _ q).trans ?_
  refine (skip11 _ _ 2 0 (by decide) _ _ _ q).trans ?_
  refine (skip11 _ _ 1 0 (by decide) _ _ _ q).trans ?_
  refine (hit11 _ _ 0 _ _ _ q).trans ?_
  refine (p22 _ _ q).trans ?_
  refine stepM (n := 2 * k.val + 1) ?_ ?_
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (p22 _ _ q).trans ?_
    refine stepM ?_ ?_
    · exact (ld11 _ _ 0 rfl _ q).trans h11
    · exact (ld10 _ _ 0 0 rfl _ q).trans h10
  · refine (ld10 _ _ 1 0 rfl _ q).trans ?_
    refine (slot10 _ _ 0 1 3 0 (by decide) _ _ _ q).trans ?_
    refine (slot10 _ _ 0 1 2 0 (by decide) _ _ _ q).trans ?_
    refine (slot10 _ _ 0 1 1 0 (by decide) _ _ _ q).trans ?_
    refine (slot10 _ _ 0 1 0 0 (by decide) _ _ _ q).trans ?_
    refine (skip10 _ _ 1 3 0 (by decide) _ _ _ q).trans ?_
    refine (skip10 _ _ 1 2 0 (by decide) _ _ _ q).trans ?_
    refine (skip10 _ _ 1 1 0 (by decide) _ _ _ q).trans ?_
    refine (hit10 _ _ 1 0 _ _ _ q).trans ?_
    refine (p7 v35 _ _ q).trans ?_
    exact congrArg Cert.Mla.mx (funext fun j => congr (congrArg₂ (k0_pay5 (F := Ideal) v35) (rd5 _ _ 0 (2 * k.val + 1) (by have h1 := lt_of_lt_of_eq k.isLt (trips1 i); have h2 := qt_lt i; omega) _ (off1_1 i k)) (rd6 _ _ (2 * k.val + 1) (by have h1 := lt_of_lt_of_eq k.isLt (trips1 i); have h2 := qt_lt i; omega) _ (off2_1 i k))) rfl)

theorem trL0 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h9 : ∀ j, arg9.view.read (Elt Ideal) f_arg9 (ix4 0 0 j q) = (lg v35 (arg5.view.read (Elt Ideal) X_arg5) (arg6.view.read (Elt Ideal) X_arg6) 0 q) (2 * k.val) j)
   (h10 : arg10.view.read (Elt Ideal) f_arg10 (ix4 0 0 0 q) = Cert.Mla.mx ((lg v35 (arg5.view.read (Elt Ideal) X_arg5) (arg6.view.read (Elt Ideal) X_arg6) 0 q) (2 * k.val)))
   (h11 : arg11.view.read (Elt Ideal) f_arg11 (ix3 0 0 q) = Cert.Mla.M (lg v35 (arg5.view.read (Elt Ideal) X_arg5) (arg6.view.read (Elt Ideal) X_arg6) 0 q) (2 * k.val))
   (h12 : arg12.view.read (Elt Ideal) f_arg12 (ix3 0 0 q) = Cert.Mla.L (lg v35 (arg5.view.read (Elt Ideal) X_arg5) (arg6.view.read (Elt Ideal) X_arg6) 0 q) (2 * k.val)) :
   arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.1 acc f_arg9 f_arg10 f_arg11 f_arg12 f_arg13)) (ix3 0 0 q)
     = Cert.Mla.L (lg v35 (arg5.view.read (Elt Ideal) X_arg5) (arg6.view.read (Elt Ideal) X_arg6) 0 q) (2 * k.val + 2) := by
  unfold trip_k0_t1; dsimp only
  refine (skip11 _ _ 3 0 (by decide) _ _ _ q).trans ?_
  refine (skip11 _ _ 2 0 (by decide) _ _ _ q).trans ?_
  refine (skip11 _ _ 1 0 (by decide) _ _ _ q).trans ?_
  refine (hit11 _ _ 0 _ _ _ q).trans ?_
  refine (p23 _ _ _ _ q).trans ?_
  refine stepL (n := 2 * k.val + 1) ?_ ?_ ?_ ?_
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (p22 _ _ q).trans ?_
    refine stepM ?_ ?_
    · exact (ld11 _ _ 0 rfl _ q).trans h11
    · exact (ld10 _ _ 0 0 rfl _ q).trans h10
  · refine (ld10 _ _ 1 0 rfl _ q).trans ?_
    refine (slot10 _ _ 0 1 3 0 (by decide) _ _ _ q).trans ?_
    refine (slot10 _ _ 0 1 2 0 (by decide) _ _ _ q).trans ?_
    refine (slot10 _ _ 0 1 1 0 (by decide) _ _ _ q).trans ?_
    refine (slot10 _ _ 0 1 0 0 (by decide) _ _ _ q).trans ?_
    refine (skip10 _ _ 1 3 0 (by decide) _ _ _ q).trans ?_
    refine (skip10 _ _ 1 2 0 (by decide) _ _ _ q).trans ?_
    refine (skip10 _ _ 1 1 0 (by decide) _ _ _ q).trans ?_
    refine (hit10 _ _ 1 0 _ _ _ q).trans ?_
    refine (p7 v35 _ _ q).trans ?_
    exact congrArg Cert.Mla.mx (funext fun j => congr (congrArg₂ (k0_pay5 (F := Ideal) v35) (rd5 _ _ 0 (2 * k.val + 1) (by have h1 := lt_of_lt_of_eq k.isLt (trips1 i); have h2 := qt_lt i; omega) _ (off1_1 i k)) (rd6 _ _ (2 * k.val + 1) (by have h1 := lt_of_lt_of_eq k.isLt (trips1 i); have h2 := qt_lt i; omega) _ (off2_1 i k))) rfl)
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (p23 _ _ _ _ q).trans ?_
    refine stepL ?_ ?_ ?_ ?_
    · exact (ld11 _ _ 0 rfl _ q).trans h11
    · exact (ld10 _ _ 0 0 rfl _ q).trans h10
    · exact (ld11 _ _ 0 rfl _ q).trans h12
    · exact fun j => (ld9 _ _ 0 0 rfl _ j q).trans (h9 j)
  · intro j
    refine (ld9 _ _ 1 0 rfl _ j q).trans ?_
    refine (slot9 _ _ 0 1 3 0 (by decide) _ _ _ j q).trans ?_
    refine (slot9 _ _ 0 1 2 0 (by decide) _ _ _ j q).trans ?_
    refine (slot9 _ _ 0 1 1 0 (by decide) _ _ _ j q).trans ?_
    refine (slot9 _ _ 0 1 0 0 (by decide) _ _ _ j q).trans ?_
    refine (skip9 _ _ 1 3 0 (by decide) _ _ _ j q).trans ?_
    refine (skip9 _ _ 1 2 0 (by decide) _ _ _ j q).trans ?_
    refine (skip9 _ _ 1 1 0 (by decide) _ _ _ j q).trans ?_
    refine (hit9 _ _ 1 0 _ _ _ j q).trans ?_
    refine (p6 v35 _ _ j q).trans ?_
    exact congr (congrArg₂ (k0_pay5 (F := Ideal) v35) (rd5 _ _ 0 (2 * k.val + 1) (by have h1 := lt_of_lt_of_eq k.isLt (trips1 i); have h2 := qt_lt i; omega) _ (off1_1 i k)) (rd6 _ _ (2 * k.val + 1) (by have h1 := lt_of_lt_of_eq k.isLt (trips1 i); have h2 := qt_lt i; omega) _ (off2_1 i k))) rfl

theorem trA0 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (d : Fin 128) (q : Fin 512) (h9 : ∀ j, arg9.view.read (Elt Ideal) f_arg9 (ix4 0 0 j q) = (lg v35 (arg5.view.read (Elt Ideal) X_arg5) (arg6.view.read (Elt Ideal) X_arg6) 0 q) (2 * k.val) j)
   (h10 : arg10.view.read (Elt Ideal) f_arg10 (ix4 0 0 0 q) = Cert.Mla.mx ((lg v35 (arg5.view.read (Elt Ideal) X_arg5) (arg6.view.read (Elt Ideal) X_arg6) 0 q) (2 * k.val)))
   (h11 : arg11.view.read (Elt Ideal) f_arg11 (ix3 0 0 q) = Cert.Mla.M (lg v35 (arg5.view.read (Elt Ideal) X_arg5) (arg6.view.read (Elt Ideal) X_arg6) 0 q) (2 * k.val))
   (h13 : arg13.view.read (Elt Ideal) f_arg13 (ix3 0 d q) = Cert.Mla.A (lg v35 (arg5.view.read (Elt Ideal) X_arg5) (arg6.view.read (Elt Ideal) X_arg6) 0 q) (vl (arg7.view.read (Elt Ideal) X_arg7) 0 d) (2 * k.val)) :
   arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.2.1 acc f_arg9 f_arg10 f_arg11 f_arg12 f_arg13)) (ix3 0 d q)
     = Cert.Mla.A (lg v35 (arg5.view.read (Elt Ideal) X_arg5) (arg6.view.read (Elt Ideal) X_arg6) 0 q) (vl (arg7.view.read (Elt Ideal) X_arg7) 0 d) (2 * k.val + 2) := by
  unfold trip_k0_t1; dsimp only
  refine (skip13 _ _ 3 0 (by decide) _ _ _ d q).trans ?_
  refine (skip13 _ _ 2 0 (by decide) _ _ _ d q).trans ?_
  refine (skip13 _ _ 1 0 (by decide) _ _ _ d q).trans ?_
  refine (hit13 _ _ 0 _ _ _ d q).trans ?_
  refine (p24 _ _ _ _ _ d q).trans ?_
  refine stepA (n := 2 * k.val + 1) ?_ ?_ ?_ ?_ ?_
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (p22 _ _ q).trans ?_
    refine stepM ?_ ?_
    · exact (ld11 _ _ 0 rfl _ q).trans h11
    · exact (ld10 _ _ 0 0 rfl _ q).trans h10
  · refine (ld10 _ _ 1 0 rfl _ q).trans ?_
    refine (slot10 _ _ 0 1 3 0 (by decide) _ _ _ q).trans ?_
    refine (slot10 _ _ 0 1 2 0 (by decide) _ _ _ q).trans ?_
    refine (slot10 _ _ 0 1 1 0 (by decide) _ _ _ q).trans ?_
    refine (slot10 _ _ 0 1 0 0 (by decide) _ _ _ q).trans ?_
    refine (skip10 _ _ 1 3 0 (by decide) _ _ _ q).trans ?_
    refine (skip10 _ _ 1 2 0 (by decide) _ _ _ q).trans ?_
    refine (skip10 _ _ 1 1 0 (by decide) _ _ _ q).trans ?_
    refine (hit10 _ _ 1 0 _ _ _ q).trans ?_
    refine (p7 v35 _ _ q).trans ?_
    exact congrArg Cert.Mla.mx (funext fun j => congr (congrArg₂ (k0_pay5 (F := Ideal) v35) (rd5 _ _ 0 (2 * k.val + 1) (by have h1 := lt_of_lt_of_eq k.isLt (trips1 i); have h2 := qt_lt i; omega) _ (off1_1 i k)) (rd6 _ _ (2 * k.val + 1) (by have h1 := lt_of_lt_of_eq k.isLt (trips1 i); have h2 := qt_lt i; omega) _ (off2_1 i k))) rfl)
  · refine (ld13 _ _ 0 rfl _ d q).trans ?_
    refine (skip13 _ _ 3 0 (by decide) _ _ _ d q).trans ?_
    refine (skip13 _ _ 2 0 (by decide) _ _ _ d q).trans ?_
    refine (skip13 _ _ 1 0 (by decide) _ _ _ d q).trans ?_
    refine (hit13 _ _ 0 _ _ _ d q).trans ?_
    refine (p24 _ _ _ _ _ d q).trans ?_
    refine stepA ?_ ?_ ?_ ?_ ?_
    · exact (ld11 _ _ 0 rfl _ q).trans h11
    · exact (ld10 _ _ 0 0 rfl _ q).trans h10
    · exact (ld13 _ _ 0 rfl _ d q).trans h13
    · exact fun j => (ld9 _ _ 0 0 rfl _ j q).trans (h9 j)
    · exact fun j => congrFun (rd7 _ _ 0 (2 * k.val) (by have h1 := lt_of_lt_of_eq k.isLt (trips1 i); have h2 := qt_lt i; omega) _ (off6 i k)) _
  · intro j
    refine (ld9 _ _ 1 0 rfl _ j q).trans ?_
    refine (slot9 _ _ 0 1 3 0 (by decide) _ _ _ j q).trans ?_
    refine (slot9 _ _ 0 1 2 0 (by decide) _ _ _ j q).trans ?_
    refine (slot9 _ _ 0 1 1 0 (by decide) _ _ _ j q).trans ?_
    refine (slot9 _ _ 0 1 0 0 (by decide) _ _ _ j q).trans ?_
    refine (skip9 _ _ 1 3 0 (by decide) _ _ _ j q).trans ?_
    refine (skip9 _ _ 1 2 0 (by decide) _ _ _ j q).trans ?_
    refine (skip9 _ _ 1 1 0 (by decide) _ _ _ j q).trans ?_
    refine (hit9 _ _ 1 0 _ _ _ j q).trans ?_
    refine (p6 v35 _ _ j q).trans ?_
    exact congr (congrArg₂ (k0_pay5 (F := Ideal) v35) (rd5 _ _ 0 (2 * k.val + 1) (by have h1 := lt_of_lt_of_eq k.isLt (trips1 i); have h2 := qt_lt i; omega) _ (off1_1 i k)) (rd6 _ _ (2 * k.val + 1) (by have h1 := lt_of_lt_of_eq k.isLt (trips1 i); have h2 := qt_lt i; omega) _ (off2_1 i k))) rfl
  · exact fun j => congrFun (rd7 _ _ 0 (2 * k.val + 1) (by have h1 := lt_of_lt_of_eq k.isLt (trips1 i); have h2 := qt_lt i; omega) _ (off10 i k)) _

theorem trS0 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (j q : Fin 512) :
   arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.1 acc f_arg9 f_arg10 f_arg11 f_arg12 f_arg13)) (ix4 0 0 j q)
     = (lg v35 (arg5.view.read (Elt Ideal) X_arg5) (arg6.view.read (Elt Ideal) X_arg6) 0 q) (2 * k.val + 2) j := by
  unfold trip_k0_t1; dsimp only
  refine (skip9 _ _ 0 3 0 (by decide) _ _ _ j q).trans ?_
  refine (skip9 _ _ 0 2 0 (by decide) _ _ _ j q).trans ?_
  refine (skip9 _ _ 0 1 0 (by decide) _ _ _ j q).trans ?_
  refine (hit9 _ _ 0 0 _ _ _ j q).trans ?_
  refine (p6 v35 _ _ j q).trans ?_
  exact congr (congrArg₂ (k0_pay5 (F := Ideal) v35) (rd5 _ _ 0 (2 * k.val + 2) (by have h1 := lt_of_lt_of_eq k.isLt (trips1 i); have h2 := qt_lt i; omega) _ (off1_2 i k)) (rd6 _ _ (2 * k.val + 2) (by have h1 := lt_of_lt_of_eq k.isLt (trips1 i); have h2 := qt_lt i; omega) _ (off2_2 i k))) rfl

theorem trX0 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) :
   arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.1 acc f_arg9 f_arg10 f_arg11 f_arg12 f_arg13)) (ix4 0 0 0 q)
     = Cert.Mla.mx ((lg v35 (arg5.view.read (Elt Ideal) X_arg5) (arg6.view.read (Elt Ideal) X_arg6) 0 q) (2 * k.val + 2)) := by
  unfold trip_k0_t1; dsimp only
  refine (skip10 _ _ 0 3 0 (by decide) _ _ _ q).trans ?_
  refine (skip10 _ _ 0 2 0 (by decide) _ _ _ q).trans ?_
  refine (skip10 _ _ 0 1 0 (by decide) _ _ _ q).trans ?_
  refine (hit10 _ _ 0 0 _ _ _ q).trans ?_
  refine (p7 v35 _ _ q).trans ?_
  exact congrArg Cert.Mla.mx (funext fun j => congr (congrArg₂ (k0_pay5 (F := Ideal) v35) (rd5 _ _ 0 (2 * k.val + 2) (by have h1 := lt_of_lt_of_eq k.isLt (trips1 i); have h2 := qt_lt i; omega) _ (off1_2 i k)) (rd6 _ _ (2 * k.val + 2) (by have h1 := lt_of_lt_of_eq k.isLt (trips1 i); have h2 := qt_lt i; omega) _ (off2_2 i k))) rfl)

theorem trM1 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h10 : arg10.view.read (Elt Ideal) f_arg10 (ix4 0 1 0 q) = Cert.Mla.mx ((lg v71 (arg5.view.read (Elt Ideal) X_arg5) (arg6.view.read (Elt Ideal) X_arg6) 1 q) (2 * k.val)))
   (h11 : arg11.view.read (Elt Ideal) f_arg11 (ix3 1 0 q) = Cert.Mla.M (lg v71 (arg5.view.read (Elt Ideal) X_arg5) (arg6.view.read (Elt Ideal) X_arg6) 1 q) (2 * k.val)) :
   arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.1 acc f_arg9 f_arg10 f_arg11 f_arg12 f_arg13)) (ix3 1 0 q)
     = Cert.Mla.M (lg v71 (arg5.view.read (Elt Ideal) X_arg5) (arg6.view.read (Elt Ideal) X_arg6) 1 q) (2 * k.val + 2) := by
  unfold trip_k0_t1; dsimp only
  refine (skip11 _ _ 3 1 (by decide) _ _ _ q).trans ?_
  refine (skip11 _ _ 2 1 (by decide) _ _ _ q).trans ?_
  refine (hit11 _ _ 1 _ _ _ q).trans ?_
  refine (p22 _ _ q).trans ?_
  refine stepM (n := 2 * k.val + 1) ?_ ?_
  · refine (ld11 _ _ 1 rfl _ q).trans ?_
    refine (skip11 _ _ 0 1 (by decide) _ _ _ q).trans ?_
    refine (skip11 _ _ 3 1 (by decide) _ _ _ q).trans ?_
    refine (skip11 _ _ 2 1 (by decide) _ _ _ q).trans ?_
    refine (hit11 _ _ 1 _ _ _ q).trans ?_
    refine (p22 _ _ q).trans ?_
    refine stepM ?_ ?_
    · exact (ld11 _ _ 1 rfl _ q).trans h11
    · exact (ld10 _ _ 0 1 rfl _ q).trans h10
  · refine (ld10 _ _ 1 1 rfl _ q).trans ?_
    refine (slot10 _ _ 0 1 3 1 (by decide) _ _ _ q).trans ?_
    refine (slot10 _ _ 0 1 2 1 (by decide) _ _ _ q).trans ?_
    refine (slot10 _ _ 0 1 1 1 (by decide) _ _ _ q).trans ?_
    refine (slot10 _ _ 0 1 0 1 (by decide) _ _ _ q).trans ?_
    refine (skip10 _ _ 1 3 1 (by decide) _ _ _ q).trans ?_
    refine (skip10 _ _ 1 2 1 (by decide) _ _ _ q).trans ?_
    refine (hit10 _ _ 1 1 _ _ _ q).trans ?_
    refine (p7 v71 _ _ q).trans ?_
    exact congrArg Cert.Mla.mx (funext fun j => congr (congrArg₂ (k0_pay5 (F := Ideal) v71) (rd5 _ _ 1 (2 * k.val + 1) (by have h1 := lt_of_lt_of_eq k.isLt (trips1 i); have h2 := qt_lt i; omega) _ (off3_1 i k)) (rd6 _ _ (2 * k.val + 1) (by have h1 := lt_of_lt_of_eq k.isLt (trips1 i); have h2 := qt_lt i; omega) _ (off2_1 i k))) rfl)

theorem trL1 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h9 : ∀ j, arg9.view.read (Elt Ideal) f_arg9 (ix4 0 1 j q) = (lg v71 (arg5.view.read (Elt Ideal) X_arg5) (arg6.view.read (Elt Ideal) X_arg6) 1 q) (2 * k.val) j)
   (h10 : arg10.view.read (Elt Ideal) f_arg10 (ix4 0 1 0 q) = Cert.Mla.mx ((lg v71 (arg5.view.read (Elt Ideal) X_arg5) (arg6.view.read (Elt Ideal) X_arg6) 1 q) (2 * k.val)))
   (h11 : arg11.view.read (Elt Ideal) f_arg11 (ix3 1 0 q) = Cert.Mla.M (lg v71 (arg5.view.read (Elt Ideal) X_arg5) (arg6.view.read (Elt Ideal) X_arg6) 1 q) (2 * k.val))
   (h12 : arg12.view.read (Elt Ideal) f_arg12 (ix3 1 0 q) = Cert.Mla.L (lg v71 (arg5.view.read (Elt Ideal) X_arg5) (arg6.view.read (Elt Ideal) X_arg6) 1 q) (2 * k.val)) :
   arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.1 acc f_arg9 f_arg10 f_arg11 f_arg12 f_arg13)) (ix3 1 0 q)
     = Cert.Mla.L (lg v71 (arg5.view.read (Elt Ideal) X_arg5) (arg6.view.read (Elt Ideal) X_arg6) 1 q) (2 * k.val + 2) := by
  unfold trip_k0_t1; dsimp only
  refine (skip11 _ _ 3 1 (by decide) _ _ _ q).trans ?_
  refine (skip11 _ _ 2 1 (by decide) _ _ _ q).trans ?_
  refine (hit11 _ _ 1 _ _ _ q).trans ?_
  refine (p23 _ _ _ _ q).trans ?_
  refine stepL (n := 2 * k.val + 1) ?_ ?_ ?_ ?_
  · refine (ld11 _ _ 1 rfl _ q).trans ?_
    refine (skip11 _ _ 0 1 (by decide) _ _ _ q).trans ?_
    refine (skip11 _ _ 3 1 (by decide) _ _ _ q).trans ?_
    refine (skip11 _ _ 2 1 (by decide) _ _ _ q).trans ?_
    refine (hit11 _ _ 1 _ _ _ q).trans ?_
    refine (p22 _ _ q).trans ?_
    refine stepM ?_ ?_
    · exact (ld11 _ _ 1 rfl _ q).trans h11
    · exact (ld10 _ _ 0 1 rfl _ q).trans h10
  · refine (ld10 _ _ 1 1 rfl _ q).trans ?_
    refine (slot10 _ _ 0 1 3 1 (by decide) _ _ _ q).trans ?_
    refine (slot10 _ _ 0 1 2 1 (by decide) _ _ _ q).trans ?_
    refine (slot10 _ _ 0 1 1 1 (by decide) _ _ _ q).trans ?_
    refine (slot10 _ _ 0 1 0 1 (by decide) _ _ _ q).trans ?_
    refine (skip10 _ _ 1 3 1 (by decide) _ _ _ q).trans ?_
    refine (skip10 _ _ 1 2 1 (by decide) _ _ _ q).trans ?_
    refine (hit10 _ _ 1 1 _ _ _ q).trans ?_
    refine (p7 v71 _ _ q).trans ?_
    exact congrArg Cert.Mla.mx (funext fun j => congr (congrArg₂ (k0_pay5 (F := Ideal) v71) (rd5 _ _ 1 (2 * k.val + 1) (by have h1 := lt_of_lt_of_eq k.isLt (trips1 i); have h2 := qt_lt i; omega) _ (off3_1 i k)) (rd6 _ _ (2 * k.val + 1) (by have h1 := lt_of_lt_of_eq k.isLt (trips1 i); have h2 := qt_lt i; omega) _ (off2_1 i k))) rfl)
  · refine (ld11 _ _ 1 rfl _ q).trans ?_
    refine (skip11 _ _ 0 1 (by decide) _ _ _ q).trans ?_
    refine (skip11 _ _ 3 1 (by decide) _ _ _ q).trans ?_
    refine (skip11 _ _ 2 1 (by decide) _ _ _ q).trans ?_
    refine (hit11 _ _ 1 _ _ _ q).trans ?_
    refine (p23 _ _ _ _ q).trans ?_
    refine stepL ?_ ?_ ?_ ?_
    · exact (ld11 _ _ 1 rfl _ q).trans h11
    · exact (ld10 _ _ 0 1 rfl _ q).trans h10
    · exact (ld11 _ _ 1 rfl _ q).trans h12
    · exact fun j => (ld9 _ _ 0 1 rfl _ j q).trans (h9 j)
  · intro j
    refine (ld9 _ _ 1 1 rfl _ j q).trans ?_
    refine (slot9 _ _ 0 1 3 1 (by decide) _ _ _ j q).trans ?_
    refine (slot9 _ _ 0 1 2 1 (by decide) _ _ _ j q).trans ?_
    refine (slot9 _ _ 0 1 1 1 (by decide) _ _ _ j q).trans ?_
    refine (slot9 _ _ 0 1 0 1 (by decide) _ _ _ j q).trans ?_
    refine (skip9 _ _ 1 3 1 (by decide) _ _ _ j q).trans ?_
    refine (skip9 _ _ 1 2 1 (by decide) _ _ _ j q).trans ?_
    refine (hit9 _ _ 1 1 _ _ _ j q).trans ?_
    refine (p6 v71 _ _ j q).trans ?_
    exact congr (congrArg₂ (k0_pay5 (F := Ideal) v71) (rd5 _ _ 1 (2 * k.val + 1) (by have h1 := lt_of_lt_of_eq k.isLt (trips1 i); have h2 := qt_lt i; omega) _ (off3_1 i k)) (rd6 _ _ (2 * k.val + 1) (by have h1 := lt_of_lt_of_eq k.isLt (trips1 i); have h2 := qt_lt i; omega) _ (off2_1 i k))) rfl

theorem trA1 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (d : Fin 128) (q : Fin 512) (h9 : ∀ j, arg9.view.read (Elt Ideal) f_arg9 (ix4 0 1 j q) = (lg v71 (arg5.view.read (Elt Ideal) X_arg5) (arg6.view.read (Elt Ideal) X_arg6) 1 q) (2 * k.val) j)
   (h10 : arg10.view.read (Elt Ideal) f_arg10 (ix4 0 1 0 q) = Cert.Mla.mx ((lg v71 (arg5.view.read (Elt Ideal) X_arg5) (arg6.view.read (Elt Ideal) X_arg6) 1 q) (2 * k.val)))
   (h11 : arg11.view.read (Elt Ideal) f_arg11 (ix3 1 0 q) = Cert.Mla.M (lg v71 (arg5.view.read (Elt Ideal) X_arg5) (arg6.view.read (Elt Ideal) X_arg6) 1 q) (2 * k.val))
   (h13 : arg13.view.read (Elt Ideal) f_arg13 (ix3 1 d q) = Cert.Mla.A (lg v71 (arg5.view.read (Elt Ideal) X_arg5) (arg6.view.read (Elt Ideal) X_arg6) 1 q) (vl (arg7.view.read (Elt Ideal) X_arg7) 1 d) (2 * k.val)) :
   arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.2.1 acc f_arg9 f_arg10 f_arg11 f_arg12 f_arg13)) (ix3 1 d q)
     = Cert.Mla.A (lg v71 (arg5.view.read (Elt Ideal) X_arg5) (arg6.view.read (Elt Ideal) X_arg6) 1 q) (vl (arg7.view.read (Elt Ideal) X_arg7) 1 d) (2 * k.val + 2) := by
  unfold trip_k0_t1; dsimp only
  refine (skip13 _ _ 3 1 (by decide) _ _ _ d q).trans ?_
  refine (skip13 _ _ 2 1 (by decide) _ _ _ d q).trans ?_
  refine (hit13 _ _ 1 _ _ _ d q).trans ?_
  refine (p24 _ _ _ _ _ d q).trans ?_
  refine stepA (n := 2 * k.val + 1) ?_ ?_ ?_ ?_ ?_
  · refine (ld11 _ _ 1 rfl _ q).trans ?_
    refine (skip11 _ _ 0 1 (by decide) _ _ _ q).trans ?_
    refine (skip11 _ _ 3 1 (by decide) _ _ _ q).trans ?_
    refine (skip11 _ _ 2 1 (by decide) _ _ _ q).trans ?_
    refine (hit11 _ _ 1 _ _ _ q).trans ?_
    refine (p22 _ _ q).trans ?_
    refine stepM ?_ ?_
    · exact (ld11 _ _ 1 rfl _ q).trans h11
    · exact (ld10 _ _ 0 1 rfl _ q).trans h10
  · refine (ld10 _ _ 1 1 rfl _ q).trans ?_
    refine (slot10 _ _ 0 1 3 1 (by decide) _ _ _ q).trans ?_
    refine (slot10 _ _ 0 1 2 1 (by decide) _ _ _ q).trans ?_
    refine (slot10 _ _ 0 1 1 1 (by decide) _ _ _ q).trans ?_
    refine (slot10 _ _ 0 1 0 1 (by decide) _ _ _ q).trans ?_
    refine (skip10 _ _ 1 3 1 (by decide) _ _ _ q).trans ?_
    refine (skip10 _ _ 1 2 1 (by decide) _ _ _ q).trans ?_
    refine (hit10 _ _ 1 1 _ _ _ q).trans ?_
    refine (p7 v71 _ _ q).trans ?_
    exact congrArg Cert.Mla.mx (funext fun j => congr (congrArg₂ (k0_pay5 (F := Ideal) v71) (rd5 _ _ 1 (2 * k.val + 1) (by have h1 := lt_of_lt_of_eq k.isLt (trips1 i); have h2 := qt_lt i; omega) _ (off3_1 i k)) (rd6 _ _ (2 * k.val + 1) (by have h1 := lt_of_lt_of_eq k.isLt (trips1 i); have h2 := qt_lt i; omega) _ (off2_1 i k))) rfl)
  · refine (ld13 _ _ 1 rfl _ d q).trans ?_
    refine (skip13 _ _ 0 1 (by decide) _ _ _ d q).trans ?_
    refine (skip13 _ _ 3 1 (by decide) _ _ _ d q).trans ?_
    refine (skip13 _ _ 2 1 (by decide) _ _ _ d q).trans ?_
    refine (hit13 _ _ 1 _ _ _ d q).trans ?_
    refine (p24 _ _ _ _ _ d q).trans ?_
    refine stepA ?_ ?_ ?_ ?_ ?_
    · exact (ld11 _ _ 1 rfl _ q).trans h11
    · exact (ld10 _ _ 0 1 rfl _ q).trans h10
    · exact (ld13 _ _ 1 rfl _ d q).trans h13
    · exact fun j => (ld9 _ _ 0 1 rfl _ j q).trans (h9 j)
    · exact fun j => congrFun (rd7 _ _ 1 (2 * k.val) (by have h1 := lt_of_lt_of_eq k.isLt (trips1 i); have h2 := qt_lt i; omega) _ (off7 i k)) _
  · intro j
    refine (ld9 _ _ 1 1 rfl _ j q).trans ?_
    refine (slot9 _ _ 0 1 3 1 (by decide) _ _ _ j q).trans ?_
    refine (slot9 _ _ 0 1 2 1 (by decide) _ _ _ j q).trans ?_
    refine (slot9 _ _ 0 1 1 1 (by decide) _ _ _ j q).trans ?_
    refine (slot9 _ _ 0 1 0 1 (by decide) _ _ _ j q).trans ?_
    refine (skip9 _ _ 1 3 1 (by decide) _ _ _ j q).trans ?_
    refine (skip9 _ _ 1 2 1 (by decide) _ _ _ j q).trans ?_
    refine (hit9 _ _ 1 1 _ _ _ j q).trans ?_
    refine (p6 v71 _ _ j q).trans ?_
    exact congr (congrArg₂ (k0_pay5 (F := Ideal) v71) (rd5 _ _ 1 (2 * k.val + 1) (by have h1 := lt_of_lt_of_eq k.isLt (trips1 i); have h2 := qt_lt i; omega) _ (off3_1 i k)) (rd6 _ _ (2 * k.val + 1) (by have h1 := lt_of_lt_of_eq k.isLt (trips1 i); have h2 := qt_lt i; omega) _ (off2_1 i k))) rfl
  · exact fun j => congrFun (rd7 _ _ 1 (2 * k.val + 1) (by have h1 := lt_of_lt_of_eq k.isLt (trips1 i); have h2 := qt_lt i; omega) _ (off11 i k)) _

theorem trS1 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (j q : Fin 512) :
   arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.1 acc f_arg9 f_arg10 f_arg11 f_arg12 f_arg13)) (ix4 0 1 j q)
     = (lg v71 (arg5.view.read (Elt Ideal) X_arg5) (arg6.view.read (Elt Ideal) X_arg6) 1 q) (2 * k.val + 2) j := by
  unfold trip_k0_t1; dsimp only
  refine (skip9 _ _ 0 3 1 (by decide) _ _ _ j q).trans ?_
  refine (skip9 _ _ 0 2 1 (by decide) _ _ _ j q).trans ?_
  refine (hit9 _ _ 0 1 _ _ _ j q).trans ?_
  refine (p6 v71 _ _ j q).trans ?_
  exact congr (congrArg₂ (k0_pay5 (F := Ideal) v71) (rd5 _ _ 1 (2 * k.val + 2) (by have h1 := lt_of_lt_of_eq k.isLt (trips1 i); have h2 := qt_lt i; omega) _ (off3_2 i k)) (rd6 _ _ (2 * k.val + 2) (by have h1 := lt_of_lt_of_eq k.isLt (trips1 i); have h2 := qt_lt i; omega) _ (off2_2 i k))) rfl

theorem trX1 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) :
   arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.1 acc f_arg9 f_arg10 f_arg11 f_arg12 f_arg13)) (ix4 0 1 0 q)
     = Cert.Mla.mx ((lg v71 (arg5.view.read (Elt Ideal) X_arg5) (arg6.view.read (Elt Ideal) X_arg6) 1 q) (2 * k.val + 2)) := by
  unfold trip_k0_t1; dsimp only
  refine (skip10 _ _ 0 3 1 (by decide) _ _ _ q).trans ?_
  refine (skip10 _ _ 0 2 1 (by decide) _ _ _ q).trans ?_
  refine (hit10 _ _ 0 1 _ _ _ q).trans ?_
  refine (p7 v71 _ _ q).trans ?_
  exact congrArg Cert.Mla.mx (funext fun j => congr (congrArg₂ (k0_pay5 (F := Ideal) v71) (rd5 _ _ 1 (2 * k.val + 2) (by have h1 := lt_of_lt_of_eq k.isLt (trips1 i); have h2 := qt_lt i; omega) _ (off3_2 i k)) (rd6 _ _ (2 * k.val + 2) (by have h1 := lt_of_lt_of_eq k.isLt (trips1 i); have h2 := qt_lt i; omega) _ (off2_2 i k))) rfl)

theorem trM2 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h10 : arg10.view.read (Elt Ideal) f_arg10 (ix4 0 2 0 q) = Cert.Mla.mx ((lg v107 (arg5.view.read (Elt Ideal) X_arg5) (arg6.view.read (Elt Ideal) X_arg6) 2 q) (2 * k.val)))
   (h11 : arg11.view.read (Elt Ideal) f_arg11 (ix3 2 0 q) = Cert.Mla.M (lg v107 (arg5.view.read (Elt Ideal) X_arg5) (arg6.view.read (Elt Ideal) X_arg6) 2 q) (2 * k.val)) :
   arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.1 acc f_arg9 f_arg10 f_arg11 f_arg12 f_arg13)) (ix3 2 0 q)
     = Cert.Mla.M (lg v107 (arg5.view.read (Elt Ideal) X_arg5) (arg6.view.read (Elt Ideal) X_arg6) 2 q) (2 * k.val + 2) := by
  unfold trip_k0_t1; dsimp only
  refine (skip11 _ _ 3 2 (by decide) _ _ _ q).trans ?_
  refine (hit11 _ _ 2 _ _ _ q).trans ?_
  refine (p22 _ _ q).trans ?_
  refine stepM (n := 2 * k.val + 1) ?_ ?_
  · refine (ld11 _ _ 2 rfl _ q).trans ?_
    refine (skip11 _ _ 1 2 (by decide) _ _ _ q).trans ?_
    refine (skip11 _ _ 0 2 (by decide) _ _ _ q).trans ?_
    refine (skip11 _ _ 3 2 (by decide) _ _ _ q).trans ?_
    refine (hit11 _ _ 2 _ _ _ q).trans ?_
    refine (p22 _ _ q).trans ?_
    refine stepM ?_ ?_
    · exact (ld11 _ _ 2 rfl _ q).trans h11
    · exact (ld10 _ _ 0 2 rfl _ q).trans h10
  · refine (ld10 _ _ 1 2 rfl _ q).trans ?_
    refine (slot10 _ _ 0 1 3 2 (by decide) _ _ _ q).trans ?_
    refine (slot10 _ _ 0 1 2 2 (by decide) _ _ _ q).trans ?_
    refine (slot10 _ _ 0 1 1 2 (by decide) _ _ _ q).trans ?_
    refine (slot10 _ _ 0 1 0 2 (by decide) _ _ _ q).trans ?_
    refine (skip10 _ _ 1 3 2 (by decide) _ _ _ q).trans ?_
    refine (hit10 _ _ 1 2 _ _ _ q).trans ?_
    refine (p7 v107 _ _ q).trans ?_
    exact congrArg Cert.Mla.mx (funext fun j => congr (congrArg₂ (k0_pay5 (F := Ideal) v107) (rd5 _ _ 2 (2 * k.val + 1) (by have h1 := lt_of_lt_of_eq k.isLt (trips1 i); have h2 := qt_lt i; omega) _ (off4_1 i k)) (rd6 _ _ (2 * k.val + 1) (by have h1 := lt_of_lt_of_eq k.isLt (trips1 i); have h2 := qt_lt i; omega) _ (off2_1 i k))) rfl)

theorem trL2 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h9 : ∀ j, arg9.view.read (Elt Ideal) f_arg9 (ix4 0 2 j q) = (lg v107 (arg5.view.read (Elt Ideal) X_arg5) (arg6.view.read (Elt Ideal) X_arg6) 2 q) (2 * k.val) j)
   (h10 : arg10.view.read (Elt Ideal) f_arg10 (ix4 0 2 0 q) = Cert.Mla.mx ((lg v107 (arg5.view.read (Elt Ideal) X_arg5) (arg6.view.read (Elt Ideal) X_arg6) 2 q) (2 * k.val)))
   (h11 : arg11.view.read (Elt Ideal) f_arg11 (ix3 2 0 q) = Cert.Mla.M (lg v107 (arg5.view.read (Elt Ideal) X_arg5) (arg6.view.read (Elt Ideal) X_arg6) 2 q) (2 * k.val))
   (h12 : arg12.view.read (Elt Ideal) f_arg12 (ix3 2 0 q) = Cert.Mla.L (lg v107 (arg5.view.read (Elt Ideal) X_arg5) (arg6.view.read (Elt Ideal) X_arg6) 2 q) (2 * k.val)) :
   arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.1 acc f_arg9 f_arg10 f_arg11 f_arg12 f_arg13)) (ix3 2 0 q)
     = Cert.Mla.L (lg v107 (arg5.view.read (Elt Ideal) X_arg5) (arg6.view.read (Elt Ideal) X_arg6) 2 q) (2 * k.val + 2) := by
  unfold trip_k0_t1; dsimp only
  refine (skip11 _ _ 3 2 (by decide) _ _ _ q).trans ?_
  refine (hit11 _ _ 2 _ _ _ q).trans ?_
  refine (p23 _ _ _ _ q).trans ?_
  refine stepL (n := 2 * k.val + 1) ?_ ?_ ?_ ?_
  · refine (ld11 _ _ 2 rfl _ q).trans ?_
    refine (skip11 _ _ 1 2 (by decide) _ _ _ q).trans ?_
    refine (skip11 _ _ 0 2 (by decide) _ _ _ q).trans ?_
    refine (skip11 _ _ 3 2 (by decide) _ _ _ q).trans ?_
    refine (hit11 _ _ 2 _ _ _ q).trans ?_
    refine (p22 _ _ q).trans ?_
    refine stepM ?_ ?_
    · exact (ld11 _ _ 2 rfl _ q).trans h11
    · exact (ld10 _ _ 0 2 rfl _ q).trans h10
  · refine (ld10 _ _ 1 2 rfl _ q).trans ?_
    refine (slot10 _ _ 0 1 3 2 (by decide) _ _ _ q).trans ?_
    refine (slot10 _ _ 0 1 2 2 (by decide) _ _ _ q).trans ?_
    refine (slot10 _ _ 0 1 1 2 (by decide) _ _ _ q).trans ?_
    refine (slot10 _ _ 0 1 0 2 (by decide) _ _ _ q).trans ?_
    refine (skip10 _ _ 1 3 2 (by decide) _ _ _ q).trans ?_
    refine (hit10 _ _ 1 2 _ _ _ q).trans ?_
    refine (p7 v107 _ _ q).trans ?_
    exact congrArg Cert.Mla.mx (funext fun j => congr (congrArg₂ (k0_pay5 (F := Ideal) v107) (rd5 _ _ 2 (2 * k.val + 1) (by have h1 := lt_of_lt_of_eq k.isLt (trips1 i); have h2 := qt_lt i; omega) _ (off4_1 i k)) (rd6 _ _ (2 * k.val + 1) (by have h1 := lt_of_lt_of_eq k.isLt (trips1 i); have h2 := qt_lt i; omega) _ (off2_1 i k))) rfl)
  · refine (ld11 _ _ 2 rfl _ q).trans ?_
    refine (skip11 _ _ 1 2 (by decide) _ _ _ q).trans ?_
    refine (skip11 _ _ 0 2 (by decide) _ _ _ q).trans ?_
    refine (skip11 _ _ 3 2 (by decide) _ _ _ q).trans ?_
    refine (hit11 _ _ 2 _ _ _ q).trans ?_
    refine (p23 _ _ _ _ q).trans ?_
    refine stepL ?_ ?_ ?_ ?_
    · exact (ld11 _ _ 2 rfl _ q).trans h11
    · exact (ld10 _ _ 0 2 rfl _ q).trans h10
    · exact (ld11 _ _ 2 rfl _ q).trans h12
    · exact fun j => (ld9 _ _ 0 2 rfl _ j q).trans (h9 j)
  · intro j
    refine (ld9 _ _ 1 2 rfl _ j q).trans ?_
    refine (slot9 _ _ 0 1 3 2 (by decide) _ _ _ j q).trans ?_
    refine (slot9 _ _ 0 1 2 2 (by decide) _ _ _ j q).trans ?_
    refine (slot9 _ _ 0 1 1 2 (by decide) _ _ _ j q).trans ?_
    refine (slot9 _ _ 0 1 0 2 (by decide) _ _ _ j q).trans ?_
    refine (skip9 _ _ 1 3 2 (by decide) _ _ _ j q).trans ?_
    refine (hit9 _ _ 1 2 _ _ _ j q).trans ?_
    refine (p6 v107 _ _ j q).trans ?_
    exact congr (congrArg₂ (k0_pay5 (F := Ideal) v107) (rd5 _ _ 2 (2 * k.val + 1) (by have h1 := lt_of_lt_of_eq k.isLt (trips1 i); have h2 := qt_lt i; omega) _ (off4_1 i k)) (rd6 _ _ (2 * k.val + 1) (by have h1 := lt_of_lt_of_eq k.isLt (trips1 i); have h2 := qt_lt i; omega) _ (off2_1 i k))) rfl

theorem trA2 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (d : Fin 128) (q : Fin 512) (h9 : ∀ j, arg9.view.read (Elt Ideal) f_arg9 (ix4 0 2 j q) = (lg v107 (arg5.view.read (Elt Ideal) X_arg5) (arg6.view.read (Elt Ideal) X_arg6) 2 q) (2 * k.val) j)
   (h10 : arg10.view.read (Elt Ideal) f_arg10 (ix4 0 2 0 q) = Cert.Mla.mx ((lg v107 (arg5.view.read (Elt Ideal) X_arg5) (arg6.view.read (Elt Ideal) X_arg6) 2 q) (2 * k.val)))
   (h11 : arg11.view.read (Elt Ideal) f_arg11 (ix3 2 0 q) = Cert.Mla.M (lg v107 (arg5.view.read (Elt Ideal) X_arg5) (arg6.view.read (Elt Ideal) X_arg6) 2 q) (2 * k.val))
   (h13 : arg13.view.read (Elt Ideal) f_arg13 (ix3 2 d q) = Cert.Mla.A (lg v107 (arg5.view.read (Elt Ideal) X_arg5) (arg6.view.read (Elt Ideal) X_arg6) 2 q) (vl (arg7.view.read (Elt Ideal) X_arg7) 2 d) (2 * k.val)) :
   arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.2.1 acc f_arg9 f_arg10 f_arg11 f_arg12 f_arg13)) (ix3 2 d q)
     = Cert.Mla.A (lg v107 (arg5.view.read (Elt Ideal) X_arg5) (arg6.view.read (Elt Ideal) X_arg6) 2 q) (vl (arg7.view.read (Elt Ideal) X_arg7) 2 d) (2 * k.val + 2) := by
  unfold trip_k0_t1; dsimp only
  refine (skip13 _ _ 3 2 (by decide) _ _ _ d q).trans ?_
  refine (hit13 _ _ 2 _ _ _ d q).trans ?_
  refine (p24 _ _ _ _ _ d q).trans ?_
  refine stepA (n := 2 * k.val + 1) ?_ ?_ ?_ ?_ ?_
  · refine (ld11 _ _ 2 rfl _ q).trans ?_
    refine (skip11 _ _ 1 2 (by decide) _ _ _ q).trans ?_
    refine (skip11 _ _ 0 2 (by decide) _ _ _ q).trans ?_
    refine (skip11 _ _ 3 2 (by decide) _ _ _ q).trans ?_
    refine (hit11 _ _ 2 _ _ _ q).trans ?_
    refine (p22 _ _ q).trans ?_
    refine stepM ?_ ?_
    · exact (ld11 _ _ 2 rfl _ q).trans h11
    · exact (ld10 _ _ 0 2 rfl _ q).trans h10
  · refine (ld10 _ _ 1 2 rfl _ q).trans ?_
    refine (slot10 _ _ 0 1 3 2 (by decide) _ _ _ q).trans ?_
    refine (slot10 _ _ 0 1 2 2 (by decide) _ _ _ q).trans ?_
    refine (slot10 _ _ 0 1 1 2 (by decide) _ _ _ q).trans ?_
    refine (slot10 _ _ 0 1 0 2 (by decide) _ _ _ q).trans ?_
    refine (skip10 _ _ 1 3 2 (by decide) _ _ _ q).trans ?_
    refine (hit10 _ _ 1 2 _ _ _ q).trans ?_
    refine (p7 v107 _ _ q).trans ?_
    exact congrArg Cert.Mla.mx (funext fun j => congr (congrArg₂ (k0_pay5 (F := Ideal) v107) (rd5 _ _ 2 (2 * k.val + 1) (by have h1 := lt_of_lt_of_eq k.isLt (trips1 i); have h2 := qt_lt i; omega) _ (off4_1 i k)) (rd6 _ _ (2 * k.val + 1) (by have h1 := lt_of_lt_of_eq k.isLt (trips1 i); have h2 := qt_lt i; omega) _ (off2_1 i k))) rfl)
  · refine (ld13 _ _ 2 rfl _ d q).trans ?_
    refine (skip13 _ _ 1 2 (by decide) _ _ _ d q).trans ?_
    refine (skip13 _ _ 0 2 (by decide) _ _ _ d q).trans ?_
    refine (skip13 _ _ 3 2 (by decide) _ _ _ d q).trans ?_
    refine (hit13 _ _ 2 _ _ _ d q).trans ?_
    refine (p24 _ _ _ _ _ d q).trans ?_
    refine stepA ?_ ?_ ?_ ?_ ?_
    · exact (ld11 _ _ 2 rfl _ q).trans h11
    · exact (ld10 _ _ 0 2 rfl _ q).trans h10
    · exact (ld13 _ _ 2 rfl _ d q).trans h13
    · exact fun j => (ld9 _ _ 0 2 rfl _ j q).trans (h9 j)
    · exact fun j => congrFun (rd7 _ _ 2 (2 * k.val) (by have h1 := lt_of_lt_of_eq k.isLt (trips1 i); have h2 := qt_lt i; omega) _ (off8 i k)) _
  · intro j
    refine (ld9 _ _ 1 2 rfl _ j q).trans ?_
    refine (slot9 _ _ 0 1 3 2 (by decide) _ _ _ j q).trans ?_
    refine (slot9 _ _ 0 1 2 2 (by decide) _ _ _ j q).trans ?_
    refine (slot9 _ _ 0 1 1 2 (by decide) _ _ _ j q).trans ?_
    refine (slot9 _ _ 0 1 0 2 (by decide) _ _ _ j q).trans ?_
    refine (skip9 _ _ 1 3 2 (by decide) _ _ _ j q).trans ?_
    refine (hit9 _ _ 1 2 _ _ _ j q).trans ?_
    refine (p6 v107 _ _ j q).trans ?_
    exact congr (congrArg₂ (k0_pay5 (F := Ideal) v107) (rd5 _ _ 2 (2 * k.val + 1) (by have h1 := lt_of_lt_of_eq k.isLt (trips1 i); have h2 := qt_lt i; omega) _ (off4_1 i k)) (rd6 _ _ (2 * k.val + 1) (by have h1 := lt_of_lt_of_eq k.isLt (trips1 i); have h2 := qt_lt i; omega) _ (off2_1 i k))) rfl
  · exact fun j => congrFun (rd7 _ _ 2 (2 * k.val + 1) (by have h1 := lt_of_lt_of_eq k.isLt (trips1 i); have h2 := qt_lt i; omega) _ (off12 i k)) _

theorem trS2 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (j q : Fin 512) :
   arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.1 acc f_arg9 f_arg10 f_arg11 f_arg12 f_arg13)) (ix4 0 2 j q)
     = (lg v107 (arg5.view.read (Elt Ideal) X_arg5) (arg6.view.read (Elt Ideal) X_arg6) 2 q) (2 * k.val + 2) j := by
  unfold trip_k0_t1; dsimp only
  refine (skip9 _ _ 0 3 2 (by decide) _ _ _ j q).trans ?_
  refine (hit9 _ _ 0 2 _ _ _ j q).trans ?_
  refine (p6 v107 _ _ j q).trans ?_
  exact congr (congrArg₂ (k0_pay5 (F := Ideal) v107) (rd5 _ _ 2 (2 * k.val + 2) (by have h1 := lt_of_lt_of_eq k.isLt (trips1 i); have h2 := qt_lt i; omega) _ (off4_2 i k)) (rd6 _ _ (2 * k.val + 2) (by have h1 := lt_of_lt_of_eq k.isLt (trips1 i); have h2 := qt_lt i; omega) _ (off2_2 i k))) rfl

theorem trX2 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) :
   arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.1 acc f_arg9 f_arg10 f_arg11 f_arg12 f_arg13)) (ix4 0 2 0 q)
     = Cert.Mla.mx ((lg v107 (arg5.view.read (Elt Ideal) X_arg5) (arg6.view.read (Elt Ideal) X_arg6) 2 q) (2 * k.val + 2)) := by
  unfold trip_k0_t1; dsimp only
  refine (skip10 _ _ 0 3 2 (by decide) _ _ _ q).trans ?_
  refine (hit10 _ _ 0 2 _ _ _ q).trans ?_
  refine (p7 v107 _ _ q).trans ?_
  exact congrArg Cert.Mla.mx (funext fun j => congr (congrArg₂ (k0_pay5 (F := Ideal) v107) (rd5 _ _ 2 (2 * k.val + 2) (by have h1 := lt_of_lt_of_eq k.isLt (trips1 i); have h2 := qt_lt i; omega) _ (off4_2 i k)) (rd6 _ _ (2 * k.val + 2) (by have h1 := lt_of_lt_of_eq k.isLt (trips1 i); have h2 := qt_lt i; omega) _ (off2_2 i k))) rfl)

theorem trM3 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h10 : arg10.view.read (Elt Ideal) f_arg10 (ix4 0 3 0 q) = Cert.Mla.mx ((lg v143 (arg5.view.read (Elt Ideal) X_arg5) (arg6.view.read (Elt Ideal) X_arg6) 3 q) (2 * k.val)))
   (h11 : arg11.view.read (Elt Ideal) f_arg11 (ix3 3 0 q) = Cert.Mla.M (lg v143 (arg5.view.read (Elt Ideal) X_arg5) (arg6.view.read (Elt Ideal) X_arg6) 3 q) (2 * k.val)) :
   arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.1 acc f_arg9 f_arg10 f_arg11 f_arg12 f_arg13)) (ix3 3 0 q)
     = Cert.Mla.M (lg v143 (arg5.view.read (Elt Ideal) X_arg5) (arg6.view.read (Elt Ideal) X_arg6) 3 q) (2 * k.val + 2) := by
  unfold trip_k0_t1; dsimp only
  refine (hit11 _ _ 3 _ _ _ q).trans ?_
  refine (p22 _ _ q).trans ?_
  refine stepM (n := 2 * k.val + 1) ?_ ?_
  · refine (ld11 _ _ 3 rfl _ q).trans ?_
    refine (skip11 _ _ 2 3 (by decide) _ _ _ q).trans ?_
    refine (skip11 _ _ 1 3 (by decide) _ _ _ q).trans ?_
    refine (skip11 _ _ 0 3 (by decide) _ _ _ q).trans ?_
    refine (hit11 _ _ 3 _ _ _ q).trans ?_
    refine (p22 _ _ q).trans ?_
    refine stepM ?_ ?_
    · exact (ld11 _ _ 3 rfl _ q).trans h11
    · exact (ld10 _ _ 0 3 rfl _ q).trans h10
  · refine (ld10 _ _ 1 3 rfl _ q).trans ?_
    refine (slot10 _ _ 0 1 3 3 (by decide) _ _ _ q).trans ?_
    refine (slot10 _ _ 0 1 2 3 (by decide) _ _ _ q).trans ?_
    refine (slot10 _ _ 0 1 1 3 (by decide) _ _ _ q).trans ?_
    refine (slot10 _ _ 0 1 0 3 (by decide) _ _ _ q).trans ?_
    refine (hit10 _ _ 1 3 _ _ _ q).trans ?_
    refine (p7 v143 _ _ q).trans ?_
    exact congrArg Cert.Mla.mx (funext fun j => congr (congrArg₂ (k0_pay5 (F := Ideal) v143) (rd5 _ _ 3 (2 * k.val + 1) (by have h1 := lt_of_lt_of_eq k.isLt (trips1 i); have h2 := qt_lt i; omega) _ (off5_1 i k)) (rd6 _ _ (2 * k.val + 1) (by have h1 := lt_of_lt_of_eq k.isLt (trips1 i); have h2 := qt_lt i; omega) _ (off2_1 i k))) rfl)

theorem trL3 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) (h9 : ∀ j, arg9.view.read (Elt Ideal) f_arg9 (ix4 0 3 j q) = (lg v143 (arg5.view.read (Elt Ideal) X_arg5) (arg6.view.read (Elt Ideal) X_arg6) 3 q) (2 * k.val) j)
   (h10 : arg10.view.read (Elt Ideal) f_arg10 (ix4 0 3 0 q) = Cert.Mla.mx ((lg v143 (arg5.view.read (Elt Ideal) X_arg5) (arg6.view.read (Elt Ideal) X_arg6) 3 q) (2 * k.val)))
   (h11 : arg11.view.read (Elt Ideal) f_arg11 (ix3 3 0 q) = Cert.Mla.M (lg v143 (arg5.view.read (Elt Ideal) X_arg5) (arg6.view.read (Elt Ideal) X_arg6) 3 q) (2 * k.val))
   (h12 : arg12.view.read (Elt Ideal) f_arg12 (ix3 3 0 q) = Cert.Mla.L (lg v143 (arg5.view.read (Elt Ideal) X_arg5) (arg6.view.read (Elt Ideal) X_arg6) 3 q) (2 * k.val)) :
   arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.1 acc f_arg9 f_arg10 f_arg11 f_arg12 f_arg13)) (ix3 3 0 q)
     = Cert.Mla.L (lg v143 (arg5.view.read (Elt Ideal) X_arg5) (arg6.view.read (Elt Ideal) X_arg6) 3 q) (2 * k.val + 2) := by
  unfold trip_k0_t1; dsimp only
  refine (hit11 _ _ 3 _ _ _ q).trans ?_
  refine (p23 _ _ _ _ q).trans ?_
  refine stepL (n := 2 * k.val + 1) ?_ ?_ ?_ ?_
  · refine (ld11 _ _ 3 rfl _ q).trans ?_
    refine (skip11 _ _ 2 3 (by decide) _ _ _ q).trans ?_
    refine (skip11 _ _ 1 3 (by decide) _ _ _ q).trans ?_
    refine (skip11 _ _ 0 3 (by decide) _ _ _ q).trans ?_
    refine (hit11 _ _ 3 _ _ _ q).trans ?_
    refine (p22 _ _ q).trans ?_
    refine stepM ?_ ?_
    · exact (ld11 _ _ 3 rfl _ q).trans h11
    · exact (ld10 _ _ 0 3 rfl _ q).trans h10
  · refine (ld10 _ _ 1 3 rfl _ q).trans ?_
    refine (slot10 _ _ 0 1 3 3 (by decide) _ _ _ q).trans ?_
    refine (slot10 _ _ 0 1 2 3 (by decide) _ _ _ q).trans ?_
    refine (slot10 _ _ 0 1 1 3 (by decide) _ _ _ q).trans ?_
    refine (slot10 _ _ 0 1 0 3 (by decide) _ _ _ q).trans ?_
    refine (hit10 _ _ 1 3 _ _ _ q).trans ?_
    refine (p7 v143 _ _ q).trans ?_
    exact congrArg Cert.Mla.mx (funext fun j => congr (congrArg₂ (k0_pay5 (F := Ideal) v143) (rd5 _ _ 3 (2 * k.val + 1) (by have h1 := lt_of_lt_of_eq k.isLt (trips1 i); have h2 := qt_lt i; omega) _ (off5_1 i k)) (rd6 _ _ (2 * k.val + 1) (by have h1 := lt_of_lt_of_eq k.isLt (trips1 i); have h2 := qt_lt i; omega) _ (off2_1 i k))) rfl)
  · refine (ld11 _ _ 3 rfl _ q).trans ?_
    refine (skip11 _ _ 2 3 (by decide) _ _ _ q).trans ?_
    refine (skip11 _ _ 1 3 (by decide) _ _ _ q).trans ?_
    refine (skip11 _ _ 0 3 (by decide) _ _ _ q).trans ?_
    refine (hit11 _ _ 3 _ _ _ q).trans ?_
    refine (p23 _ _ _ _ q).trans ?_
    refine stepL ?_ ?_ ?_ ?_
    · exact (ld11 _ _ 3 rfl _ q).trans h11
    · exact (ld10 _ _ 0 3 rfl _ q).trans h10
    · exact (ld11 _ _ 3 rfl _ q).trans h12
    · exact fun j => (ld9 _ _ 0 3 rfl _ j q).trans (h9 j)
  · intro j
    refine (ld9 _ _ 1 3 rfl _ j q).trans ?_
    refine (slot9 _ _ 0 1 3 3 (by decide) _ _ _ j q).trans ?_
    refine (slot9 _ _ 0 1 2 3 (by decide) _ _ _ j q).trans ?_
    refine (slot9 _ _ 0 1 1 3 (by decide) _ _ _ j q).trans ?_
    refine (slot9 _ _ 0 1 0 3 (by decide) _ _ _ j q).trans ?_
    refine (hit9 _ _ 1 3 _ _ _ j q).trans ?_
    refine (p6 v143 _ _ j q).trans ?_
    exact congr (congrArg₂ (k0_pay5 (F := Ideal) v143) (rd5 _ _ 3 (2 * k.val + 1) (by have h1 := lt_of_lt_of_eq k.isLt (trips1 i); have h2 := qt_lt i; omega) _ (off5_1 i k)) (rd6 _ _ (2 * k.val + 1) (by have h1 := lt_of_lt_of_eq k.isLt (trips1 i); have h2 := qt_lt i; omega) _ (off2_1 i k))) rfl

theorem trA3 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (d : Fin 128) (q : Fin 512) (h9 : ∀ j, arg9.view.read (Elt Ideal) f_arg9 (ix4 0 3 j q) = (lg v143 (arg5.view.read (Elt Ideal) X_arg5) (arg6.view.read (Elt Ideal) X_arg6) 3 q) (2 * k.val) j)
   (h10 : arg10.view.read (Elt Ideal) f_arg10 (ix4 0 3 0 q) = Cert.Mla.mx ((lg v143 (arg5.view.read (Elt Ideal) X_arg5) (arg6.view.read (Elt Ideal) X_arg6) 3 q) (2 * k.val)))
   (h11 : arg11.view.read (Elt Ideal) f_arg11 (ix3 3 0 q) = Cert.Mla.M (lg v143 (arg5.view.read (Elt Ideal) X_arg5) (arg6.view.read (Elt Ideal) X_arg6) 3 q) (2 * k.val))
   (h13 : arg13.view.read (Elt Ideal) f_arg13 (ix3 3 d q) = Cert.Mla.A (lg v143 (arg5.view.read (Elt Ideal) X_arg5) (arg6.view.read (Elt Ideal) X_arg6) 3 q) (vl (arg7.view.read (Elt Ideal) X_arg7) 3 d) (2 * k.val)) :
   arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.2.1 acc f_arg9 f_arg10 f_arg11 f_arg12 f_arg13)) (ix3 3 d q)
     = Cert.Mla.A (lg v143 (arg5.view.read (Elt Ideal) X_arg5) (arg6.view.read (Elt Ideal) X_arg6) 3 q) (vl (arg7.view.read (Elt Ideal) X_arg7) 3 d) (2 * k.val + 2) := by
  unfold trip_k0_t1; dsimp only
  refine (hit13 _ _ 3 _ _ _ d q).trans ?_
  refine (p24 _ _ _ _ _ d q).trans ?_
  refine stepA (n := 2 * k.val + 1) ?_ ?_ ?_ ?_ ?_
  · refine (ld11 _ _ 3 rfl _ q).trans ?_
    refine (skip11 _ _ 2 3 (by decide) _ _ _ q).trans ?_
    refine (skip11 _ _ 1 3 (by decide) _ _ _ q).trans ?_
    refine (skip11 _ _ 0 3 (by decide) _ _ _ q).trans ?_
    refine (hit11 _ _ 3 _ _ _ q).trans ?_
    refine (p22 _ _ q).trans ?_
    refine stepM ?_ ?_
    · exact (ld11 _ _ 3 rfl _ q).trans h11
    · exact (ld10 _ _ 0 3 rfl _ q).trans h10
  · refine (ld10 _ _ 1 3 rfl _ q).trans ?_
    refine (slot10 _ _ 0 1 3 3 (by decide) _ _ _ q).trans ?_
    refine (slot10 _ _ 0 1 2 3 (by decide) _ _ _ q).trans ?_
    refine (slot10 _ _ 0 1 1 3 (by decide) _ _ _ q).trans ?_
    refine (slot10 _ _ 0 1 0 3 (by decide) _ _ _ q).trans ?_
    refine (hit10 _ _ 1 3 _ _ _ q).trans ?_
    refine (p7 v143 _ _ q).trans ?_
    exact congrArg Cert.Mla.mx (funext fun j => congr (congrArg₂ (k0_pay5 (F := Ideal) v143) (rd5 _ _ 3 (2 * k.val + 1) (by have h1 := lt_of_lt_of_eq k.isLt (trips1 i); have h2 := qt_lt i; omega) _ (off5_1 i k)) (rd6 _ _ (2 * k.val + 1) (by have h1 := lt_of_lt_of_eq k.isLt (trips1 i); have h2 := qt_lt i; omega) _ (off2_1 i k))) rfl)
  · refine (ld13 _ _ 3 rfl _ d q).trans ?_
    refine (skip13 _ _ 2 3 (by decide) _ _ _ d q).trans ?_
    refine (skip13 _ _ 1 3 (by decide) _ _ _ d q).trans ?_
    refine (skip13 _ _ 0 3 (by decide) _ _ _ d q).trans ?_
    refine (hit13 _ _ 3 _ _ _ d q).trans ?_
    refine (p24 _ _ _ _ _ d q).trans ?_
    refine stepA ?_ ?_ ?_ ?_ ?_
    · exact (ld11 _ _ 3 rfl _ q).trans h11
    · exact (ld10 _ _ 0 3 rfl _ q).trans h10
    · exact (ld13 _ _ 3 rfl _ d q).trans h13
    · exact fun j => (ld9 _ _ 0 3 rfl _ j q).trans (h9 j)
    · exact fun j => congrFun (rd7 _ _ 3 (2 * k.val) (by have h1 := lt_of_lt_of_eq k.isLt (trips1 i); have h2 := qt_lt i; omega) _ (off9 i k)) _
  · intro j
    refine (ld9 _ _ 1 3 rfl _ j q).trans ?_
    refine (slot9 _ _ 0 1 3 3 (by decide) _ _ _ j q).trans ?_
    refine (slot9 _ _ 0 1 2 3 (by decide) _ _ _ j q).trans ?_
    refine (slot9 _ _ 0 1 1 3 (by decide) _ _ _ j q).trans ?_
    refine (slot9 _ _ 0 1 0 3 (by decide) _ _ _ j q).trans ?_
    refine (hit9 _ _ 1 3 _ _ _ j q).trans ?_
    refine (p6 v143 _ _ j q).trans ?_
    exact congr (congrArg₂ (k0_pay5 (F := Ideal) v143) (rd5 _ _ 3 (2 * k.val + 1) (by have h1 := lt_of_lt_of_eq k.isLt (trips1 i); have h2 := qt_lt i; omega) _ (off5_1 i k)) (rd6 _ _ (2 * k.val + 1) (by have h1 := lt_of_lt_of_eq k.isLt (trips1 i); have h2 := qt_lt i; omega) _ (off2_1 i k))) rfl
  · exact fun j => congrFun (rd7 _ _ 3 (2 * k.val + 1) (by have h1 := lt_of_lt_of_eq k.isLt (trips1 i); have h2 := qt_lt i; omega) _ (off13 i k)) _

theorem trS3 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (j q : Fin 512) :
   arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.1 acc f_arg9 f_arg10 f_arg11 f_arg12 f_arg13)) (ix4 0 3 j q)
     = (lg v143 (arg5.view.read (Elt Ideal) X_arg5) (arg6.view.read (Elt Ideal) X_arg6) 3 q) (2 * k.val + 2) j := by
  unfold trip_k0_t1; dsimp only
  refine (hit9 _ _ 0 3 _ _ _ j q).trans ?_
  refine (p6 v143 _ _ j q).trans ?_
  exact congr (congrArg₂ (k0_pay5 (F := Ideal) v143) (rd5 _ _ 3 (2 * k.val + 2) (by have h1 := lt_of_lt_of_eq k.isLt (trips1 i); have h2 := qt_lt i; omega) _ (off5_2 i k)) (rd6 _ _ (2 * k.val + 2) (by have h1 := lt_of_lt_of_eq k.isLt (trips1 i); have h2 := qt_lt i; omega) _ (off2_2 i k))) rfl

theorem trX3 (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
   (q : Fin 512) :
   arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.1 acc f_arg9 f_arg10 f_arg11 f_arg12 f_arg13)) (ix4 0 3 0 q)
     = Cert.Mla.mx ((lg v143 (arg5.view.read (Elt Ideal) X_arg5) (arg6.view.read (Elt Ideal) X_arg6) 3 q) (2 * k.val + 2)) := by
  unfold trip_k0_t1; dsimp only
  refine (hit10 _ _ 0 3 _ _ _ q).trans ?_
  refine (p7 v143 _ _ q).trans ?_
  exact congrArg Cert.Mla.mx (funext fun j => congr (congrArg₂ (k0_pay5 (F := Ideal) v143) (rd5 _ _ 3 (2 * k.val + 2) (by have h1 := lt_of_lt_of_eq k.isLt (trips1 i); have h2 := qt_lt i; omega) _ (off5_2 i k)) (rd6 _ _ (2 * k.val + 2) (by have h1 := lt_of_lt_of_eq k.isLt (trips1 i); have h2 := qt_lt i; omega) _ (off2_2 i k))) rfl)

end Cert.KernelIdeal.Mla
-- ==== Proof.MlaLoop.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaTrip

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

/-- What the scratch holds before tile `n` (even) is taken in: its logits and their maxima in slot 0, and each head's
running maximum, weight and weighted sum over the tiles before. -/
structure Inv (W : Fin 4 → FVec Ideal S512x256 .bf16) (x5 : FVec Ideal S1x4096x512 .bf16) (x6 : FVec Ideal S1x4096x128 .bf16) (x7 : FVec Ideal S1x512x4096 .bf16)
    (n : ℕ) (r9 : FVec Ideal S2x4x512x512 .f32) (r10 : FVec Ideal S2x4x1x512 .f32) (r11 r12 : FVec Ideal S4x1x512 .f32) (r13 : FVec Ideal S4x128x512 .f32) : Prop where
  s : ∀ (h : Fin 4) (j q : Fin 512), r9 (ix4 0 h j q) = lg (W h) x5 x6 h q n j
  x : ∀ (h : Fin 4) (q : Fin 512), r10 (ix4 0 h 0 q) = Cert.Mla.mx (lg (W h) x5 x6 h q n)
  m : ∀ (h : Fin 4) (q : Fin 512), r11 (ix3 h 0 q) = Cert.Mla.M (lg (W h) x5 x6 h q) n
  l : ∀ (h : Fin 4) (q : Fin 512), r12 (ix3 h 0 q) = Cert.Mla.L (lg (W h) x5 x6 h q) n
  a : ∀ (h : Fin 4) (d : Fin 128) (q : Fin 512), r13 (ix3 h d q) = Cert.Mla.A (lg (W h) x5 x6 h q) (vl x7 h d) n

theorem inv_trip (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (k : Fin (k0_t1_loop i).trips) (acc : BitVec 32)
    (H : Inv ![v35, v71, v107, v143] (arg5.view.read (Elt Ideal) X_arg5) (arg6.view.read (Elt Ideal) X_arg6) (arg7.view.read (Elt Ideal) X_arg7) (2 * k.val) (arg9.view.read (Elt Ideal) f_arg9) (arg10.view.read (Elt Ideal) f_arg10) (arg11.view.read (Elt Ideal) f_arg11) (arg12.view.read (Elt Ideal) f_arg12) (arg13.view.read (Elt Ideal) f_arg13)) :
    Inv ![v35, v71, v107, v143] (arg5.view.read (Elt Ideal) X_arg5) (arg6.view.read (Elt Ideal) X_arg6) (arg7.view.read (Elt Ideal) X_arg7) (2 * k.val + 2) (arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.1 acc f_arg9 f_arg10 f_arg11 f_arg12 f_arg13))) (arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.1 acc f_arg9 f_arg10 f_arg11 f_arg12 f_arg13))) (arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.1 acc f_arg9 f_arg10 f_arg11 f_arg12 f_arg13))) (arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.1 acc f_arg9 f_arg10 f_arg11 f_arg12 f_arg13))) (arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 k).2.2.2.2.2.1 acc f_arg9 f_arg10 f_arg11 f_arg12 f_arg13))) where
  s := fin4 (fun j q => trS0 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc j q) (fun j q => trS1 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc j q) (fun j q => trS2 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc j q) (fun j q => trS3 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc j q)
  x := fin4 (fun q => trX0 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q) (fun q => trX1 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q) (fun q => trX2 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q) (fun q => trX3 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q)
  m := fin4 (fun q => trM0 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (H.x 0 q) (H.m 0 q)) (fun q => trM1 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (H.x 1 q) (H.m 1 q)) (fun q => trM2 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (H.x 2 q) (H.m 2 q)) (fun q => trM3 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (H.x 3 q) (H.m 3 q))
  l := fin4 (fun q => trL0 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (fun j => H.s 0 j q) (H.x 0 q) (H.m 0 q) (H.l 0 q)) (fun q => trL1 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (fun j => H.s 1 j q) (H.x 1 q) (H.m 1 q) (H.l 1 q)) (fun q => trL2 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (fun j => H.s 2 j q) (H.x 2 q) (H.m 2 q) (H.l 2 q)) (fun q => trL3 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc q (fun j => H.s 3 j q) (H.x 3 q) (H.m 3 q) (H.l 3 q))
  a := fin4 (fun d q => trA0 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc d q (fun j => H.s 0 j q) (H.x 0 q) (H.m 0 q) (H.a 0 d q)) (fun d q => trA1 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc d q (fun j => H.s 1 j q) (H.x 1 q) (H.m 1 q) (H.a 1 d q)) (fun d q => trA2 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc d q (fun j => H.s 2 j q) (H.x 2 q) (H.m 2 q) (H.a 2 d q)) (fun d q => trA3 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 f_arg9 f_arg10 f_arg11 f_arg12 f_arg13 k acc d q (fun j => H.s 3 j q) (H.x 3 q) (H.m 3 q) (H.a 3 d q))

theorem inv_loop (𝒱 : Variants) (c : Dev nD) (bd : Option 𝒱.V) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole) (v35 : FVec Ideal S512x256 .bf16) (v71 : FVec Ideal S512x256 .bf16) (v107 : FVec Ideal S512x256 .bf16) (v143 : FVec Ideal S512x256 .bf16) (v146 : BitVec 32) (v218 : FVec Ideal S512x512 .f32) (v219 : Vec Ideal S1x1x512x512 .f32) (X_arg5 : BufTy.Contents (Elt Ideal) arg5.view.ty) (X_arg6 : BufTy.Contents (Elt Ideal) arg6.view.ty) (X_arg7 : BufTy.Contents (Elt Ideal) arg7.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (init : BitVec 32)
    (H : Inv ![v35, v71, v107, v143] (arg5.view.read (Elt Ideal) X_arg5) (arg6.view.read (Elt Ideal) X_arg6) (arg7.view.read (Elt Ideal) X_arg7) 0 (arg9.view.read (Elt Ideal) G9) (arg10.view.read (Elt Ideal) G10) (arg11.view.read (Elt Ideal) G11) (arg12.view.read (Elt Ideal) G12) (arg13.view.read (Elt Ideal) G13)) (k : ℕ) (hk : k ≤ (k0_t1_loop i).trips) :
    Inv ![v35, v71, v107, v143] (arg5.view.read (Elt Ideal) X_arg5) (arg6.view.read (Elt Ideal) X_arg6) (arg7.view.read (Elt Ideal) X_arg7) (2 * k) (arg9.view.read (Elt Ideal) (arg9.view.writes (Elt Ideal) G9 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.1)) (arg10.view.read (Elt Ideal) (arg10.view.writes (Elt Ideal) G10 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.1)) (arg11.view.read (Elt Ideal) (arg11.view.writes (Elt Ideal) G11 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.1)) (arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.2.1)) (arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.2.2)) := by
  induction k with
  | zero => exact H
  | succ k ih =>
    have h := inv_trip 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) G9 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.1) (arg10.view.writes (Elt Ideal) G10 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.1) (arg11.view.writes (Elt Ideal) G11 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.1) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.2.1) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).2.2.2.2.2) ⟨k, hk⟩ (st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init k).1 (ih (Nat.le_of_succ_le hk))
    rw [st_k0_t1_succ 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 G9 G10 G11 G12 G13 init ⟨k, hk⟩]
    simp only [View.writes_append]
    exact h

end Cert.KernelIdeal.Mla
-- ==== Proof.MlaFin.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaLoop

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

/-- A key tile's row numbers and a query tile's column numbers. -/
abbrev K : IVec S512x512 32 := iota .tc S512x512 32 [0] iota_S512x512_d0_w32
abbrev J : IVec S512x512 32 := iota .tc S512x512 32 [1] iota_S512x512_d1_w32

/-- The last tile's logits: kept where the key's block of 64 is not later than the query's, masked elsewhere. -/
def mk (s : FVec Ideal S1x1x512x512 .f32) : FVec Ideal S512x512 .f32 := (k0_pay261 (F := Ideal) J (k0_pay257 (F := Ideal) s) (k0_pay258 K) 64#32 (k0_pay259 J) (k0_pay260 J) 1#32 0#1)

/-- The block of 64 an index lies in, as the kernel computes it. -/
def fb (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        1#32)
      (IntOp.cmpi CmpIPredicate.ne (IntOp.remsi ArithUnit.vector x 64#32) 0#32))
    (IntOp.subi (IntOp.divsi ArithUnit.vector x 64#32) 1#32)
    (IntOp.divsi ArithUnit.vector x 64#32)

theorem fb_eq : ∀ n : Fin 512, fb (BitVec.ofNat 32 n.val) = BitVec.ofNat 32 (n.val / 64) := by decide +kernel

theorem sle_eq : ∀ a b : Fin 8, IntOp.cmpi CmpIPredicate.sle (BitVec.ofNat 32 a.val) (BitVec.ofNat 32 b.val) = if a.val ≤ b.val then 1#1 else 0#1 := by
  decide +kernel

theorem mk_eq (s : FVec Ideal S1x1x512x512 .f32) (j q : Fin 512) :
    mk s (ix2 j q) = if j.val / 64 ≤ q.val / 64 then s (ix4 0 0 j q) else ⊥ := by
  pointwise [mk, k0_pay261, k0_pay257, k0_pay258, k0_pay259, k0_pay260]
  refine (congrArg₂ (fun a b => Scalar.select (IntOp.cmpi CmpIPredicate.sle a b) (s (ix4 0 0 j q)) (Named.named (F := Ideal) (φ := .f32) κ "mask" 4048155338#32)) (fb_eq j) (fb_eq q)).trans ?_
  have h := sle_eq ⟨j.val / 64, by omega⟩ ⟨q.val / 64, by omega⟩
  dsimp only at h ⊢
  rw [h]
  split <;> rfl

/-- One step of the running maximum, weight and weighted sum, of a tile's logits held whole. -/
def fX (t : FVec Ideal S512x512 .f32) (m : FVec Ideal S1x1x512 .f32) : FVec Ideal S1x512 .f32 :=
  maximumf (shapeCast S1x512 m shapeCasts_S1x1x512_S1x512)
    (shapeCast S1x512 (multiReduction .maximumf [0] S512 t 0xFF800000#32 reduces_S512x512_S512 (.inl rfl) rfl) shapeCasts_S512_S1x512)
def fM (t : FVec Ideal S512x512 .f32) (m : FVec Ideal S1x1x512 .f32) : FVec Ideal S1x1x512 .f32 :=
  shapeCast S1x1x512 (fX t m) shapeCasts_S1x512_S1x1x512
def fE (t : FVec Ideal S512x512 .f32) (m : FVec Ideal S1x1x512 .f32) : FVec Ideal S1x512 .f32 :=
  exp2 (subf (shapeCast S1x512 m shapeCasts_S1x1x512_S1x512) (fX t m))
def fP (t : FVec Ideal S512x512 .f32) (m : FVec Ideal S1x1x512 .f32) : FVec Ideal S512x512 .f32 :=
  exp2 (subf t (broadcastTo S512x512 (fX t m) broadcasts_S1x512_S512x512))
def fL (t : FVec Ideal S512x512 .f32) (m l : FVec Ideal S1x1x512 .f32) : FVec Ideal S1x1x512 .f32 :=
  shapeCast S1x1x512 (addf (mulf (fE t m) (shapeCast S1x512 l shapeCasts_S1x1x512_S1x512))
    (shapeCast S1x512 (multiReduction .add [0] S512 (fP t m) 0x00000000#32 reduces_S512x512_S512 (.inl rfl) rfl) shapeCasts_S512_S1x512)) shapeCasts_S1x512_S1x1x512
def fA (t : FVec Ideal S512x512 .f32) (m : FVec Ideal S1x1x512 .f32) (a : FVec Ideal S1x128x512 .f32) (v : FVec Ideal S1x128x512 .bf16) : FVec Ideal S1x128x512 .f32 :=
  shapeCast S1x128x512 (addf (mulf (broadcastTo S128x512 (fE t m) broadcasts_S1x512_S128x512) (shapeCast S128x512 a shapeCasts_S1x128x512_S128x512))
    (matmul dot_S128x512_S512x512_S128x512_1_0_0_1_n_n none (shapeCast S128x512 v shapeCasts_S1x128x512_S128x512) (truncf .bf16 (fP t m) bitsLt_bf16_f32)
      (constant S128x512 .f32 0x00000000#32))) shapeCasts_S128x512_S1x128x512

theorem f22 (t : FVec Ideal S512x512 .f32) (m : FVec Ideal S1x1x512 .f32) (q : Fin 512) :
    fM t m (ix3 0 0 q) = max (m (ix3 0 0 q)) (Cert.Mla.mx fun j : Fin 512 => t (ix2 j q)) := by
  pointwise [fM, fX]
  rw [negInf]

theorem f23 (t : FVec Ideal S512x512 .f32) (m l : FVec Ideal S1x1x512 .f32) (q : Fin 512) :
    fL t m l (ix3 0 0 q)
      = Ideal.exp2 (m (ix3 0 0 q) - max (m (ix3 0 0 q)) (Cert.Mla.mx fun j : Fin 512 => t (ix2 j q))) * l (ix3 0 0 q)
        + ∑ j : Fin 512, Ideal.exp2 (t (ix2 j q) - max (m (ix3 0 0 q)) (Cert.Mla.mx fun j : Fin 512 => t (ix2 j q))) := by
  pointwise [fL, fE, fP, fX]
  rw [negInf]
  rfl

theorem f24 (t : FVec Ideal S512x512 .f32) (m : FVec Ideal S1x1x512 .f32) (a : FVec Ideal S1x128x512 .f32) (v : FVec Ideal S1x128x512 .bf16) (d : Fin 128) (q : Fin 512) :
    fA t m a v (ix3 0 d q)
      = Ideal.exp2 (m (ix3 0 0 q) - max (m (ix3 0 0 q)) (Cert.Mla.mx fun j : Fin 512 => t (ix2 j q))) * a (ix3 0 d q)
        + ∑ j : Fin 512, v (ix3 0 d j) * Ideal.exp2 (t (ix2 j q) - max (m (ix3 0 0 q)) (Cert.Mla.mx fun j : Fin 512 => t (ix2 j q))) := by
  pointwise [fA, fE, fP, fX]
  rw [negInf]
  rfl

theorem d311 (a : FVec Ideal S1x128x512 .f32) (l : FVec Ideal S1x1x512 .f32) (d : Fin 128) (q : Fin 512) :
    k0_pay311 (F := Ideal) a l (ix2 q d) = Ideal.div (a (ix3 0 d q)) (l (ix3 0 0 q)) := by
  pointwise [k0_pay311]

theorem inv_all {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 L9 : List (View.Piece (Elt Ideal) S2x4x512x512 .f32)} {S10 L10 : List (View.Piece (Elt Ideal) S2x4x1x512 .f32)} {S11 L11 : List (View.Piece (Elt Ideal) S4x1x512 .f32)} {S12 L12 : List (View.Piece (Elt Ideal) S4x1x512 .f32)} {S13 L13 : List (View.Piece (Elt Ideal) S4x128x512 .f32)} {init : BitVec 32} {n : ℕ} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e9 : L9 = []) (e10 : L10 = []) (e11 : L11 = []) (e12 : L12 = []) (e13 : L13 = []) :
    Inv ![v35, v71, v107, v143] (arg5.view.read (Elt Ideal) X_arg5) (arg6.view.read (Elt Ideal) X_arg6) (arg7.view.read (Elt Ideal) X_arg7) (2 * n) (arg9.view.read (Elt Ideal) (arg9.view.writes (Elt Ideal) f9 (L9 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.1 ++ S9)))) (arg10.view.read (Elt Ideal) (arg10.view.writes (Elt Ideal) f10 (L10 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.1 ++ S10)))) (arg11.view.read (Elt Ideal) (arg11.view.writes (Elt Ideal) f11 (L11 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.1 ++ S11)))) (arg12.view.read (Elt Ideal) (arg12.view.writes (Elt Ideal) f12 (L12 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.2.1 ++ S12)))) (arg13.view.read (Elt Ideal) (arg13.view.writes (Elt Ideal) f13 (L13 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.2.2 ++ S13)))) := by
  subst e9 e10 e11 e12 e13
  simp only [List.nil_append, View.writes_append]
  exact inv_loop 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init H n (le_of_eq hn)

theorem inv_s {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 L9 : List (View.Piece (Elt Ideal) S2x4x512x512 .f32)} {S10 : List (View.Piece (Elt Ideal) S2x4x1x512 .f32)} {S11 : List (View.Piece (Elt Ideal) S4x1x512 .f32)} {S12 : List (View.Piece (Elt Ideal) S4x1x512 .f32)} {S13 : List (View.Piece (Elt Ideal) S4x128x512 .f32)} {init : BitVec 32} {n : ℕ} {g : BufTy.Contents (Elt Ideal) arg9.view.ty} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e : L9 = []) (h : Fin 4) (j q : Fin 512) (hg : ∃ p ∈ S9, (ix4 0 h j q : S2x4x512x512.Idx) ∈ p.1.set) :
    (arg9.view.read (Elt Ideal) (arg9.view.writes (Elt Ideal) g (L9 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.1 ++ S9)))) (ix4 0 h j q) = lg (![v35, v71, v107, v143] h) (arg5.view.read (Elt Ideal) X_arg5) (arg6.view.read (Elt Ideal) X_arg6) h q (2 * n) j := by
  subst e
  refine (View.read_writes_apply_eq arg9.view _ arg9.view f9 _ _ ?_).trans ((inv_all hn H (L9 := []) (L10 := []) (L11 := []) (L12 := []) (L13 := []) rfl rfl rfl rfl rfl).s h j q)
  obtain ⟨p, hp, hy⟩ := hg
  exact ⟨p, List.mem_append_right _ (List.mem_append_right _ hp), hy⟩

theorem inv_x {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 : List (View.Piece (Elt Ideal) S2x4x512x512 .f32)} {S10 L10 : List (View.Piece (Elt Ideal) S2x4x1x512 .f32)} {S11 : List (View.Piece (Elt Ideal) S4x1x512 .f32)} {S12 : List (View.Piece (Elt Ideal) S4x1x512 .f32)} {S13 : List (View.Piece (Elt Ideal) S4x128x512 .f32)} {init : BitVec 32} {n : ℕ} {g : BufTy.Contents (Elt Ideal) arg10.view.ty} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e : L10 = []) (h : Fin 4) (q : Fin 512) (hg : ∃ p ∈ S10, (ix4 0 h 0 q : S2x4x1x512.Idx) ∈ p.1.set) :
    (arg10.view.read (Elt Ideal) (arg10.view.writes (Elt Ideal) g (L10 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.1 ++ S10)))) (ix4 0 h 0 q) = Cert.Mla.mx ((lg (![v35, v71, v107, v143] h) (arg5.view.read (Elt Ideal) X_arg5) (arg6.view.read (Elt Ideal) X_arg6) h q) (2 * n)) := by
  subst e
  refine (View.read_writes_apply_eq arg10.view _ arg10.view f10 _ _ ?_).trans ((inv_all hn H (L9 := []) (L10 := []) (L11 := []) (L12 := []) (L13 := []) rfl rfl rfl rfl rfl).x h q)
  obtain ⟨p, hp, hy⟩ := hg
  exact ⟨p, List.mem_append_right _ (List.mem_append_right _ hp), hy⟩

theorem inv_m {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 : List (View.Piece (Elt Ideal) S2x4x512x512 .f32)} {S10 : List (View.Piece (Elt Ideal) S2x4x1x512 .f32)} {S11 L11 : List (View.Piece (Elt Ideal) S4x1x512 .f32)} {S12 : List (View.Piece (Elt Ideal) S4x1x512 .f32)} {S13 : List (View.Piece (Elt Ideal) S4x128x512 .f32)} {init : BitVec 32} {n : ℕ} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e : L11 = []) (h : Fin 4) (q : Fin 512) :
    (arg11.view.read (Elt Ideal) (arg11.view.writes (Elt Ideal) f11 (L11 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.1 ++ S11)))) (ix3 h 0 q) = Cert.Mla.M (lg (![v35, v71, v107, v143] h) (arg5.view.read (Elt Ideal) X_arg5) (arg6.view.read (Elt Ideal) X_arg6) h q) (2 * n) := by
  subst e
  exact (inv_all hn H (L9 := []) (L10 := []) (L11 := []) (L12 := []) (L13 := []) rfl rfl rfl rfl rfl).m h q

theorem inv_l {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 : List (View.Piece (Elt Ideal) S2x4x512x512 .f32)} {S10 : List (View.Piece (Elt Ideal) S2x4x1x512 .f32)} {S11 : List (View.Piece (Elt Ideal) S4x1x512 .f32)} {S12 L12 : List (View.Piece (Elt Ideal) S4x1x512 .f32)} {S13 : List (View.Piece (Elt Ideal) S4x128x512 .f32)} {init : BitVec 32} {n : ℕ} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e : L12 = []) (h : Fin 4) (q : Fin 512) :
    (arg12.view.read (Elt Ideal) (arg12.view.writes (Elt Ideal) f12 (L12 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.2.1 ++ S12)))) (ix3 h 0 q) = Cert.Mla.L (lg (![v35, v71, v107, v143] h) (arg5.view.read (Elt Ideal) X_arg5) (arg6.view.read (Elt Ideal) X_arg6) h q) (2 * n) := by
  subst e
  exact (inv_all hn H (L9 := []) (L10 := []) (L11 := []) (L12 := []) (L13 := []) rfl rfl rfl rfl rfl).l h q

theorem inv_a {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {S9 : List (View.Piece (Elt Ideal) S2x4x512x512 .f32)} {S10 : List (View.Piece (Elt Ideal) S2x4x1x512 .f32)} {S11 : List (View.Piece (Elt Ideal) S4x1x512 .f32)} {S12 : List (View.Piece (Elt Ideal) S4x1x512 .f32)} {S13 L13 : List (View.Piece (Elt Ideal) S4x128x512 .f32)} {init : BitVec 32} {n : ℕ} (hn : n = (k0_t1_loop i).trips) (H : Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 S9)) (arg10.view.read (Elt Ideal) (arg10.view.writes (Elt Ideal) f10 S10)) (arg11.view.read (Elt Ideal) (arg11.view.writes (Elt Ideal) f11 S11)) (arg12.view.read (Elt Ideal) (arg12.view.writes (Elt Ideal) f12 S12)) (arg13.view.read (Elt Ideal) (arg13.view.writes (Elt Ideal) f13 S13))) (e : L13 = []) (h : Fin 4) (d : Fin 128) (q : Fin 512) :
    (arg13.view.read (Elt Ideal) (arg13.view.writes (Elt Ideal) f13 (L13 ++ ((st_k0_t1 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 X_arg5 X_arg6 X_arg7 (arg9.view.writes (Elt Ideal) f9 S9) (arg10.view.writes (Elt Ideal) f10 S10) (arg11.view.writes (Elt Ideal) f11 S11) (arg12.view.writes (Elt Ideal) f12 S12) (arg13.view.writes (Elt Ideal) f13 S13) init n).2.2.2.2.2 ++ S13)))) (ix3 h d q) = Cert.Mla.A (lg (![v35, v71, v107, v143] h) (arg5.view.read (Elt Ideal) X_arg5) (arg6.view.read (Elt Ideal) X_arg6) h q) (vl (arg7.view.read (Elt Ideal) X_arg7) h d) (2 * n) := by
  subst e
  exact (inv_all hn H (L9 := []) (L10 := []) (L11 := []) (L12 := []) (L13 := []) rfl rfl rfl rfl rfl).a h d q

/-- The second loop makes no trip. -/
theorem nil9 {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {v249 : BitVec 32} {X_arg5 : BufTy.Contents (Elt Ideal) arg5.view.ty} {X_arg6 : BufTy.Contents (Elt Ideal) arg6.view.ty} {X_arg7 : BufTy.Contents (Elt Ideal) arg7.view.ty} {G_arg9 : BufTy.Contents (Elt Ideal) arg9.view.ty} {G_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty}  {init : BitVec 32} {n : ℕ} (hn : n = 0) : (st_k0_t2 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 v249 X_arg5 X_arg6 X_arg7 G_arg9 G_arg10 G_arg11 G_arg12 G_arg13 init n).2.1 = [] := by
  subst hn; rfl
theorem nil10 {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {v249 : BitVec 32} {X_arg5 : BufTy.Contents (Elt Ideal) arg5.view.ty} {X_arg6 : BufTy.Contents (Elt Ideal) arg6.view.ty} {X_arg7 : BufTy.Contents (Elt Ideal) arg7.view.ty} {G_arg9 : BufTy.Contents (Elt Ideal) arg9.view.ty} {G_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty}  {init : BitVec 32} {n : ℕ} (hn : n = 0) : (st_k0_t2 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 v249 X_arg5 X_arg6 X_arg7 G_arg9 G_arg10 G_arg11 G_arg12 G_arg13 init n).2.2.1 = [] := by
  subst hn; rfl
theorem nil11 {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {v249 : BitVec 32} {X_arg5 : BufTy.Contents (Elt Ideal) arg5.view.ty} {X_arg6 : BufTy.Contents (Elt Ideal) arg6.view.ty} {X_arg7 : BufTy.Contents (Elt Ideal) arg7.view.ty} {G_arg9 : BufTy.Contents (Elt Ideal) arg9.view.ty} {G_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty}  {init : BitVec 32} {n : ℕ} (hn : n = 0) : (st_k0_t2 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 v249 X_arg5 X_arg6 X_arg7 G_arg9 G_arg10 G_arg11 G_arg12 G_arg13 init n).2.2.2.1 = [] := by
  subst hn; rfl
theorem nil12 {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {v249 : BitVec 32} {X_arg5 : BufTy.Contents (Elt Ideal) arg5.view.ty} {X_arg6 : BufTy.Contents (Elt Ideal) arg6.view.ty} {X_arg7 : BufTy.Contents (Elt Ideal) arg7.view.ty} {G_arg9 : BufTy.Contents (Elt Ideal) arg9.view.ty} {G_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty}  {init : BitVec 32} {n : ℕ} (hn : n = 0) : (st_k0_t2 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 v249 X_arg5 X_arg6 X_arg7 G_arg9 G_arg10 G_arg11 G_arg12 G_arg13 init n).2.2.2.2.1 = [] := by
  subst hn; rfl
theorem nil13 {𝒱 : Variants} {c : Dev nD} {bd : Option 𝒱.V} {i : grid0.Coords} {arg3 : Memref sig .tc .vmem S1x512x512 .bf16} {harg3 : arg3.IsWhole} {arg4 : Memref sig .tc .vmem S1x512x256 .bf16} {harg4 : arg4.IsWhole} {arg5 : Memref sig .tc .vmem S1x4096x512 .bf16} {harg5 : arg5.IsWhole} {arg6 : Memref sig .tc .vmem S1x4096x128 .bf16} {harg6 : arg6.IsWhole} {arg7 : Memref sig .tc .vmem S1x512x4096 .bf16} {harg7 : arg7.IsWhole} {arg8 : Memref sig .tc .vmem S1x512x512 .bf16} {harg8 : arg8.IsWhole} {arg9 : Memref sig .tc .vmem S2x4x512x512 .f32} {harg9 : arg9.IsWhole} {arg10 : Memref sig .tc .vmem S2x4x1x512 .f32} {harg10 : arg10.IsWhole} {arg11 : Memref sig .tc .vmem S4x1x512 .f32} {harg11 : arg11.IsWhole} {arg12 : Memref sig .tc .vmem S4x1x512 .f32} {harg12 : arg12.IsWhole} {arg13 : Memref sig .tc .vmem S4x128x512 .f32} {harg13 : arg13.IsWhole} {v35 : FVec Ideal S512x256 .bf16} {v71 : FVec Ideal S512x256 .bf16} {v107 : FVec Ideal S512x256 .bf16} {v143 : FVec Ideal S512x256 .bf16} {v146 : BitVec 32} {v218 : FVec Ideal S512x512 .f32} {v219 : Vec Ideal S1x1x512x512 .f32} {v249 : BitVec 32} {X_arg5 : BufTy.Contents (Elt Ideal) arg5.view.ty} {X_arg6 : BufTy.Contents (Elt Ideal) arg6.view.ty} {X_arg7 : BufTy.Contents (Elt Ideal) arg7.view.ty} {G_arg9 : BufTy.Contents (Elt Ideal) arg9.view.ty} {G_arg10 : BufTy.Contents (Elt Ideal) arg10.view.ty} {G_arg11 : BufTy.Contents (Elt Ideal) arg11.view.ty} {G_arg12 : BufTy.Contents (Elt Ideal) arg12.view.ty} {G_arg13 : BufTy.Contents (Elt Ideal) arg13.view.ty}  {init : BitVec 32} {n : ℕ} (hn : n = 0) : (st_k0_t2 (F := Ideal) 𝒱 c bd i arg3 harg3 arg4 harg4 arg5 harg5 arg6 harg6 arg7 harg7 arg8 harg8 arg9 harg9 arg10 harg10 arg11 harg11 arg12 harg12 arg13 harg13 v35 v71 v107 v143 v146 v218 v219 v249 X_arg5 X_arg6 X_arg7 G_arg9 G_arg10 G_arg11 G_arg12 G_arg13 init n).2.2.2.2.2 = [] := by
  subst hn; rfl

def fO (a : FVec Ideal S1x128x512 .f32) (l : FVec Ideal S1x1x512 .f32) : FVec Ideal S1x512x128 .bf16 := k0_pay1 (k0_pay311 a l)

theorem dO (a : FVec Ideal S1x128x512 .f32) (l : FVec Ideal S1x1x512 .f32) (q : Fin 512) (d : Fin 128) :
    fO a l (ix3 0 q d) = Ideal.div (a (ix3 0 d q)) (l (ix3 0 0 q)) := by
  pointwise [fO, k0_pay1, k0_pay311]

section
variable {sig : RefSig} {κ : Kind} {sp : Space}
theorem hit8 (v : View sig κ sp S1x512x512 .bf16) (f : v.ty.Contents (Elt Ideal)) (h : Fin 4) {off : Fin 3 → ℕ} (heq : off = ![0, 0, 128 * h.val]) (inb : ∀ a, off a + S1x512x128.size a ≤ S1x512x512.size a)
    (w : FVec Ideal S1x512x128 .bf16) (L) (q : Fin 512) (d : Fin 128) (e : Fin 512) (he : e.val = 128 * h.val + d.val) :
    v.read (Elt Ideal) (v.writes (Elt Ideal) f (⟨Rect.unit (s := S1x512x512) off S1x512x128.size inb, w⟩ :: L)) (ix3 0 q e) = w (ix3 0 q d) :=
  View.read_writes_cons_unit_of_mem v f inb w L _ (ix3 0 q d) heq (fin3 rfl (Nat.zero_add _).symm he)
theorem skip8 (v : View sig κ sp S1x512x512 .bf16) (f : v.ty.Contents (Elt Ideal)) (g h : Fin 4) (hne : g ≠ h) {off : Fin 3 → ℕ} (heq : off = ![0, 0, 128 * g.val]) (inb : ∀ a, off a + S1x512x128.size a ≤ S1x512x512.size a)
    (w : FVec Ideal S1x512x128 .bf16) (L) (q : Fin 512) (d : Fin 128) (e : Fin 512) (he : e.val = 128 * h.val + d.val) :
    v.read (Elt Ideal) (v.writes (Elt Ideal) f (⟨Rect.unit (s := S1x512x512) off S1x512x128.size inb, w⟩ :: L)) (ix3 0 q e) = v.read (Elt Ideal) (v.writes (Elt Ideal) f L) (ix3 0 q e) :=
  View.read_writes_cons_unit_of_not_mem v f inb w L _ heq (2 : Fin 3) (by
    have : g.val ≠ h.val := fun e => hne (Fin.ext e)
    have := d.isLt
    show e.val < 128 * g.val ∨ 128 * g.val + 128 ≤ e.val
    omega)

theorem full11 (v : View sig κ sp S4x1x512 .f32) (f : v.ty.Contents (Elt Ideal)) (inb : ∀ a, ![0, 0, 0] a + S4x1x512.size a ≤ S4x1x512.size a)
    (w : FVec Ideal S4x1x512 .f32) (L) (h : Fin 4) (q : Fin 512) :
    v.read (Elt Ideal) (v.writes (Elt Ideal) f (⟨Rect.unit (s := S4x1x512) ![0, 0, 0] S4x1x512.size inb, w⟩ :: L)) (ix3 h 0 q) = w (ix3 h 0 q) :=
  View.read_writes_cons_unit_of_mem v f inb w L _ (ix3 h 0 q) rfl (fin3 (Nat.zero_add _).symm rfl (Nat.zero_add _).symm)
theorem full13 (v : View sig κ sp S4x128x512 .f32) (f : v.ty.Contents (Elt Ideal)) (inb : ∀ a, ![0, 0, 0] a + S4x128x512.size a ≤ S4x128x512.size a)
    (w : FVec Ideal S4x128x512 .f32) (L) (h : Fin 4) (d : Fin 128) (q : Fin 512) :
    v.read (Elt Ideal) (v.writes (Elt Ideal) f (⟨Rect.unit (s := S4x128x512) ![0, 0, 0] S4x128x512.size inb, w⟩ :: L)) (ix3 h d q) = w (ix3 h d q) :=
  View.read_writes_cons_unit_of_mem v f inb w L _ (ix3 h d q) rfl (fin3 (Nat.zero_add _).symm (Nat.zero_add _).symm (Nat.zero_add _).symm)
end

theorem p236 (h : Fin 4) (q : Fin 512) : k0_pay236 (F := Ideal) (ix3 h 0 q) = ⊥ := by
  pointwise [k0_pay236]
  rfl
theorem p237 (h : Fin 4) (q : Fin 512) : k0_pay237 (F := Ideal) (ix3 h 0 q) = 0 := by
  pointwise [k0_pay237]
theorem p238 (h : Fin 4) (d : Fin 128) (q : Fin 512) : k0_pay238 (F := Ideal) (ix3 h d q) = 0 := by
  pointwise [k0_pay238]

theorem cov9 {i0 : ∀ a, ![0, 0, 0, 0] a + S1x1x512x512.size a ≤ S2x4x512x512.size a} {i1 : ∀ a, ![0, 1, 0, 0] a + S1x1x512x512.size a ≤ S2x4x512x512.size a} {i2 : ∀ a, ![0, 2, 0, 0] a + S1x1x512x512.size a ≤ S2x4x512x512.size a} {i3 : ∀ a, ![0, 3, 0, 0] a + S1x1x512x512.size a ≤ S2x4x512x512.size a} {w0 : FVec Ideal S1x1x512x512 .f32} {w1 : FVec Ideal S1x1x512x512 .f32} {w2 : FVec Ideal S1x1x512x512 .f32} {w3 : FVec Ideal S1x1x512x512 .f32} (h : Fin 4) (j q : Fin 512) :
    ∃ p ∈ ([⟨Rect.unit (s := S2x4x512x512) ![0, 3, 0, 0] S1x1x512x512.size i3, w3⟩, ⟨Rect.unit (s := S2x4x512x512) ![0, 2, 0, 0] S1x1x512x512.size i2, w2⟩, ⟨Rect.unit (s := S2x4x512x512) ![0, 1, 0, 0] S1x1x512x512.size i1, w1⟩, ⟨Rect.unit (s := S2x4x512x512) ![0, 0, 0, 0] S1x1x512x512.size i0, w0⟩] : List (View.Piece (Elt Ideal) S2x4x512x512 .f32)), (ix4 0 h j q : S2x4x512x512.Idx) ∈ p.1.set := by
  have key : ∀ (g : Fin 4) (ig : ∀ a, ![0, g.val, 0, 0] a + S1x1x512x512.size a ≤ S2x4x512x512.size a), (ix4 0 g j q : S2x4x512x512.Idx) ∈ (Rect.unit (s := S2x4x512x512) ![0, g.val, 0, 0] S1x1x512x512.size ig).set := fun g ig =>
    Rect.mem_set_unit.mpr (fin4 ⟨Nat.le_refl _, Nat.zero_lt_one⟩ ⟨Nat.le_refl _, Nat.lt_succ_self _⟩
      ⟨Nat.zero_le _, by have := j.isLt; show j.val < 0 + 512; omega⟩ ⟨Nat.zero_le _, by have := q.isLt; show q.val < 0 + 512; omega⟩)
  revert h
  exact fin4 ⟨_, .tail _ (.tail _ (.tail _ (.head _))), key 0 i0⟩ ⟨_, .tail _ (.tail _ (.head _)), key 1 i1⟩ ⟨_, .tail _ (.head _), key 2 i2⟩ ⟨_, .head _, key 3 i3⟩

theorem cov10 {i0 : ∀ a, ![0, 0, 0, 0] a + S1x1x1x512.size a ≤ S2x4x1x512.size a} {i1 : ∀ a, ![0, 1, 0, 0] a + S1x1x1x512.size a ≤ S2x4x1x512.size a} {i2 : ∀ a, ![0, 2, 0, 0] a + S1x1x1x512.size a ≤ S2x4x1x512.size a} {i3 : ∀ a, ![0, 3, 0, 0] a + S1x1x1x512.size a ≤ S2x4x1x512.size a} {w0 : FVec Ideal S1x1x1x512 .f32} {w1 : FVec Ideal S1x1x1x512 .f32} {w2 : FVec Ideal S1x1x1x512 .f32} {w3 : FVec Ideal S1x1x1x512 .f32} (h : Fin 4) (q : Fin 512) :
    ∃ p ∈ ([⟨Rect.unit (s := S2x4x1x512) ![0, 3, 0, 0] S1x1x1x512.size i3, w3⟩, ⟨Rect.unit (s := S2x4x1x512) ![0, 2, 0, 0] S1x1x1x512.size i2, w2⟩, ⟨Rect.unit (s := S2x4x1x512) ![0, 1, 0, 0] S1x1x1x512.size i1, w1⟩, ⟨Rect.unit (s := S2x4x1x512) ![0, 0, 0, 0] S1x1x1x512.size i0, w0⟩] : List (View.Piece (Elt Ideal) S2x4x1x512 .f32)), (ix4 0 h 0 q : S2x4x1x512.Idx) ∈ p.1.set := by
  have key : ∀ (g : Fin 4) (ig : ∀ a, ![0, g.val, 0, 0] a + S1x1x1x512.size a ≤ S2x4x1x512.size a), (ix4 0 g 0 q : S2x4x1x512.Idx) ∈ (Rect.unit (s := S2x4x1x512) ![0, g.val, 0, 0] S1x1x1x512.size ig).set := fun g ig =>
    Rect.mem_set_unit.mpr (fin4 ⟨Nat.le_refl _, Nat.zero_lt_one⟩ ⟨Nat.le_refl _, Nat.lt_succ_self _⟩
      ⟨Nat.zero_le _, Nat.zero_lt_one⟩ ⟨Nat.zero_le _, by have := q.isLt; show q.val < 0 + 512; omega⟩)
  revert h
  exact fin4 ⟨_, .tail _ (.tail _ (.tail _ (.head _))), key 0 i0⟩ ⟨_, .tail _ (.tail _ (.head _)), key 1 i1⟩ ⟨_, .tail _ (.head _), key 2 i2⟩ ⟨_, .head _, key 3 i3⟩

theorem inv0 {arg5 : Memref sig .tc .vmem S1x4096x512 .bf16} {arg6 : Memref sig .tc .vmem S1x4096x128 .bf16} {arg7 : Memref sig .tc .vmem S1x512x4096 .bf16} {arg9 : Memref sig .tc .vmem S2x4x512x512 .f32} {arg10 : Memref sig .tc .vmem S2x4x1x512 .f32} {arg11 : Memref sig .tc .vmem S4x1x512 .f32} {arg12 : Memref sig .tc .vmem S4x1x512 .f32} {arg13 : Memref sig .tc .vmem S4x128x512 .f32} {v35 v71 v107 v143 : FVec Ideal S512x256 .bf16} {X_arg5 : BufTy.Contents (Elt Ideal) arg5.view.ty} {X_arg6 : BufTy.Contents (Elt Ideal) arg6.view.ty} {X_arg7 : BufTy.Contents (Elt Ideal) arg7.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {i0 : ∀ a, ![0, 0, 0, 0] a + S1x1x512x512.size a ≤ S2x4x512x512.size a} {j0 : ∀ a, ![0, 0, 0, 0] a + S1x1x1x512.size a ≤ S2x4x1x512.size a} {k0 : ∀ a, ![0, 0, 0] a + S1x512x128.size a ≤ S1x4096x512.size a} {i1 : ∀ a, ![0, 1, 0, 0] a + S1x1x512x512.size a ≤ S2x4x512x512.size a} {j1 : ∀ a, ![0, 1, 0, 0] a + S1x1x1x512.size a ≤ S2x4x1x512.size a} {k1 : ∀ a, ![0, 0, 128] a + S1x512x128.size a ≤ S1x4096x512.size a} {i2 : ∀ a, ![0, 2, 0, 0] a + S1x1x512x512.size a ≤ S2x4x512x512.size a} {j2 : ∀ a, ![0, 2, 0, 0] a + S1x1x1x512.size a ≤ S2x4x1x512.size a} {k2 : ∀ a, ![0, 0, 256] a + S1x512x128.size a ≤ S1x4096x512.size a} {i3 : ∀ a, ![0, 3, 0, 0] a + S1x1x512x512.size a ≤ S2x4x512x512.size a} {j3 : ∀ a, ![0, 3, 0, 0] a + S1x1x1x512.size a ≤ S2x4x1x512.size a} {k3 : ∀ a, ![0, 0, 384] a + S1x512x128.size a ≤ S1x4096x512.size a} {kr : ∀ a, ![0, 0, 0] a + S1x512x128.size a ≤ S1x4096x128.size a} {m1 m2 : ∀ a, ![0, 0, 0] a + S4x1x512.size a ≤ S4x1x512.size a} {m3 : ∀ a, ![0, 0, 0] a + S4x128x512.size a ≤ S4x128x512.size a} :
    Inv ![v35, v71, v107, v143] (arg5.view.read (Elt Ideal) X_arg5) (arg6.view.read (Elt Ideal) X_arg6) (arg7.view.read (Elt Ideal) X_arg7) 0 (arg9.view.read (Elt Ideal) (arg9.view.writes (Elt Ideal) f9 [⟨Rect.unit (s := S2x4x512x512) ![0, 3, 0, 0] S1x1x512x512.size i3, k0_pay6 (F := Ideal) v143 (arg5.view.readAt (Elt Ideal) (Rect.unit (s := S1x4096x512) ![0, 0, 384] S1x512x128.size k3).toLoadRect X_arg5) (arg6.view.readAt (Elt Ideal) (Rect.unit (s := S1x4096x128) ![0, 0, 0] S1x512x128.size kr).toLoadRect X_arg6)⟩, ⟨Rect.unit (s := S2x4x512x512) ![0, 2, 0, 0] S1x1x512x512.size i2, k0_pay6 (F := Ideal) v107 (arg5.view.readAt (Elt Ideal) (Rect.unit (s := S1x4096x512) ![0, 0, 256] S1x512x128.size k2).toLoadRect X_arg5) (arg6.view.readAt (Elt Ideal) (Rect.unit (s := S1x4096x128) ![0, 0, 0] S1x512x128.size kr).toLoadRect X_arg6)⟩, ⟨Rect.unit (s := S2x4x512x512) ![0, 1, 0, 0] S1x1x512x512.size i1, k0_pay6 (F := Ideal) v71 (arg5.view.readAt (Elt Ideal) (Rect.unit (s := S1x4096x512) ![0, 0, 128] S1x512x128.size k1).toLoadRect X_arg5) (arg6.view.readAt (Elt Ideal) (Rect.unit (s := S1x4096x128) ![0, 0, 0] S1x512x128.size kr).toLoadRect X_arg6)⟩, ⟨Rect.unit (s := S2x4x512x512) ![0, 0, 0, 0] S1x1x512x512.size i0, k0_pay6 (F := Ideal) v35 (arg5.view.readAt (Elt Ideal) (Rect.unit (s := S1x4096x512) ![0, 0, 0] S1x512x128.size k0).toLoadRect X_arg5) (arg6.view.readAt (Elt Ideal) (Rect.unit (s := S1x4096x128) ![0, 0, 0] S1x512x128.size kr).toLoadRect X_arg6)⟩])) (arg10.view.read (Elt Ideal) (arg10.view.writes (Elt Ideal) f10 [⟨Rect.unit (s := S2x4x1x512) ![0, 3, 0, 0] S1x1x1x512.size j3, k0_pay7 (F := Ideal) v143 (arg5.view.readAt (Elt Ideal) (Rect.unit (s := S1x4096x512) ![0, 0, 384] S1x512x128.size k3).toLoadRect X_arg5) (arg6.view.readAt (Elt Ideal) (Rect.unit (s := S1x4096x128) ![0, 0, 0] S1x512x128.size kr).toLoadRect X_arg6)⟩, ⟨Rect.unit (s := S2x4x1x512) ![0, 2, 0, 0] S1x1x1x512.size j2, k0_pay7 (F := Ideal) v107 (arg5.view.readAt (Elt Ideal) (Rect.unit (s := S1x4096x512) ![0, 0, 256] S1x512x128.size k2).toLoadRect X_arg5) (arg6.view.readAt (Elt Ideal) (Rect.unit (s := S1x4096x128) ![0, 0, 0] S1x512x128.size kr).toLoadRect X_arg6)⟩, ⟨Rect.unit (s := S2x4x1x512) ![0, 1, 0, 0] S1x1x1x512.size j1, k0_pay7 (F := Ideal) v71 (arg5.view.readAt (Elt Ideal) (Rect.unit (s := S1x4096x512) ![0, 0, 128] S1x512x128.size k1).toLoadRect X_arg5) (arg6.view.readAt (Elt Ideal) (Rect.unit (s := S1x4096x128) ![0, 0, 0] S1x512x128.size kr).toLoadRect X_arg6)⟩, ⟨Rect.unit (s := S2x4x1x512) ![0, 0, 0, 0] S1x1x1x512.size j0, k0_pay7 (F := Ideal) v35 (arg5.view.readAt (Elt Ideal) (Rect.unit (s := S1x4096x512) ![0, 0, 0] S1x512x128.size k0).toLoadRect X_arg5) (arg6.view.readAt (Elt Ideal) (Rect.unit (s := S1x4096x128) ![0, 0, 0] S1x512x128.size kr).toLoadRect X_arg6)⟩])) (arg11.view.read (Elt Ideal) (arg11.view.writes (Elt Ideal) f11 [⟨Rect.unit (s := S4x1x512) ![0, 0, 0] S4x1x512.size m1, k0_pay236 (F := Ideal)⟩])) (arg12.view.read (Elt Ideal) (arg12.view.writes (Elt Ideal) f12 [⟨Rect.unit (s := S4x1x512) ![0, 0, 0] S4x1x512.size m2, k0_pay237 (F := Ideal)⟩])) (arg13.view.read (Elt Ideal) (arg13.view.writes (Elt Ideal) f13 [⟨Rect.unit (s := S4x128x512) ![0, 0, 0] S4x128x512.size m3, k0_pay238 (F := Ideal)⟩])) where
  s := fin4 (fun j q => by
        refine (skip9 _ _ 0 3 0 (by decide) _ _ _ j q).trans ?_
        refine (skip9 _ _ 0 2 0 (by decide) _ _ _ j q).trans ?_
        refine (skip9 _ _ 0 1 0 (by decide) _ _ _ j q).trans ?_
        refine (hit9 _ _ 0 0 _ _ _ j q).trans ?_
        refine (p6 v35 _ _ j q).trans ?_
        exact congr (congrArg₂ (k0_pay5 (F := Ideal) v35) (rd5 _ _ 0 0 (by decide) _ rfl) (rd6 _ _ 0 (by decide) _ rfl)) rfl)
    (fun j q => by
        refine (skip9 _ _ 0 3 1 (by decide) _ _ _ j q).trans ?_
        refine (skip9 _ _ 0 2 1 (by decide) _ _ _ j q).trans ?_
        refine (hit9 _ _ 0 1 _ _ _ j q).trans ?_
        refine (p6 v71 _ _ j q).trans ?_
        exact congr (congrArg₂ (k0_pay5 (F := Ideal) v71) (rd5 _ _ 1 0 (by decide) _ rfl) (rd6 _ _ 0 (by decide) _ rfl)) rfl)
    (fun j q => by
        refine (skip9 _ _ 0 3 2 (by decide) _ _ _ j q).trans ?_
        refine (hit9 _ _ 0 2 _ _ _ j q).trans ?_
        refine (p6 v107 _ _ j q).trans ?_
        exact congr (congrArg₂ (k0_pay5 (F := Ideal) v107) (rd5 _ _ 2 0 (by decide) _ rfl) (rd6 _ _ 0 (by decide) _ rfl)) rfl)
    (fun j q => by
        refine (hit9 _ _ 0 3 _ _ _ j q).trans ?_
        refine (p6 v143 _ _ j q).trans ?_
        exact congr (congrArg₂ (k0_pay5 (F := Ideal) v143) (rd5 _ _ 3 0 (by decide) _ rfl) (rd6 _ _ 0 (by decide) _ rfl)) rfl)
  x := fin4 (fun q => by
        refine (skip10 _ _ 0 3 0 (by decide) _ _ _ q).trans ?_
        refine (skip10 _ _ 0 2 0 (by decide) _ _ _ q).trans ?_
        refine (skip10 _ _ 0 1 0 (by decide) _ _ _ q).trans ?_
        refine (hit10 _ _ 0 0 _ _ _ q).trans ?_
        refine (p7 v35 _ _ q).trans ?_
        exact congrArg Cert.Mla.mx (funext fun j => congr (congrArg₂ (k0_pay5 (F := Ideal) v35) (rd5 _ _ 0 0 (by decide) _ rfl) (rd6 _ _ 0 (by decide) _ rfl)) rfl))
    (fun q => by
        refine (skip10 _ _ 0 3 1 (by decide) _ _ _ q).trans ?_
        refine (skip10 _ _ 0 2 1 (by decide) _ _ _ q).trans ?_
        refine (hit10 _ _ 0 1 _ _ _ q).trans ?_
        refine (p7 v71 _ _ q).trans ?_
        exact congrArg Cert.Mla.mx (funext fun j => congr (congrArg₂ (k0_pay5 (F := Ideal) v71) (rd5 _ _ 1 0 (by decide) _ rfl) (rd6 _ _ 0 (by decide) _ rfl)) rfl))
    (fun q => by
        refine (skip10 _ _ 0 3 2 (by decide) _ _ _ q).trans ?_
        refine (hit10 _ _ 0 2 _ _ _ q).trans ?_
        refine (p7 v107 _ _ q).trans ?_
        exact congrArg Cert.Mla.mx (funext fun j => congr (congrArg₂ (k0_pay5 (F := Ideal) v107) (rd5 _ _ 2 0 (by decide) _ rfl) (rd6 _ _ 0 (by decide) _ rfl)) rfl))
    (fun q => by
        refine (hit10 _ _ 0 3 _ _ _ q).trans ?_
        refine (p7 v143 _ _ q).trans ?_
        exact congrArg Cert.Mla.mx (funext fun j => congr (congrArg₂ (k0_pay5 (F := Ideal) v143) (rd5 _ _ 3 0 (by decide) _ rfl) (rd6 _ _ 0 (by decide) _ rfl)) rfl))
  m := fun h q => (full11 _ _ _ _ _ h q).trans (p236 h q)
  l := fun h q => (full11 _ _ _ _ _ h q).trans (p237 h q)
  a := fun h d q => (full13 _ _ _ _ _ h d q).trans (p238 h d q)

/-- The logits of the row, the diagonal tile's masked past the row's block of 64. -/
def am (qt : ℕ) (q : Fin 512) (a : ℕ → Fin 512 → EReal) (n : ℕ) (j : Fin 512) : EReal :=
  if n = qt ∧ ¬ j.val / 64 ≤ q.val / 64 then ⊥ else a n j

theorem am_lt {qt n : ℕ} (h : n < qt) (q : Fin 512) (a : ℕ → Fin 512 → EReal) : am qt q a n = a n :=
  funext fun j => if_neg fun e => absurd e.1 (Nat.ne_of_lt h)

theorem am_M (qt : ℕ) (q : Fin 512) (a : ℕ → Fin 512 → EReal) : ∀ n ≤ qt, Cert.Mla.M (am qt q a) n = Cert.Mla.M a n
  | 0, _ => rfl
  | n + 1, h => by
    show max _ _ = max _ _
    rw [am_M qt q a n (by omega), am_lt h]
theorem am_L (qt : ℕ) (q : Fin 512) (a : ℕ → Fin 512 → EReal) : ∀ n ≤ qt, Cert.Mla.L (am qt q a) n = Cert.Mla.L a n
  | 0, _ => rfl
  | n + 1, h => by
    show _ * _ + _ = _ * _ + _
    rw [am_M qt q a n (by omega), am_M qt q a (n + 1) h, am_L qt q a n (by omega), am_lt h]
theorem am_A (qt : ℕ) (q : Fin 512) (a v : ℕ → Fin 512 → EReal) : ∀ n ≤ qt, Cert.Mla.A (am qt q a) v n = Cert.Mla.A a v n
  | 0, _ => rfl
  | n + 1, h => by
    show _ * _ + _ = _ * _ + _
    rw [am_M qt q a n (by omega), am_M qt q a (n + 1) h, am_A qt q a v n (by omega), am_lt h]

theorem toM {qt : ℕ} {q : Fin 512} {a : ℕ → Fin 512 → EReal} {x : EReal} {n : ℕ} (h : x = Cert.Mla.M a n) (e : n = qt) : x = Cert.Mla.M (am qt q a) qt := by
  subst e; rw [h, am_M _ _ _ _ le_rfl]
theorem toL {qt : ℕ} {q : Fin 512} {a : ℕ → Fin 512 → EReal} {x : EReal} {n : ℕ} (h : x = Cert.Mla.L a n) (e : n = qt) : x = Cert.Mla.L (am qt q a) qt := by
  subst e; rw [h, am_L _ _ _ _ le_rfl]
theorem toA {qt : ℕ} {q : Fin 512} {a v : ℕ → Fin 512 → EReal} {x : EReal} {n : ℕ} (h : x = Cert.Mla.A a v n) (e : n = qt) : x = Cert.Mla.A (am qt q a) v qt := by
  subst e; rw [h, am_A _ _ _ _ _ le_rfl]
theorem toS {qt : ℕ} {q : Fin 512} {a : ℕ → Fin 512 → EReal} {s : FVec Ideal S1x1x512x512 .f32} (h : ∀ j, s (ix4 0 0 j q) = a qt j) (j : Fin 512) :
    mk s (ix2 j q) = am qt q a qt j := by
  rw [mk_eq, h j]
  unfold am
  by_cases hj : j.val / 64 ≤ q.val / 64
  · rw [if_pos hj, if_neg fun e => e.2 hj]
  · rw [if_neg hj, if_pos ⟨rfl, hj⟩]
theorem toX {qt : ℕ} {q : Fin 512} {a : ℕ → Fin 512 → EReal} {s : FVec Ideal S1x1x512x512 .f32} (h : ∀ j, s (ix4 0 0 j q) = a qt j) :
    (Cert.Mla.mx fun j => mk s (ix2 j q)) = Cert.Mla.mx (am qt q a qt) := congrArg Cert.Mla.mx (funext (toS h))

theorem gA0 (s : FVec Ideal S1x1x512x512 .f32) (m : FVec Ideal S1x1x512 .f32) (a : FVec Ideal S1x128x512 .f32) (v : FVec Ideal S1x128x512 .bf16) (d : Fin 128) (q : Fin 512) :
    (k0_pay268 (F := Ideal) (k0_pay264 J (k0_pay257 s) (k0_pay258 K) 64#32 (k0_pay259 J) (k0_pay260 J) 1#32 0#1 m) (k0_pay265 J (k0_pay257 s) (k0_pay258 K) 64#32 (k0_pay259 J) (k0_pay260 J) 1#32 0#1 m) a v) (ix3 0 d q)
      = Ideal.exp2 (m (ix3 0 0 q) - max (m (ix3 0 0 q)) (Cert.Mla.mx fun j : Fin 512 => mk s (ix2 j q))) * a (ix3 0 d q)
        + ∑ j : Fin 512, v (ix3 0 d j) * Ideal.exp2 (mk s (ix2 j q) - max (m (ix3 0 0 q)) (Cert.Mla.mx fun j : Fin 512 => mk s (ix2 j q))) :=
  (congrFun (show k0_pay268 (F := Ideal) (k0_pay264 J (k0_pay257 s) (k0_pay258 K) 64#32 (k0_pay259 J) (k0_pay260 J) 1#32 0#1 m) (k0_pay265 J (k0_pay257 s) (k0_pay258 K) 64#32 (k0_pay259 J) (k0_pay260 J) 1#32 0#1 m) a v = fA (mk s) m a v from rfl) _).trans (f24 (mk s) m a v d q)

theorem gL0 (s : FVec Ideal S1x1x512x512 .f32) (m : FVec Ideal S1x1x512 .f32) (l : FVec Ideal S1x1x512 .f32) (q : Fin 512) :
    (k0_pay267 (F := Ideal) J (k0_pay257 s) (k0_pay258 K) 64#32 (k0_pay259 J) (k0_pay260 J) 1#32 0#1 m l) (ix3 0 0 q)
      = Ideal.exp2 (m (ix3 0 0 q) - max (m (ix3 0 0 q)) (Cert.Mla.mx fun j : Fin 512 => mk s (ix2 j q))) * l (ix3 0 0 q)
        + ∑ j : Fin 512, Ideal.exp2 (mk s (ix2 j q) - max (m (ix3 0 0 q)) (Cert.Mla.mx fun j : Fin 512 => mk s (ix2 j q))) :=
  (congrFun (show k0_pay267 (F := Ideal) J (k0_pay257 s) (k0_pay258 K) 64#32 (k0_pay259 J) (k0_pay260 J) 1#32 0#1 m l = fL (mk s) m l from rfl) _).trans (f23 (mk s) m l q)

theorem gA1 (s : FVec Ideal S1x1x512x512 .f32) (m : FVec Ideal S1x1x512 .f32) (a : FVec Ideal S1x128x512 .f32) (v : FVec Ideal S1x128x512 .bf16) (d : Fin 128) (q : Fin 512) :
    (k0_pay279 (F := Ideal) (k0_pay274 J (k0_pay269 s) (k0_pay270 K) 64#32 m) (k0_pay275 J (k0_pay269 s) (k0_pay270 K) 64#32 m) a v) (ix3 0 d q)
      = Ideal.exp2 (m (ix3 0 0 q) - max (m (ix3 0 0 q)) (Cert.Mla.mx fun j : Fin 512 => mk s (ix2 j q))) * a (ix3 0 d q)
        + ∑ j : Fin 512, v (ix3 0 d j) * Ideal.exp2 (mk s (ix2 j q) - max (m (ix3 0 0 q)) (Cert.Mla.mx fun j : Fin 512 => mk s (ix2 j q))) :=
  (congrFun (show k0_pay279 (F := Ideal) (k0_pay274 J (k0_pay269 s) (k0_pay270 K) 64#32 m) (k0_pay275 J (k0_pay269 s) (k0_pay270 K) 64#32 m) a v = fA (mk s) m a v from rfl) _).trans (f24 (mk s) m a v d q)

theorem gL1 (s : FVec Ideal S1x1x512x512 .f32) (m : FVec Ideal S1x1x512 .f32) (l : FVec Ideal S1x1x512 .f32) (q : Fin 512) :
    (k0_pay278 (F := Ideal) (k0_pay274 J (k0_pay269 s) (k0_pay270 K) 64#32 m) (k0_pay275 J (k0_pay269 s) (k0_pay270 K) 64#32 m) (k0_pay277 l)) (ix3 0 0 q)
      = Ideal.exp2 (m (ix3 0 0 q) - max (m (ix3 0 0 q)) (Cert.Mla.mx fun j : Fin 512 => mk s (ix2 j q))) * l (ix3 0 0 q)
        + ∑ j : Fin 512, Ideal.exp2 (mk s (ix2 j q) - max (m (ix3 0 0 q)) (Cert.Mla.mx fun j : Fin 512 => mk s (ix2 j q))) :=
  (congrFun (show k0_pay278 (F := Ideal) (k0_pay274 J (k0_pay269 s) (k0_pay270 K) 64#32 m) (k0_pay275 J (k0_pay269 s) (k0_pay270 K) 64#32 m) (k0_pay277 l) = fL (mk s) m l from rfl) _).trans (f23 (mk s) m l q)

theorem gA2 (s : FVec Ideal S1x1x512x512 .f32) (m : FVec Ideal S1x1x512 .f32) (a : FVec Ideal S1x128x512 .f32) (v : FVec Ideal S1x128x512 .bf16) (d : Fin 128) (q : Fin 512) :
    (k0_pay291 (F := Ideal) (k0_pay283 K J (k0_pay280 s) 64#32 (k0_pay281 K) (k0_pay282 K) 1#32 0#32) (k0_pay285 K J (k0_pay280 s) 64#32 (k0_pay281 K) (k0_pay282 K) 1#32 0#32 m) (k0_pay286 K J (k0_pay280 s) 64#32 (k0_pay281 K) (k0_pay282 K) 1#32 0#32 m) a v) (ix3 0 d q)
      = Ideal.exp2 (m (ix3 0 0 q) - max (m (ix3 0 0 q)) (Cert.Mla.mx fun j : Fin 512 => mk s (ix2 j q))) * a (ix3 0 d q)
        + ∑ j : Fin 512, v (ix3 0 d j) * Ideal.exp2 (mk s (ix2 j q) - max (m (ix3 0 0 q)) (Cert.Mla.mx fun j : Fin 512 => mk s (ix2 j q))) :=
  (congrFun (show k0_pay291 (F := Ideal) (k0_pay283 K J (k0_pay280 s) 64#32 (k0_pay281 K) (k0_pay282 K) 1#32 0#32) (k0_pay285 K J (k0_pay280 s) 64#32 (k0_pay281 K) (k0_pay282 K) 1#32 0#32 m) (k0_pay286 K J (k0_pay280 s) 64#32 (k0_pay281 K) (k0_pay282 K) 1#32 0#32 m) a v = fA (mk s) m a v from rfl) _).trans (f24 (mk s) m a v d q)

theorem gL2 (s : FVec Ideal S1x1x512x512 .f32) (m : FVec Ideal S1x1x512 .f32) (l : FVec Ideal S1x1x512 .f32) (q : Fin 512) :
    (k0_pay290 (F := Ideal) (k0_pay283 K J (k0_pay280 s) 64#32 (k0_pay281 K) (k0_pay282 K) 1#32 0#32) (k0_pay285 K J (k0_pay280 s) 64#32 (k0_pay281 K) (k0_pay282 K) 1#32 0#32 m) (k0_pay286 K J (k0_pay280 s) 64#32 (k0_pay281 K) (k0_pay282 K) 1#32 0#32 m) l) (ix3 0 0 q)
      = Ideal.exp2 (m (ix3 0 0 q) - max (m (ix3 0 0 q)) (Cert.Mla.mx fun j : Fin 512 => mk s (ix2 j q))) * l (ix3 0 0 q)
        + ∑ j : Fin 512, Ideal.exp2 (mk s (ix2 j q) - max (m (ix3 0 0 q)) (Cert.Mla.mx fun j : Fin 512 => mk s (ix2 j q))) :=
  (congrFun (show k0_pay290 (F := Ideal) (k0_pay283 K J (k0_pay280 s) 64#32 (k0_pay281 K) (k0_pay282 K) 1#32 0#32) (k0_pay285 K J (k0_pay280 s) 64#32 (k0_pay281 K) (k0_pay282 K) 1#32 0#32 m) (k0_pay286 K J (k0_pay280 s) 64#32 (k0_pay281 K) (k0_pay282 K) 1#32 0#32 m) l = fL (mk s) m l from rfl) _).trans (f23 (mk s) m l q)

theorem gA3 (s : FVec Ideal S1x1x512x512 .f32) (m : FVec Ideal S1x1x512 .f32) (a : FVec Ideal S1x128x512 .f32) (v : FVec Ideal S1x128x512 .bf16) (d : Fin 128) (q : Fin 512) :
    (k0_pay307 (F := Ideal) (k0_pay304 (k0_pay292 s) (k0_pay293 K) (k0_pay294 J) (k0_pay295 J) k0_pay296 m a) (k0_pay305 v) (k0_pay306 (k0_pay292 s) (k0_pay293 K) (k0_pay294 J) (k0_pay295 J) k0_pay296 m)) (ix3 0 d q)
      = Ideal.exp2 (m (ix3 0 0 q) - max (m (ix3 0 0 q)) (Cert.Mla.mx fun j : Fin 512 => mk s (ix2 j q))) * a (ix3 0 d q)
        + ∑ j : Fin 512, v (ix3 0 d j) * Ideal.exp2 (mk s (ix2 j q) - max (m (ix3 0 0 q)) (Cert.Mla.mx fun j : Fin 512 => mk s (ix2 j q))) :=
  (congrFun (show k0_pay307 (F := Ideal) (k0_pay304 (k0_pay292 s) (k0_pay293 K) (k0_pay294 J) (k0_pay295 J) k0_pay296 m a) (k0_pay305 v) (k0_pay306 (k0_pay292 s) (k0_pay293 K) (k0_pay294 J) (k0_pay295 J) k0_pay296 m) = fA (mk s) m a v from rfl) _).trans (f24 (mk s) m a v d q)

theorem gL3 (s : FVec Ideal S1x1x512x512 .f32) (m : FVec Ideal S1x1x512 .f32) (l : FVec Ideal S1x1x512 .f32) (q : Fin 512) :
    (k0_pay303 (F := Ideal) (k0_pay292 s) (k0_pay293 K) (k0_pay294 J) (k0_pay295 J) k0_pay296 m l) (ix3 0 0 q)
      = Ideal.exp2 (m (ix3 0 0 q) - max (m (ix3 0 0 q)) (Cert.Mla.mx fun j : Fin 512 => mk s (ix2 j q))) * l (ix3 0 0 q)
        + ∑ j : Fin 512, Ideal.exp2 (mk s (ix2 j q) - max (m (ix3 0 0 q)) (Cert.Mla.mx fun j : Fin 512 => mk s (ix2 j q))) :=
  (congrFun (show k0_pay303 (F := Ideal) (k0_pay292 s) (k0_pay293 K) (k0_pay294 J) (k0_pay295 J) k0_pay296 m l = fL (mk s) m l from rfl) _).trans (f23 (mk s) m l q)

end Cert.KernelIdeal.Mla
-- ==== Proof.MlaEven.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaFin
public import proofs.«01_k».proof.Proof.BodyEven

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

theorem evOut0 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : ¬ k0_cond1 i = 1#1) (q : Fin 512) (d : Fin 128) (e : Fin 512) (he : e.val = 128 * 0 + d.val) :
    arg8.view.read (Elt Ideal) (arg8.view.writes (Elt Ideal) f8 (runEven (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runEven.sl.r (F := Ideal) c arg3 harg3 arg4 harg4 x3 x4) (arg5.view.read (Elt Ideal) (harg5.unread x5)) (arg6.view.read (Elt Ideal) (harg6.unread x6)) 0 q)) (vl (arg7.view.read (Elt Ideal) (harg7.unread x7)) 0 d) ((i 2).val + 1)) (Cert.Mla.L (am (i 2).val q (lg (runEven.sl.r (F := Ideal) c arg3 harg3 arg4 harg4 x3 x4) (arg5.view.read (Elt Ideal) (harg5.unread x5)) (arg6.view.read (Elt Ideal) (harg6.unread x6)) 0 q)) ((i 2).val + 1)) := by
  have hq : 2 * (k0_t1_loop i).trips = (i 2).val := by
    rw [trips1, cond1_iff] at *; omega
  have E0 : (i 2).val % 2 = 0 := by omega
  unfold runEven; dsimp only
  refine (skip8 _ _ 3 0 (by decide) rfl _ _ _ q d e he).trans ?_
  refine (skip8 _ _ 2 0 (by decide) rfl _ _ _ q d e he).trans ?_
  refine (skip8 _ _ 1 0 (by decide) rfl _ _ _ q d e he).trans ?_
  refine (hit8 _ _ 0 rfl _ _ _ q d e he).trans ?_
  refine (dO _ _ q d).trans ?_
  refine congrArg₂ Ideal.div ?_ ?_
  · refine (ld13 _ _ 0 rfl _ d q).trans ?_
    refine (skip13 _ _ 3 0 (by decide) _ _ _ d q).trans ?_
    refine (skip13 _ _ 2 0 (by decide) _ _ _ d q).trans ?_
    refine (skip13 _ _ 1 0 (by decide) _ _ _ d q).trans ?_
    refine (hit13 _ _ 0 _ _ _ d q).trans ?_
    refine (gA0 _ _ _ _ d q).trans ?_
    refine stepA ?_ (toX ?_) ?_ (toS ?_) ?_
    · refine (ld11 _ _ 0 rfl _ q).trans ?_
      exact toM (inv_m rfl inv0 (nil11 (trips2 i)) 0 q) hq
    · intro j
      refine (ld9 _ _ 0 0 ((off36 i).trans (by rw [E0]; rfl)) _ j q).trans ?_
      exact (inv_s rfl inv0 (nil9 (trips2 i)) 0 j q (cov9 0 j q)).trans (congrArg (fun n => lg _ _ _ 0 q n j) hq)
    · refine (ld13 _ _ 0 rfl _ d q).trans ?_
      exact toA (inv_a rfl inv0 (nil13 (trips2 i)) 0 d q) hq
    · intro j
      refine (ld9 _ _ 0 0 ((off36 i).trans (by rw [E0]; rfl)) _ j q).trans ?_
      exact (inv_s rfl inv0 (nil9 (trips2 i)) 0 j q (cov9 0 j q)).trans (congrArg (fun n => lg _ _ _ 0 q n j) hq)
    · intro j
      exact congrFun (rd7 _ _ 0 (i 2).val (qt_lt i) _ (off37 i)) (ix3 0 d j)
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (gL0 _ _ _ q).trans ?_
    refine stepL ?_ (toX ?_) ?_ (toS ?_)
    · refine (ld11 _ _ 0 rfl _ q).trans ?_
      exact toM (inv_m rfl inv0 (nil11 (trips2 i)) 0 q) hq
    · intro j
      refine (ld9 _ _ 0 0 ((off36 i).trans (by rw [E0]; rfl)) _ j q).trans ?_
      exact (inv_s rfl inv0 (nil9 (trips2 i)) 0 j q (cov9 0 j q)).trans (congrArg (fun n => lg _ _ _ 0 q n j) hq)
    · refine (ld11 _ _ 0 rfl _ q).trans ?_
      exact toL (inv_l rfl inv0 (nil12 (trips2 i)) 0 q) hq
    · intro j
      refine (ld9 _ _ 0 0 ((off36 i).trans (by rw [E0]; rfl)) _ j q).trans ?_
      exact (inv_s rfl inv0 (nil9 (trips2 i)) 0 j q (cov9 0 j q)).trans (congrArg (fun n => lg _ _ _ 0 q n j) hq)

theorem evOut1 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : ¬ k0_cond1 i = 1#1) (q : Fin 512) (d : Fin 128) (e : Fin 512) (he : e.val = 128 * 1 + d.val) :
    arg8.view.read (Elt Ideal) (arg8.view.writes (Elt Ideal) f8 (runEven (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runEven.sl.r_2 (F := Ideal) c arg3 harg3 arg4 harg4 x3 x4) (arg5.view.read (Elt Ideal) (harg5.unread x5)) (arg6.view.read (Elt Ideal) (harg6.unread x6)) 1 q)) (vl (arg7.view.read (Elt Ideal) (harg7.unread x7)) 1 d) ((i 2).val + 1)) (Cert.Mla.L (am (i 2).val q (lg (runEven.sl.r_2 (F := Ideal) c arg3 harg3 arg4 harg4 x3 x4) (arg5.view.read (Elt Ideal) (harg5.unread x5)) (arg6.view.read (Elt Ideal) (harg6.unread x6)) 1 q)) ((i 2).val + 1)) := by
  have hq : 2 * (k0_t1_loop i).trips = (i 2).val := by
    rw [trips1, cond1_iff] at *; omega
  have E0 : (i 2).val % 2 = 0 := by omega
  unfold runEven; dsimp only
  refine (skip8 _ _ 3 1 (by decide) rfl _ _ _ q d e he).trans ?_
  refine (skip8 _ _ 2 1 (by decide) rfl _ _ _ q d e he).trans ?_
  refine (hit8 _ _ 1 rfl _ _ _ q d e he).trans ?_
  refine (dO _ _ q d).trans ?_
  refine congrArg₂ Ideal.div ?_ ?_
  · refine (ld13 _ _ 1 rfl _ d q).trans ?_
    refine (skip13 _ _ 3 1 (by decide) _ _ _ d q).trans ?_
    refine (skip13 _ _ 2 1 (by decide) _ _ _ d q).trans ?_
    refine (hit13 _ _ 1 _ _ _ d q).trans ?_
    refine (gA1 _ _ _ _ d q).trans ?_
    refine stepA ?_ (toX ?_) ?_ (toS ?_) ?_
    · refine (ld11 _ _ 1 rfl _ q).trans ?_
      refine (skip11 _ _ 0 1 (by decide) _ _ _ q).trans ?_
      exact toM (inv_m rfl inv0 (nil11 (trips2 i)) 1 q) hq
    · intro j
      refine (ld9 _ _ 0 1 ((off38 i).trans (by rw [E0]; rfl)) _ j q).trans ?_
      exact (inv_s rfl inv0 (nil9 (trips2 i)) 1 j q (cov9 1 j q)).trans (congrArg (fun n => lg _ _ _ 1 q n j) hq)
    · refine (ld13 _ _ 1 rfl _ d q).trans ?_
      refine (skip13 _ _ 0 1 (by decide) _ _ _ d q).trans ?_
      exact toA (inv_a rfl inv0 (nil13 (trips2 i)) 1 d q) hq
    · intro j
      refine (ld9 _ _ 0 1 ((off38 i).trans (by rw [E0]; rfl)) _ j q).trans ?_
      exact (inv_s rfl inv0 (nil9 (trips2 i)) 1 j q (cov9 1 j q)).trans (congrArg (fun n => lg _ _ _ 1 q n j) hq)
    · intro j
      exact congrFun (rd7 _ _ 1 (i 2).val (qt_lt i) _ (off39 i)) (ix3 0 d j)
  · refine (ld11 _ _ 1 rfl _ q).trans ?_
    refine (skip11 _ _ 3 1 (by decide) _ _ _ q).trans ?_
    refine (skip11 _ _ 2 1 (by decide) _ _ _ q).trans ?_
    refine (hit11 _ _ 1 _ _ _ q).trans ?_
    refine (gL1 _ _ _ q).trans ?_
    refine stepL ?_ (toX ?_) ?_ (toS ?_)
    · refine (ld11 _ _ 1 rfl _ q).trans ?_
      refine (skip11 _ _ 0 1 (by decide) _ _ _ q).trans ?_
      exact toM (inv_m rfl inv0 (nil11 (trips2 i)) 1 q) hq
    · intro j
      refine (ld9 _ _ 0 1 ((off38 i).trans (by rw [E0]; rfl)) _ j q).trans ?_
      exact (inv_s rfl inv0 (nil9 (trips2 i)) 1 j q (cov9 1 j q)).trans (congrArg (fun n => lg _ _ _ 1 q n j) hq)
    · refine (ld11 _ _ 1 rfl _ q).trans ?_
      refine (skip11 _ _ 0 1 (by decide) _ _ _ q).trans ?_
      exact toL (inv_l rfl inv0 (nil12 (trips2 i)) 1 q) hq
    · intro j
      refine (ld9 _ _ 0 1 ((off38 i).trans (by rw [E0]; rfl)) _ j q).trans ?_
      exact (inv_s rfl inv0 (nil9 (trips2 i)) 1 j q (cov9 1 j q)).trans (congrArg (fun n => lg _ _ _ 1 q n j) hq)

theorem evOut2 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : ¬ k0_cond1 i = 1#1) (q : Fin 512) (d : Fin 128) (e : Fin 512) (he : e.val = 128 * 2 + d.val) :
    arg8.view.read (Elt Ideal) (arg8.view.writes (Elt Ideal) f8 (runEven (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runEven.sl.r_5 (F := Ideal) c arg3 harg3 arg4 harg4 x3 x4) (arg5.view.read (Elt Ideal) (harg5.unread x5)) (arg6.view.read (Elt Ideal) (harg6.unread x6)) 2 q)) (vl (arg7.view.read (Elt Ideal) (harg7.unread x7)) 2 d) ((i 2).val + 1)) (Cert.Mla.L (am (i 2).val q (lg (runEven.sl.r_5 (F := Ideal) c arg3 harg3 arg4 harg4 x3 x4) (arg5.view.read (Elt Ideal) (harg5.unread x5)) (arg6.view.read (Elt Ideal) (harg6.unread x6)) 2 q)) ((i 2).val + 1)) := by
  have hq : 2 * (k0_t1_loop i).trips = (i 2).val := by
    rw [trips1, cond1_iff] at *; omega
  have E0 : (i 2).val % 2 = 0 := by omega
  unfold runEven; dsimp only
  refine (skip8 _ _ 3 2 (by decide) rfl _ _ _ q d e he).trans ?_
  refine (hit8 _ _ 2 rfl _ _ _ q d e he).trans ?_
  refine (dO _ _ q d).trans ?_
  refine congrArg₂ Ideal.div ?_ ?_
  · refine (ld13 _ _ 2 rfl _ d q).trans ?_
    refine (skip13 _ _ 3 2 (by decide) _ _ _ d q).trans ?_
    refine (hit13 _ _ 2 _ _ _ d q).trans ?_
    refine (gA2 _ _ _ _ d q).trans ?_
    refine stepA ?_ (toX ?_) ?_ (toS ?_) ?_
    · refine (ld11 _ _ 2 rfl _ q).trans ?_
      refine (skip11 _ _ 1 2 (by decide) _ _ _ q).trans ?_
      refine (skip11 _ _ 0 2 (by decide) _ _ _ q).trans ?_
      exact toM (inv_m rfl inv0 (nil11 (trips2 i)) 2 q) hq
    · intro j
      refine (ld9 _ _ 0 2 ((off40 i).trans (by rw [E0]; rfl)) _ j q).trans ?_
      exact (inv_s rfl inv0 (nil9 (trips2 i)) 2 j q (cov9 2 j q)).trans (congrArg (fun n => lg _ _ _ 2 q n j) hq)
    · refine (ld13 _ _ 2 rfl _ d q).trans ?_
      refine (skip13 _ _ 1 2 (by decide) _ _ _ d q).trans ?_
      refine (skip13 _ _ 0 2 (by decide) _ _ _ d q).trans ?_
      exact toA (inv_a rfl inv0 (nil13 (trips2 i)) 2 d q) hq
    · intro j
      refine (ld9 _ _ 0 2 ((off40 i).trans (by rw [E0]; rfl)) _ j q).trans ?_
      exact (inv_s rfl inv0 (nil9 (trips2 i)) 2 j q (cov9 2 j q)).trans (congrArg (fun n => lg _ _ _ 2 q n j) hq)
    · intro j
      exact congrFun (rd7 _ _ 2 (i 2).val (qt_lt i) _ (off41 i)) (ix3 0 d j)
  · refine (ld11 _ _ 2 rfl _ q).trans ?_
    refine (skip11 _ _ 3 2 (by decide) _ _ _ q).trans ?_
    refine (hit11 _ _ 2 _ _ _ q).trans ?_
    refine (gL2 _ _ _ q).trans ?_
    refine stepL ?_ (toX ?_) ?_ (toS ?_)
    · refine (ld11 _ _ 2 rfl _ q).trans ?_
      refine (skip11 _ _ 1 2 (by decide) _ _ _ q).trans ?_
      refine (skip11 _ _ 0 2 (by decide) _ _ _ q).trans ?_
      exact toM (inv_m rfl inv0 (nil11 (trips2 i)) 2 q) hq
    · intro j
      refine (ld9 _ _ 0 2 ((off40 i).trans (by rw [E0]; rfl)) _ j q).trans ?_
      exact (inv_s rfl inv0 (nil9 (trips2 i)) 2 j q (cov9 2 j q)).trans (congrArg (fun n => lg _ _ _ 2 q n j) hq)
    · refine (ld11 _ _ 2 rfl _ q).trans ?_
      refine (skip11 _ _ 1 2 (by decide) _ _ _ q).trans ?_
      refine (skip11 _ _ 0 2 (by decide) _ _ _ q).trans ?_
      exact toL (inv_l rfl inv0 (nil12 (trips2 i)) 2 q) hq
    · intro j
      refine (ld9 _ _ 0 2 ((off40 i).trans (by rw [E0]; rfl)) _ j q).trans ?_
      exact (inv_s rfl inv0 (nil9 (trips2 i)) 2 j q (cov9 2 j q)).trans (congrArg (fun n => lg _ _ _ 2 q n j) hq)

theorem evOut3 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : ¬ k0_cond1 i = 1#1) (q : Fin 512) (d : Fin 128) (e : Fin 512) (he : e.val = 128 * 3 + d.val) :
    arg8.view.read (Elt Ideal) (arg8.view.writes (Elt Ideal) f8 (runEven (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runEven.sl.r_8 (F := Ideal) c arg3 harg3 arg4 harg4 x3 x4) (arg5.view.read (Elt Ideal) (harg5.unread x5)) (arg6.view.read (Elt Ideal) (harg6.unread x6)) 3 q)) (vl (arg7.view.read (Elt Ideal) (harg7.unread x7)) 3 d) ((i 2).val + 1)) (Cert.Mla.L (am (i 2).val q (lg (runEven.sl.r_8 (F := Ideal) c arg3 harg3 arg4 harg4 x3 x4) (arg5.view.read (Elt Ideal) (harg5.unread x5)) (arg6.view.read (Elt Ideal) (harg6.unread x6)) 3 q)) ((i 2).val + 1)) := by
  have hq : 2 * (k0_t1_loop i).trips = (i 2).val := by
    rw [trips1, cond1_iff] at *; omega
  have E0 : (i 2).val % 2 = 0 := by omega
  unfold runEven; dsimp only
  refine (hit8 _ _ 3 rfl _ _ _ q d e he).trans ?_
  refine (dO _ _ q d).trans ?_
  refine congrArg₂ Ideal.div ?_ ?_
  · refine (ld13 _ _ 3 rfl _ d q).trans ?_
    refine (hit13 _ _ 3 _ _ _ d q).trans ?_
    refine (gA3 _ _ _ _ d q).trans ?_
    refine stepA ?_ (toX ?_) ?_ (toS ?_) ?_
    · refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      exact toM (inv_m rfl inv0 (nil11 (trips2 i)) 3 q) hq
    · intro j
      refine (ld9 _ _ 0 3 ((off42 i).trans (by rw [E0]; rfl)) _ j q).trans ?_
      exact (inv_s rfl inv0 (nil9 (trips2 i)) 3 j q (cov9 3 j q)).trans (congrArg (fun n => lg _ _ _ 3 q n j) hq)
    · refine (ld13 _ _ 3 rfl _ d q).trans ?_
      refine (skip13 _ _ 2 3 (by decide) _ _ _ d q).trans ?_
      refine (skip13 _ _ 1 3 (by decide) _ _ _ d q).trans ?_
      refine (skip13 _ _ 0 3 (by decide) _ _ _ d q).trans ?_
      exact toA (inv_a rfl inv0 (nil13 (trips2 i)) 3 d q) hq
    · intro j
      refine (ld9 _ _ 0 3 ((off42 i).trans (by rw [E0]; rfl)) _ j q).trans ?_
      exact (inv_s rfl inv0 (nil9 (trips2 i)) 3 j q (cov9 3 j q)).trans (congrArg (fun n => lg _ _ _ 3 q n j) hq)
    · intro j
      exact congrFun (rd7 _ _ 3 (i 2).val (qt_lt i) _ (off43 i)) (ix3 0 d j)
  · refine (ld11 _ _ 3 rfl _ q).trans ?_
    refine (hit11 _ _ 3 _ _ _ q).trans ?_
    refine (gL3 _ _ _ q).trans ?_
    refine stepL ?_ (toX ?_) ?_ (toS ?_)
    · refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      exact toM (inv_m rfl inv0 (nil11 (trips2 i)) 3 q) hq
    · intro j
      refine (ld9 _ _ 0 3 ((off42 i).trans (by rw [E0]; rfl)) _ j q).trans ?_
      exact (inv_s rfl inv0 (nil9 (trips2 i)) 3 j q (cov9 3 j q)).trans (congrArg (fun n => lg _ _ _ 3 q n j) hq)
    · refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      exact toL (inv_l rfl inv0 (nil12 (trips2 i)) 3 q) hq
    · intro j
      refine (ld9 _ _ 0 3 ((off42 i).trans (by rw [E0]; rfl)) _ j q).trans ?_
      exact (inv_s rfl inv0 (nil9 (trips2 i)) 3 j q (cov9 3 j q)).trans (congrArg (fun n => lg _ _ _ 3 q n j) hq)

end Cert.KernelIdeal.Mla
-- ==== Proof.MlaOdd.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaFin
public import proofs.«01_k».proof.Proof.BodyOdd

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

set_option maxHeartbeats 4000000 in
theorem odOut0 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : k0_cond1 i = 1#1) (q : Fin 512) (d : Fin 128) (e : Fin 512) (he : e.val = 128 * 0 + d.val) :
    arg8.view.read (Elt Ideal) (arg8.view.writes (Elt Ideal) f8 (runOdd (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runOdd.sl.r (F := Ideal) c arg3 harg3 arg4 harg4 x3 x4) (arg5.view.read (Elt Ideal) (harg5.unread x5)) (arg6.view.read (Elt Ideal) (harg6.unread x6)) 0 q)) (vl (arg7.view.read (Elt Ideal) (harg7.unread x7)) 0 d) ((i 2).val + 1)) (Cert.Mla.L (am (i 2).val q (lg (runOdd.sl.r (F := Ideal) c arg3 harg3 arg4 harg4 x3 x4) (arg5.view.read (Elt Ideal) (harg5.unread x5)) (arg6.view.read (Elt Ideal) (harg6.unread x6)) 0 q)) ((i 2).val + 1)) := by
  have E1 : (i 2).val % 2 = 1 := (cond1_iff i).mp hc
  have hn : 2 * (k0_t1_loop i).trips = (i 2).val - 1 := by
    rw [trips1]; omega
  have hq : 2 * (k0_t1_loop i).trips + 1 = (i 2).val := by omega
  unfold runOdd; dsimp only
  refine (skip8 _ _ 3 0 (by decide) rfl _ _ _ q d e he).trans ?_
  refine (skip8 _ _ 2 0 (by decide) rfl _ _ _ q d e he).trans ?_
  refine (skip8 _ _ 1 0 (by decide) rfl _ _ _ q d e he).trans ?_
  refine (hit8 _ _ 0 rfl _ _ _ q d e he).trans ?_
  refine (dO _ _ q d).trans ?_
  refine congrArg₂ Ideal.div ?_ ?_
  · refine (ld13 _ _ 0 rfl _ d q).trans ?_
    refine (skip13 _ _ 3 0 (by decide) _ _ _ d q).trans ?_
    refine (skip13 _ _ 2 0 (by decide) _ _ _ d q).trans ?_
    refine (skip13 _ _ 1 0 (by decide) _ _ _ d q).trans ?_
    refine (hit13 _ _ 0 _ _ _ d q).trans ?_
    refine (gA0 _ _ _ _ d q).trans ?_
    refine stepA ?_ (toX ?_) ?_ (toS ?_) ?_
    · refine toM (n := 2 * (k0_t1_loop i).trips + 1) ?_ hq
      refine (ld11 _ _ 0 rfl _ q).trans ?_
      refine (skip11 _ _ 3 0 (by decide) _ _ _ q).trans ?_
      refine (skip11 _ _ 2 0 (by decide) _ _ _ q).trans ?_
      refine (skip11 _ _ 1 0 (by decide) _ _ _ q).trans ?_
      refine (hit11 _ _ 0 _ _ _ q).trans ?_
      refine (p22 _ _ q).trans ?_
      refine stepM ?_ ?_
      · refine (ld11 _ _ 0 rfl _ q).trans ?_
        exact inv_m rfl inv0 (nil11 (trips2 i)) 0 q
      · refine (ld10 _ _ 0 0 rfl _ q).trans ?_
        refine (slot10 _ _ 1 0 3 0 (by decide) _ _ _ q).trans ?_
        refine (slot10 _ _ 1 0 2 0 (by decide) _ _ _ q).trans ?_
        refine (slot10 _ _ 1 0 1 0 (by decide) _ _ _ q).trans ?_
        refine (slot10 _ _ 1 0 0 0 (by decide) _ _ _ q).trans ?_
        exact inv_x rfl inv0 (nil10 (trips2 i)) 0 q (cov10 0 q)
    · intro j
      refine (ld9 _ _ 1 0 ((off36 i).trans (by rw [E1]; rfl)) _ j q).trans ?_
      refine (skip9 _ _ 1 3 0 (by decide) _ _ _ j q).trans ?_
      refine (skip9 _ _ 1 2 0 (by decide) _ _ _ j q).trans ?_
      refine (skip9 _ _ 1 1 0 (by decide) _ _ _ j q).trans ?_
      refine (hit9 _ _ 1 0 _ _ _ j q).trans ?_
      refine (p6 (runOdd.sl.r (F := Ideal) c arg3 harg3 arg4 harg4 x3 x4) _ _ j q).trans ?_
      exact congr (congrArg₂ (k0_pay5 (F := Ideal) (runOdd.sl.r (F := Ideal) c arg3 harg3 arg4 harg4 x3 x4)) (rd5 _ _ 0 (i 2).val (qt_lt i) _ (off27 i)) (rd6 _ _ (i 2).val (qt_lt i) _ (off28 i))) rfl
    · refine toA (n := 2 * (k0_t1_loop i).trips + 1) ?_ hq
      refine (ld13 _ _ 0 rfl _ d q).trans ?_
      refine (skip13 _ _ 3 0 (by decide) _ _ _ d q).trans ?_
      refine (skip13 _ _ 2 0 (by decide) _ _ _ d q).trans ?_
      refine (skip13 _ _ 1 0 (by decide) _ _ _ d q).trans ?_
      refine (hit13 _ _ 0 _ _ _ d q).trans ?_
      refine (p24 _ _ _ _ _ d q).trans ?_
      refine stepA ?_ ?_ ?_ ?_ ?_
      · refine (ld11 _ _ 0 rfl _ q).trans ?_
        exact inv_m rfl inv0 (nil11 (trips2 i)) 0 q
      · refine (ld10 _ _ 0 0 rfl _ q).trans ?_
        refine (slot10 _ _ 1 0 3 0 (by decide) _ _ _ q).trans ?_
        refine (slot10 _ _ 1 0 2 0 (by decide) _ _ _ q).trans ?_
        refine (slot10 _ _ 1 0 1 0 (by decide) _ _ _ q).trans ?_
        refine (slot10 _ _ 1 0 0 0 (by decide) _ _ _ q).trans ?_
        exact inv_x rfl inv0 (nil10 (trips2 i)) 0 q (cov10 0 q)
      · refine (ld13 _ _ 0 rfl _ d q).trans ?_
        exact inv_a rfl inv0 (nil13 (trips2 i)) 0 d q
      · intro j
        refine (ld9 _ _ 0 0 rfl _ j q).trans ?_
        refine (slot9 _ _ 1 0 3 0 (by decide) _ _ _ j q).trans ?_
        refine (slot9 _ _ 1 0 2 0 (by decide) _ _ _ j q).trans ?_
        refine (slot9 _ _ 1 0 1 0 (by decide) _ _ _ j q).trans ?_
        refine (slot9 _ _ 1 0 0 0 (by decide) _ _ _ j q).trans ?_
        exact inv_s rfl inv0 (nil9 (trips2 i)) 0 j q (cov9 0 j q)
      · intro j
        exact congrFun (rd7 _ _ 0 (2 * (k0_t1_loop i).trips) (by have := qt_lt i; omega) _ ((off32 i E1).trans (by rw [hn]; rfl))) (ix3 0 d j)
    · intro j
      refine (ld9 _ _ 1 0 ((off36 i).trans (by rw [E1]; rfl)) _ j q).trans ?_
      refine (skip9 _ _ 1 3 0 (by decide) _ _ _ j q).trans ?_
      refine (skip9 _ _ 1 2 0 (by decide) _ _ _ j q).trans ?_
      refine (skip9 _ _ 1 1 0 (by decide) _ _ _ j q).trans ?_
      refine (hit9 _ _ 1 0 _ _ _ j q).trans ?_
      refine (p6 (runOdd.sl.r (F := Ideal) c arg3 harg3 arg4 harg4 x3 x4) _ _ j q).trans ?_
      exact congr (congrArg₂ (k0_pay5 (F := Ideal) (runOdd.sl.r (F := Ideal) c arg3 harg3 arg4 harg4 x3 x4)) (rd5 _ _ 0 (i 2).val (qt_lt i) _ (off27 i)) (rd6 _ _ (i 2).val (qt_lt i) _ (off28 i))) rfl
    · intro j
      exact congrFun (rd7 _ _ 0 (i 2).val (qt_lt i) _ (off37 i)) (ix3 0 d j)
  · refine (ld11 _ _ 0 rfl _ q).trans ?_
    refine (skip11 _ _ 3 0 (by decide) _ _ _ q).trans ?_
    refine (skip11 _ _ 2 0 (by decide) _ _ _ q).trans ?_
    refine (skip11 _ _ 1 0 (by decide) _ _ _ q).trans ?_
    refine (hit11 _ _ 0 _ _ _ q).trans ?_
    refine (gL0 _ _ _ q).trans ?_
    refine stepL ?_ (toX ?_) ?_ (toS ?_)
    · refine toM (n := 2 * (k0_t1_loop i).trips + 1) ?_ hq
      refine (ld11 _ _ 0 rfl _ q).trans ?_
      refine (skip11 _ _ 3 0 (by decide) _ _ _ q).trans ?_
      refine (skip11 _ _ 2 0 (by decide) _ _ _ q).trans ?_
      refine (skip11 _ _ 1 0 (by decide) _ _ _ q).trans ?_
      refine (hit11 _ _ 0 _ _ _ q).trans ?_
      refine (p22 _ _ q).trans ?_
      refine stepM ?_ ?_
      · refine (ld11 _ _ 0 rfl _ q).trans ?_
        exact inv_m rfl inv0 (nil11 (trips2 i)) 0 q
      · refine (ld10 _ _ 0 0 rfl _ q).trans ?_
        refine (slot10 _ _ 1 0 3 0 (by decide) _ _ _ q).trans ?_
        refine (slot10 _ _ 1 0 2 0 (by decide) _ _ _ q).trans ?_
        refine (slot10 _ _ 1 0 1 0 (by decide) _ _ _ q).trans ?_
        refine (slot10 _ _ 1 0 0 0 (by decide) _ _ _ q).trans ?_
        exact inv_x rfl inv0 (nil10 (trips2 i)) 0 q (cov10 0 q)
    · intro j
      refine (ld9 _ _ 1 0 ((off36 i).trans (by rw [E1]; rfl)) _ j q).trans ?_
      refine (skip9 _ _ 1 3 0 (by decide) _ _ _ j q).trans ?_
      refine (skip9 _ _ 1 2 0 (by decide) _ _ _ j q).trans ?_
      refine (skip9 _ _ 1 1 0 (by decide) _ _ _ j q).trans ?_
      refine (hit9 _ _ 1 0 _ _ _ j q).trans ?_
      refine (p6 (runOdd.sl.r (F := Ideal) c arg3 harg3 arg4 harg4 x3 x4) _ _ j q).trans ?_
      exact congr (congrArg₂ (k0_pay5 (F := Ideal) (runOdd.sl.r (F := Ideal) c arg3 harg3 arg4 harg4 x3 x4)) (rd5 _ _ 0 (i 2).val (qt_lt i) _ (off27 i)) (rd6 _ _ (i 2).val (qt_lt i) _ (off28 i))) rfl
    · refine toL (n := 2 * (k0_t1_loop i).trips + 1) ?_ hq
      refine (ld11 _ _ 0 rfl _ q).trans ?_
      refine (skip11 _ _ 3 0 (by decide) _ _ _ q).trans ?_
      refine (skip11 _ _ 2 0 (by decide) _ _ _ q).trans ?_
      refine (skip11 _ _ 1 0 (by decide) _ _ _ q).trans ?_
      refine (hit11 _ _ 0 _ _ _ q).trans ?_
      refine (p23 _ _ _ _ q).trans ?_
      refine stepL ?_ ?_ ?_ ?_
      · refine (ld11 _ _ 0 rfl _ q).trans ?_
        exact inv_m rfl inv0 (nil11 (trips2 i)) 0 q
      · refine (ld10 _ _ 0 0 rfl _ q).trans ?_
        refine (slot10 _ _ 1 0 3 0 (by decide) _ _ _ q).trans ?_
        refine (slot10 _ _ 1 0 2 0 (by decide) _ _ _ q).trans ?_
        refine (slot10 _ _ 1 0 1 0 (by decide) _ _ _ q).trans ?_
        refine (slot10 _ _ 1 0 0 0 (by decide) _ _ _ q).trans ?_
        exact inv_x rfl inv0 (nil10 (trips2 i)) 0 q (cov10 0 q)
      · refine (ld11 _ _ 0 rfl _ q).trans ?_
        exact inv_l rfl inv0 (nil12 (trips2 i)) 0 q
      · intro j
        refine (ld9 _ _ 0 0 rfl _ j q).trans ?_
        refine (slot9 _ _ 1 0 3 0 (by decide) _ _ _ j q).trans ?_
        refine (slot9 _ _ 1 0 2 0 (by decide) _ _ _ j q).trans ?_
        refine (slot9 _ _ 1 0 1 0 (by decide) _ _ _ j q).trans ?_
        refine (slot9 _ _ 1 0 0 0 (by decide) _ _ _ j q).trans ?_
        exact inv_s rfl inv0 (nil9 (trips2 i)) 0 j q (cov9 0 j q)
    · intro j
      refine (ld9 _ _ 1 0 ((off36 i).trans (by rw [E1]; rfl)) _ j q).trans ?_
      refine (skip9 _ _ 1 3 0 (by decide) _ _ _ j q).trans ?_
      refine (skip9 _ _ 1 2 0 (by decide) _ _ _ j q).trans ?_
      refine (skip9 _ _ 1 1 0 (by decide) _ _ _ j q).trans ?_
      refine (hit9 _ _ 1 0 _ _ _ j q).trans ?_
      refine (p6 (runOdd.sl.r (F := Ideal) c arg3 harg3 arg4 harg4 x3 x4) _ _ j q).trans ?_
      exact congr (congrArg₂ (k0_pay5 (F := Ideal) (runOdd.sl.r (F := Ideal) c arg3 harg3 arg4 harg4 x3 x4)) (rd5 _ _ 0 (i 2).val (qt_lt i) _ (off27 i)) (rd6 _ _ (i 2).val (qt_lt i) _ (off28 i))) rfl

set_option maxHeartbeats 4000000 in
theorem odOut1 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : k0_cond1 i = 1#1) (q : Fin 512) (d : Fin 128) (e : Fin 512) (he : e.val = 128 * 1 + d.val) :
    arg8.view.read (Elt Ideal) (arg8.view.writes (Elt Ideal) f8 (runOdd (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runOdd.sl.r_2 (F := Ideal) c arg3 harg3 arg4 harg4 x3 x4) (arg5.view.read (Elt Ideal) (harg5.unread x5)) (arg6.view.read (Elt Ideal) (harg6.unread x6)) 1 q)) (vl (arg7.view.read (Elt Ideal) (harg7.unread x7)) 1 d) ((i 2).val + 1)) (Cert.Mla.L (am (i 2).val q (lg (runOdd.sl.r_2 (F := Ideal) c arg3 harg3 arg4 harg4 x3 x4) (arg5.view.read (Elt Ideal) (harg5.unread x5)) (arg6.view.read (Elt Ideal) (harg6.unread x6)) 1 q)) ((i 2).val + 1)) := by
  have E1 : (i 2).val % 2 = 1 := (cond1_iff i).mp hc
  have hn : 2 * (k0_t1_loop i).trips = (i 2).val - 1 := by
    rw [trips1]; omega
  have hq : 2 * (k0_t1_loop i).trips + 1 = (i 2).val := by omega
  unfold runOdd; dsimp only
  refine (skip8 _ _ 3 1 (by decide) rfl _ _ _ q d e he).trans ?_
  refine (skip8 _ _ 2 1 (by decide) rfl _ _ _ q d e he).trans ?_
  refine (hit8 _ _ 1 rfl _ _ _ q d e he).trans ?_
  refine (dO _ _ q d).trans ?_
  refine congrArg₂ Ideal.div ?_ ?_
  · refine (ld13 _ _ 1 rfl _ d q).trans ?_
    refine (skip13 _ _ 3 1 (by decide) _ _ _ d q).trans ?_
    refine (skip13 _ _ 2 1 (by decide) _ _ _ d q).trans ?_
    refine (hit13 _ _ 1 _ _ _ d q).trans ?_
    refine (gA1 _ _ _ _ d q).trans ?_
    refine stepA ?_ (toX ?_) ?_ (toS ?_) ?_
    · refine toM (n := 2 * (k0_t1_loop i).trips + 1) ?_ hq
      refine (ld11 _ _ 1 rfl _ q).trans ?_
      refine (skip11 _ _ 0 1 (by decide) _ _ _ q).trans ?_
      refine (skip11 _ _ 3 1 (by decide) _ _ _ q).trans ?_
      refine (skip11 _ _ 2 1 (by decide) _ _ _ q).trans ?_
      refine (hit11 _ _ 1 _ _ _ q).trans ?_
      refine (p22 _ _ q).trans ?_
      refine stepM ?_ ?_
      · refine (ld11 _ _ 1 rfl _ q).trans ?_
        refine (skip11 _ _ 0 1 (by decide) _ _ _ q).trans ?_
        exact inv_m rfl inv0 (nil11 (trips2 i)) 1 q
      · refine (ld10 _ _ 0 1 rfl _ q).trans ?_
        refine (slot10 _ _ 1 0 3 1 (by decide) _ _ _ q).trans ?_
        refine (slot10 _ _ 1 0 2 1 (by decide) _ _ _ q).trans ?_
        refine (slot10 _ _ 1 0 1 1 (by decide) _ _ _ q).trans ?_
        refine (slot10 _ _ 1 0 0 1 (by decide) _ _ _ q).trans ?_
        exact inv_x rfl inv0 (nil10 (trips2 i)) 1 q (cov10 1 q)
    · intro j
      refine (ld9 _ _ 1 1 ((off38 i).trans (by rw [E1]; rfl)) _ j q).trans ?_
      refine (skip9 _ _ 1 3 1 (by decide) _ _ _ j q).trans ?_
      refine (skip9 _ _ 1 2 1 (by decide) _ _ _ j q).trans ?_
      refine (hit9 _ _ 1 1 _ _ _ j q).trans ?_
      refine (p6 (runOdd.sl.r_2 (F := Ideal) c arg3 harg3 arg4 harg4 x3 x4) _ _ j q).trans ?_
      exact congr (congrArg₂ (k0_pay5 (F := Ideal) (runOdd.sl.r_2 (F := Ideal) c arg3 harg3 arg4 harg4 x3 x4)) (rd5 _ _ 1 (i 2).val (qt_lt i) _ (off29 i)) (rd6 _ _ (i 2).val (qt_lt i) _ (off28 i))) rfl
    · refine toA (n := 2 * (k0_t1_loop i).trips + 1) ?_ hq
      refine (ld13 _ _ 1 rfl _ d q).trans ?_
      refine (skip13 _ _ 0 1 (by decide) _ _ _ d q).trans ?_
      refine (skip13 _ _ 3 1 (by decide) _ _ _ d q).trans ?_
      refine (skip13 _ _ 2 1 (by decide) _ _ _ d q).trans ?_
      refine (hit13 _ _ 1 _ _ _ d q).trans ?_
      refine (p24 _ _ _ _ _ d q).trans ?_
      refine stepA ?_ ?_ ?_ ?_ ?_
      · refine (ld11 _ _ 1 rfl _ q).trans ?_
        refine (skip11 _ _ 0 1 (by decide) _ _ _ q).trans ?_
        exact inv_m rfl inv0 (nil11 (trips2 i)) 1 q
      · refine (ld10 _ _ 0 1 rfl _ q).trans ?_
        refine (slot10 _ _ 1 0 3 1 (by decide) _ _ _ q).trans ?_
        refine (slot10 _ _ 1 0 2 1 (by decide) _ _ _ q).trans ?_
        refine (slot10 _ _ 1 0 1 1 (by decide) _ _ _ q).trans ?_
        refine (slot10 _ _ 1 0 0 1 (by decide) _ _ _ q).trans ?_
        exact inv_x rfl inv0 (nil10 (trips2 i)) 1 q (cov10 1 q)
      · refine (ld13 _ _ 1 rfl _ d q).trans ?_
        refine (skip13 _ _ 0 1 (by decide) _ _ _ d q).trans ?_
        exact inv_a rfl inv0 (nil13 (trips2 i)) 1 d q
      · intro j
        refine (ld9 _ _ 0 1 rfl _ j q).trans ?_
        refine (slot9 _ _ 1 0 3 1 (by decide) _ _ _ j q).trans ?_
        refine (slot9 _ _ 1 0 2 1 (by decide) _ _ _ j q).trans ?_
        refine (slot9 _ _ 1 0 1 1 (by decide) _ _ _ j q).trans ?_
        refine (slot9 _ _ 1 0 0 1 (by decide) _ _ _ j q).trans ?_
        exact inv_s rfl inv0 (nil9 (trips2 i)) 1 j q (cov9 1 j q)
      · intro j
        exact congrFun (rd7 _ _ 1 (2 * (k0_t1_loop i).trips) (by have := qt_lt i; omega) _ ((off33 i E1).trans (by rw [hn]; rfl))) (ix3 0 d j)
    · intro j
      refine (ld9 _ _ 1 1 ((off38 i).trans (by rw [E1]; rfl)) _ j q).trans ?_
      refine (skip9 _ _ 1 3 1 (by decide) _ _ _ j q).trans ?_
      refine (skip9 _ _ 1 2 1 (by decide) _ _ _ j q).trans ?_
      refine (hit9 _ _ 1 1 _ _ _ j q).trans ?_
      refine (p6 (runOdd.sl.r_2 (F := Ideal) c arg3 harg3 arg4 harg4 x3 x4) _ _ j q).trans ?_
      exact congr (congrArg₂ (k0_pay5 (F := Ideal) (runOdd.sl.r_2 (F := Ideal) c arg3 harg3 arg4 harg4 x3 x4)) (rd5 _ _ 1 (i 2).val (qt_lt i) _ (off29 i)) (rd6 _ _ (i 2).val (qt_lt i) _ (off28 i))) rfl
    · intro j
      exact congrFun (rd7 _ _ 1 (i 2).val (qt_lt i) _ (off39 i)) (ix3 0 d j)
  · refine (ld11 _ _ 1 rfl _ q).trans ?_
    refine (skip11 _ _ 3 1 (by decide) _ _ _ q).trans ?_
    refine (skip11 _ _ 2 1 (by decide) _ _ _ q).trans ?_
    refine (hit11 _ _ 1 _ _ _ q).trans ?_
    refine (gL1 _ _ _ q).trans ?_
    refine stepL ?_ (toX ?_) ?_ (toS ?_)
    · refine toM (n := 2 * (k0_t1_loop i).trips + 1) ?_ hq
      refine (ld11 _ _ 1 rfl _ q).trans ?_
      refine (skip11 _ _ 0 1 (by decide) _ _ _ q).trans ?_
      refine (skip11 _ _ 3 1 (by decide) _ _ _ q).trans ?_
      refine (skip11 _ _ 2 1 (by decide) _ _ _ q).trans ?_
      refine (hit11 _ _ 1 _ _ _ q).trans ?_
      refine (p22 _ _ q).trans ?_
      refine stepM ?_ ?_
      · refine (ld11 _ _ 1 rfl _ q).trans ?_
        refine (skip11 _ _ 0 1 (by decide) _ _ _ q).trans ?_
        exact inv_m rfl inv0 (nil11 (trips2 i)) 1 q
      · refine (ld10 _ _ 0 1 rfl _ q).trans ?_
        refine (slot10 _ _ 1 0 3 1 (by decide) _ _ _ q).trans ?_
        refine (slot10 _ _ 1 0 2 1 (by decide) _ _ _ q).trans ?_
        refine (slot10 _ _ 1 0 1 1 (by decide) _ _ _ q).trans ?_
        refine (slot10 _ _ 1 0 0 1 (by decide) _ _ _ q).trans ?_
        exact inv_x rfl inv0 (nil10 (trips2 i)) 1 q (cov10 1 q)
    · intro j
      refine (ld9 _ _ 1 1 ((off38 i).trans (by rw [E1]; rfl)) _ j q).trans ?_
      refine (skip9 _ _ 1 3 1 (by decide) _ _ _ j q).trans ?_
      refine (skip9 _ _ 1 2 1 (by decide) _ _ _ j q).trans ?_
      refine (hit9 _ _ 1 1 _ _ _ j q).trans ?_
      refine (p6 (runOdd.sl.r_2 (F := Ideal) c arg3 harg3 arg4 harg4 x3 x4) _ _ j q).trans ?_
      exact congr (congrArg₂ (k0_pay5 (F := Ideal) (runOdd.sl.r_2 (F := Ideal) c arg3 harg3 arg4 harg4 x3 x4)) (rd5 _ _ 1 (i 2).val (qt_lt i) _ (off29 i)) (rd6 _ _ (i 2).val (qt_lt i) _ (off28 i))) rfl
    · refine toL (n := 2 * (k0_t1_loop i).trips + 1) ?_ hq
      refine (ld11 _ _ 1 rfl _ q).trans ?_
      refine (skip11 _ _ 0 1 (by decide) _ _ _ q).trans ?_
      refine (skip11 _ _ 3 1 (by decide) _ _ _ q).trans ?_
      refine (skip11 _ _ 2 1 (by decide) _ _ _ q).trans ?_
      refine (hit11 _ _ 1 _ _ _ q).trans ?_
      refine (p23 _ _ _ _ q).trans ?_
      refine stepL ?_ ?_ ?_ ?_
      · refine (ld11 _ _ 1 rfl _ q).trans ?_
        refine (skip11 _ _ 0 1 (by decide) _ _ _ q).trans ?_
        exact inv_m rfl inv0 (nil11 (trips2 i)) 1 q
      · refine (ld10 _ _ 0 1 rfl _ q).trans ?_
        refine (slot10 _ _ 1 0 3 1 (by decide) _ _ _ q).trans ?_
        refine (slot10 _ _ 1 0 2 1 (by decide) _ _ _ q).trans ?_
        refine (slot10 _ _ 1 0 1 1 (by decide) _ _ _ q).trans ?_
        refine (slot10 _ _ 1 0 0 1 (by decide) _ _ _ q).trans ?_
        exact inv_x rfl inv0 (nil10 (trips2 i)) 1 q (cov10 1 q)
      · refine (ld11 _ _ 1 rfl _ q).trans ?_
        refine (skip11 _ _ 0 1 (by decide) _ _ _ q).trans ?_
        exact inv_l rfl inv0 (nil12 (trips2 i)) 1 q
      · intro j
        refine (ld9 _ _ 0 1 rfl _ j q).trans ?_
        refine (slot9 _ _ 1 0 3 1 (by decide) _ _ _ j q).trans ?_
        refine (slot9 _ _ 1 0 2 1 (by decide) _ _ _ j q).trans ?_
        refine (slot9 _ _ 1 0 1 1 (by decide) _ _ _ j q).trans ?_
        refine (slot9 _ _ 1 0 0 1 (by decide) _ _ _ j q).trans ?_
        exact inv_s rfl inv0 (nil9 (trips2 i)) 1 j q (cov9 1 j q)
    · intro j
      refine (ld9 _ _ 1 1 ((off38 i).trans (by rw [E1]; rfl)) _ j q).trans ?_
      refine (skip9 _ _ 1 3 1 (by decide) _ _ _ j q).trans ?_
      refine (skip9 _ _ 1 2 1 (by decide) _ _ _ j q).trans ?_
      refine (hit9 _ _ 1 1 _ _ _ j q).trans ?_
      refine (p6 (runOdd.sl.r_2 (F := Ideal) c arg3 harg3 arg4 harg4 x3 x4) _ _ j q).trans ?_
      exact congr (congrArg₂ (k0_pay5 (F := Ideal) (runOdd.sl.r_2 (F := Ideal) c arg3 harg3 arg4 harg4 x3 x4)) (rd5 _ _ 1 (i 2).val (qt_lt i) _ (off29 i)) (rd6 _ _ (i 2).val (qt_lt i) _ (off28 i))) rfl

end Cert.KernelIdeal.Mla
-- ==== Proof.MlaOdd2.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaFin
public import proofs.«01_k».proof.Proof.BodyOdd

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

set_option maxHeartbeats 4000000 in
theorem odOut2 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : k0_cond1 i = 1#1) (q : Fin 512) (d : Fin 128) (e : Fin 512) (he : e.val = 128 * 2 + d.val) :
    arg8.view.read (Elt Ideal) (arg8.view.writes (Elt Ideal) f8 (runOdd (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runOdd.sl.r_5 (F := Ideal) c arg3 harg3 arg4 harg4 x3 x4) (arg5.view.read (Elt Ideal) (harg5.unread x5)) (arg6.view.read (Elt Ideal) (harg6.unread x6)) 2 q)) (vl (arg7.view.read (Elt Ideal) (harg7.unread x7)) 2 d) ((i 2).val + 1)) (Cert.Mla.L (am (i 2).val q (lg (runOdd.sl.r_5 (F := Ideal) c arg3 harg3 arg4 harg4 x3 x4) (arg5.view.read (Elt Ideal) (harg5.unread x5)) (arg6.view.read (Elt Ideal) (harg6.unread x6)) 2 q)) ((i 2).val + 1)) := by
  have E1 : (i 2).val % 2 = 1 := (cond1_iff i).mp hc
  have hn : 2 * (k0_t1_loop i).trips = (i 2).val - 1 := by
    rw [trips1]; omega
  have hq : 2 * (k0_t1_loop i).trips + 1 = (i 2).val := by omega
  unfold runOdd; dsimp only
  refine (skip8 _ _ 3 2 (by decide) rfl _ _ _ q d e he).trans ?_
  refine (hit8 _ _ 2 rfl _ _ _ q d e he).trans ?_
  refine (dO _ _ q d).trans ?_
  refine congrArg₂ Ideal.div ?_ ?_
  · refine (ld13 _ _ 2 rfl _ d q).trans ?_
    refine (skip13 _ _ 3 2 (by decide) _ _ _ d q).trans ?_
    refine (hit13 _ _ 2 _ _ _ d q).trans ?_
    refine (gA2 _ _ _ _ d q).trans ?_
    refine stepA ?_ (toX ?_) ?_ (toS ?_) ?_
    · refine toM (n := 2 * (k0_t1_loop i).trips + 1) ?_ hq
      refine (ld11 _ _ 2 rfl _ q).trans ?_
      refine (skip11 _ _ 1 2 (by decide) _ _ _ q).trans ?_
      refine (skip11 _ _ 0 2 (by decide) _ _ _ q).trans ?_
      refine (skip11 _ _ 3 2 (by decide) _ _ _ q).trans ?_
      refine (hit11 _ _ 2 _ _ _ q).trans ?_
      refine (p22 _ _ q).trans ?_
      refine stepM ?_ ?_
      · refine (ld11 _ _ 2 rfl _ q).trans ?_
        refine (skip11 _ _ 1 2 (by decide) _ _ _ q).trans ?_
        refine (skip11 _ _ 0 2 (by decide) _ _ _ q).trans ?_
        exact inv_m rfl inv0 (nil11 (trips2 i)) 2 q
      · refine (ld10 _ _ 0 2 rfl _ q).trans ?_
        refine (slot10 _ _ 1 0 3 2 (by decide) _ _ _ q).trans ?_
        refine (slot10 _ _ 1 0 2 2 (by decide) _ _ _ q).trans ?_
        refine (slot10 _ _ 1 0 1 2 (by decide) _ _ _ q).trans ?_
        refine (slot10 _ _ 1 0 0 2 (by decide) _ _ _ q).trans ?_
        exact inv_x rfl inv0 (nil10 (trips2 i)) 2 q (cov10 2 q)
    · intro j
      refine (ld9 _ _ 1 2 ((off40 i).trans (by rw [E1]; rfl)) _ j q).trans ?_
      refine (skip9 _ _ 1 3 2 (by decide) _ _ _ j q).trans ?_
      refine (hit9 _ _ 1 2 _ _ _ j q).trans ?_
      refine (p6 (runOdd.sl.r_5 (F := Ideal) c arg3 harg3 arg4 harg4 x3 x4) _ _ j q).trans ?_
      exact congr (congrArg₂ (k0_pay5 (F := Ideal) (runOdd.sl.r_5 (F := Ideal) c arg3 harg3 arg4 harg4 x3 x4)) (rd5 _ _ 2 (i 2).val (qt_lt i) _ (off30 i)) (rd6 _ _ (i 2).val (qt_lt i) _ (off28 i))) rfl
    · refine toA (n := 2 * (k0_t1_loop i).trips + 1) ?_ hq
      refine (ld13 _ _ 2 rfl _ d q).trans ?_
      refine (skip13 _ _ 1 2 (by decide) _ _ _ d q).trans ?_
      refine (skip13 _ _ 0 2 (by decide) _ _ _ d q).trans ?_
      refine (skip13 _ _ 3 2 (by decide) _ _ _ d q).trans ?_
      refine (hit13 _ _ 2 _ _ _ d q).trans ?_
      refine (p24 _ _ _ _ _ d q).trans ?_
      refine stepA ?_ ?_ ?_ ?_ ?_
      · refine (ld11 _ _ 2 rfl _ q).trans ?_
        refine (skip11 _ _ 1 2 (by decide) _ _ _ q).trans ?_
        refine (skip11 _ _ 0 2 (by decide) _ _ _ q).trans ?_
        exact inv_m rfl inv0 (nil11 (trips2 i)) 2 q
      · refine (ld10 _ _ 0 2 rfl _ q).trans ?_
        refine (slot10 _ _ 1 0 3 2 (by decide) _ _ _ q).trans ?_
        refine (slot10 _ _ 1 0 2 2 (by decide) _ _ _ q).trans ?_
        refine (slot10 _ _ 1 0 1 2 (by decide) _ _ _ q).trans ?_
        refine (slot10 _ _ 1 0 0 2 (by decide) _ _ _ q).trans ?_
        exact inv_x rfl inv0 (nil10 (trips2 i)) 2 q (cov10 2 q)
      · refine (ld13 _ _ 2 rfl _ d q).trans ?_
        refine (skip13 _ _ 1 2 (by decide) _ _ _ d q).trans ?_
        refine (skip13 _ _ 0 2 (by decide) _ _ _ d q).trans ?_
        exact inv_a rfl inv0 (nil13 (trips2 i)) 2 d q
      · intro j
        refine (ld9 _ _ 0 2 rfl _ j q).trans ?_
        refine (slot9 _ _ 1 0 3 2 (by decide) _ _ _ j q).trans ?_
        refine (slot9 _ _ 1 0 2 2 (by decide) _ _ _ j q).trans ?_
        refine (slot9 _ _ 1 0 1 2 (by decide) _ _ _ j q).trans ?_
        refine (slot9 _ _ 1 0 0 2 (by decide) _ _ _ j q).trans ?_
        exact inv_s rfl inv0 (nil9 (trips2 i)) 2 j q (cov9 2 j q)
      · intro j
        exact congrFun (rd7 _ _ 2 (2 * (k0_t1_loop i).trips) (by have := qt_lt i; omega) _ ((off34 i E1).trans (by rw [hn]; rfl))) (ix3 0 d j)
    · intro j
      refine (ld9 _ _ 1 2 ((off40 i).trans (by rw [E1]; rfl)) _ j q).trans ?_
      refine (skip9 _ _ 1 3 2 (by decide) _ _ _ j q).trans ?_
      refine (hit9 _ _ 1 2 _ _ _ j q).trans ?_
      refine (p6 (runOdd.sl.r_5 (F := Ideal) c arg3 harg3 arg4 harg4 x3 x4) _ _ j q).trans ?_
      exact congr (congrArg₂ (k0_pay5 (F := Ideal) (runOdd.sl.r_5 (F := Ideal) c arg3 harg3 arg4 harg4 x3 x4)) (rd5 _ _ 2 (i 2).val (qt_lt i) _ (off30 i)) (rd6 _ _ (i 2).val (qt_lt i) _ (off28 i))) rfl
    · intro j
      exact congrFun (rd7 _ _ 2 (i 2).val (qt_lt i) _ (off41 i)) (ix3 0 d j)
  · refine (ld11 _ _ 2 rfl _ q).trans ?_
    refine (skip11 _ _ 3 2 (by decide) _ _ _ q).trans ?_
    refine (hit11 _ _ 2 _ _ _ q).trans ?_
    refine (gL2 _ _ _ q).trans ?_
    refine stepL ?_ (toX ?_) ?_ (toS ?_)
    · refine toM (n := 2 * (k0_t1_loop i).trips + 1) ?_ hq
      refine (ld11 _ _ 2 rfl _ q).trans ?_
      refine (skip11 _ _ 1 2 (by decide) _ _ _ q).trans ?_
      refine (skip11 _ _ 0 2 (by decide) _ _ _ q).trans ?_
      refine (skip11 _ _ 3 2 (by decide) _ _ _ q).trans ?_
      refine (hit11 _ _ 2 _ _ _ q).trans ?_
      refine (p22 _ _ q).trans ?_
      refine stepM ?_ ?_
      · refine (ld11 _ _ 2 rfl _ q).trans ?_
        refine (skip11 _ _ 1 2 (by decide) _ _ _ q).trans ?_
        refine (skip11 _ _ 0 2 (by decide) _ _ _ q).trans ?_
        exact inv_m rfl inv0 (nil11 (trips2 i)) 2 q
      · refine (ld10 _ _ 0 2 rfl _ q).trans ?_
        refine (slot10 _ _ 1 0 3 2 (by decide) _ _ _ q).trans ?_
        refine (slot10 _ _ 1 0 2 2 (by decide) _ _ _ q).trans ?_
        refine (slot10 _ _ 1 0 1 2 (by decide) _ _ _ q).trans ?_
        refine (slot10 _ _ 1 0 0 2 (by decide) _ _ _ q).trans ?_
        exact inv_x rfl inv0 (nil10 (trips2 i)) 2 q (cov10 2 q)
    · intro j
      refine (ld9 _ _ 1 2 ((off40 i).trans (by rw [E1]; rfl)) _ j q).trans ?_
      refine (skip9 _ _ 1 3 2 (by decide) _ _ _ j q).trans ?_
      refine (hit9 _ _ 1 2 _ _ _ j q).trans ?_
      refine (p6 (runOdd.sl.r_5 (F := Ideal) c arg3 harg3 arg4 harg4 x3 x4) _ _ j q).trans ?_
      exact congr (congrArg₂ (k0_pay5 (F := Ideal) (runOdd.sl.r_5 (F := Ideal) c arg3 harg3 arg4 harg4 x3 x4)) (rd5 _ _ 2 (i 2).val (qt_lt i) _ (off30 i)) (rd6 _ _ (i 2).val (qt_lt i) _ (off28 i))) rfl
    · refine toL (n := 2 * (k0_t1_loop i).trips + 1) ?_ hq
      refine (ld11 _ _ 2 rfl _ q).trans ?_
      refine (skip11 _ _ 1 2 (by decide) _ _ _ q).trans ?_
      refine (skip11 _ _ 0 2 (by decide) _ _ _ q).trans ?_
      refine (skip11 _ _ 3 2 (by decide) _ _ _ q).trans ?_
      refine (hit11 _ _ 2 _ _ _ q).trans ?_
      refine (p23 _ _ _ _ q).trans ?_
      refine stepL ?_ ?_ ?_ ?_
      · refine (ld11 _ _ 2 rfl _ q).trans ?_
        refine (skip11 _ _ 1 2 (by decide) _ _ _ q).trans ?_
        refine (skip11 _ _ 0 2 (by decide) _ _ _ q).trans ?_
        exact inv_m rfl inv0 (nil11 (trips2 i)) 2 q
      · refine (ld10 _ _ 0 2 rfl _ q).trans ?_
        refine (slot10 _ _ 1 0 3 2 (by decide) _ _ _ q).trans ?_
        refine (slot10 _ _ 1 0 2 2 (by decide) _ _ _ q).trans ?_
        refine (slot10 _ _ 1 0 1 2 (by decide) _ _ _ q).trans ?_
        refine (slot10 _ _ 1 0 0 2 (by decide) _ _ _ q).trans ?_
        exact inv_x rfl inv0 (nil10 (trips2 i)) 2 q (cov10 2 q)
      · refine (ld11 _ _ 2 rfl _ q).trans ?_
        refine (skip11 _ _ 1 2 (by decide) _ _ _ q).trans ?_
        refine (skip11 _ _ 0 2 (by decide) _ _ _ q).trans ?_
        exact inv_l rfl inv0 (nil12 (trips2 i)) 2 q
      · intro j
        refine (ld9 _ _ 0 2 rfl _ j q).trans ?_
        refine (slot9 _ _ 1 0 3 2 (by decide) _ _ _ j q).trans ?_
        refine (slot9 _ _ 1 0 2 2 (by decide) _ _ _ j q).trans ?_
        refine (slot9 _ _ 1 0 1 2 (by decide) _ _ _ j q).trans ?_
        refine (slot9 _ _ 1 0 0 2 (by decide) _ _ _ j q).trans ?_
        exact inv_s rfl inv0 (nil9 (trips2 i)) 2 j q (cov9 2 j q)
    · intro j
      refine (ld9 _ _ 1 2 ((off40 i).trans (by rw [E1]; rfl)) _ j q).trans ?_
      refine (skip9 _ _ 1 3 2 (by decide) _ _ _ j q).trans ?_
      refine (hit9 _ _ 1 2 _ _ _ j q).trans ?_
      refine (p6 (runOdd.sl.r_5 (F := Ideal) c arg3 harg3 arg4 harg4 x3 x4) _ _ j q).trans ?_
      exact congr (congrArg₂ (k0_pay5 (F := Ideal) (runOdd.sl.r_5 (F := Ideal) c arg3 harg3 arg4 harg4 x3 x4)) (rd5 _ _ 2 (i 2).val (qt_lt i) _ (off30 i)) (rd6 _ _ (i 2).val (qt_lt i) _ (off28 i))) rfl

set_option maxHeartbeats 4000000 in
theorem odOut3 (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : k0_cond1 i = 1#1) (q : Fin 512) (d : Fin 128) (e : Fin 512) (he : e.val = 128 * 3 + d.val) :
    arg8.view.read (Elt Ideal) (arg8.view.writes (Elt Ideal) f8 (runOdd (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) (ix3 0 q e)
      = Ideal.div (Cert.Mla.A (am (i 2).val q (lg (runOdd.sl.r_8 (F := Ideal) c arg3 harg3 arg4 harg4 x3 x4) (arg5.view.read (Elt Ideal) (harg5.unread x5)) (arg6.view.read (Elt Ideal) (harg6.unread x6)) 3 q)) (vl (arg7.view.read (Elt Ideal) (harg7.unread x7)) 3 d) ((i 2).val + 1)) (Cert.Mla.L (am (i 2).val q (lg (runOdd.sl.r_8 (F := Ideal) c arg3 harg3 arg4 harg4 x3 x4) (arg5.view.read (Elt Ideal) (harg5.unread x5)) (arg6.view.read (Elt Ideal) (harg6.unread x6)) 3 q)) ((i 2).val + 1)) := by
  have E1 : (i 2).val % 2 = 1 := (cond1_iff i).mp hc
  have hn : 2 * (k0_t1_loop i).trips = (i 2).val - 1 := by
    rw [trips1]; omega
  have hq : 2 * (k0_t1_loop i).trips + 1 = (i 2).val := by omega
  unfold runOdd; dsimp only
  refine (hit8 _ _ 3 rfl _ _ _ q d e he).trans ?_
  refine (dO _ _ q d).trans ?_
  refine congrArg₂ Ideal.div ?_ ?_
  · refine (ld13 _ _ 3 rfl _ d q).trans ?_
    refine (hit13 _ _ 3 _ _ _ d q).trans ?_
    refine (gA3 _ _ _ _ d q).trans ?_
    refine stepA ?_ (toX ?_) ?_ (toS ?_) ?_
    · refine toM (n := 2 * (k0_t1_loop i).trips + 1) ?_ hq
      refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      refine (hit11 _ _ 3 _ _ _ q).trans ?_
      refine (p22 _ _ q).trans ?_
      refine stepM ?_ ?_
      · refine (ld11 _ _ 3 rfl _ q).trans ?_
        refine (skip11 _ _ 2 3 (by decide) _ _ _ q).trans ?_
        refine (skip11 _ _ 1 3 (by decide) _ _ _ q).trans ?_
        refine (skip11 _ _ 0 3 (by decide) _ _ _ q).trans ?_
        exact inv_m rfl inv0 (nil11 (trips2 i)) 3 q
      · refine (ld10 _ _ 0 3 rfl _ q).trans ?_
        refine (slot10 _ _ 1 0 3 3 (by decide) _ _ _ q).trans ?_
        refine (slot10 _ _ 1 0 2 3 (by decide) _ _ _ q).trans ?_
        refine (slot10 _ _ 1 0 1 3 (by decide) _ _ _ q).trans ?_
        refine (slot10 _ _ 1 0 0 3 (by decide) _ _ _ q).trans ?_
        exact inv_x rfl inv0 (nil10 (trips2 i)) 3 q (cov10 3 q)
    · intro j
      refine (ld9 _ _ 1 3 ((off42 i).trans (by rw [E1]; rfl)) _ j q).trans ?_
      refine (hit9 _ _ 1 3 _ _ _ j q).trans ?_
      refine (p6 (runOdd.sl.r_8 (F := Ideal) c arg3 harg3 arg4 harg4 x3 x4) _ _ j q).trans ?_
      exact congr (congrArg₂ (k0_pay5 (F := Ideal) (runOdd.sl.r_8 (F := Ideal) c arg3 harg3 arg4 harg4 x3 x4)) (rd5 _ _ 3 (i 2).val (qt_lt i) _ (off31 i)) (rd6 _ _ (i 2).val (qt_lt i) _ (off28 i))) rfl
    · refine toA (n := 2 * (k0_t1_loop i).trips + 1) ?_ hq
      refine (ld13 _ _ 3 rfl _ d q).trans ?_
      refine (skip13 _ _ 2 3 (by decide) _ _ _ d q).trans ?_
      refine (skip13 _ _ 1 3 (by decide) _ _ _ d q).trans ?_
      refine (skip13 _ _ 0 3 (by decide) _ _ _ d q).trans ?_
      refine (hit13 _ _ 3 _ _ _ d q).trans ?_
      refine (p24 _ _ _ _ _ d q).trans ?_
      refine stepA ?_ ?_ ?_ ?_ ?_
      · refine (ld11 _ _ 3 rfl _ q).trans ?_
        refine (skip11 _ _ 2 3 (by decide) _ _ _ q).trans ?_
        refine (skip11 _ _ 1 3 (by decide) _ _ _ q).trans ?_
        refine (skip11 _ _ 0 3 (by decide) _ _ _ q).trans ?_
        exact inv_m rfl inv0 (nil11 (trips2 i)) 3 q
      · refine (ld10 _ _ 0 3 rfl _ q).trans ?_
        refine (slot10 _ _ 1 0 3 3 (by decide) _ _ _ q).trans ?_
        refine (slot10 _ _ 1 0 2 3 (by decide) _ _ _ q).trans ?_
        refine (slot10 _ _ 1 0 1 3 (by decide) _ _ _ q).trans ?_
        refine (slot10 _ _ 1 0 0 3 (by decide) _ _ _ q).trans ?_
        exact inv_x rfl inv0 (nil10 (trips2 i)) 3 q (cov10 3 q)
      · refine (ld13 _ _ 3 rfl _ d q).trans ?_
        refine (skip13 _ _ 2 3 (by decide) _ _ _ d q).trans ?_
        refine (skip13 _ _ 1 3 (by decide) _ _ _ d q).trans ?_
        refine (skip13 _ _ 0 3 (by decide) _ _ _ d q).trans ?_
        exact inv_a rfl inv0 (nil13 (trips2 i)) 3 d q
      · intro j
        refine (ld9 _ _ 0 3 rfl _ j q).trans ?_
        refine (slot9 _ _ 1 0 3 3 (by decide) _ _ _ j q).trans ?_
        refine (slot9 _ _ 1 0 2 3 (by decide) _ _ _ j q).trans ?_
        refine (slot9 _ _ 1 0 1 3 (by decide) _ _ _ j q).trans ?_
        refine (slot9 _ _ 1 0 0 3 (by decide) _ _ _ j q).trans ?_
        exact inv_s rfl inv0 (nil9 (trips2 i)) 3 j q (cov9 3 j q)
      · intro j
        exact congrFun (rd7 _ _ 3 (2 * (k0_t1_loop i).trips) (by have := qt_lt i; omega) _ ((off35 i E1).trans (by rw [hn]; rfl))) (ix3 0 d j)
    · intro j
      refine (ld9 _ _ 1 3 ((off42 i).trans (by rw [E1]; rfl)) _ j q).trans ?_
      refine (hit9 _ _ 1 3 _ _ _ j q).trans ?_
      refine (p6 (runOdd.sl.r_8 (F := Ideal) c arg3 harg3 arg4 harg4 x3 x4) _ _ j q).trans ?_
      exact congr (congrArg₂ (k0_pay5 (F := Ideal) (runOdd.sl.r_8 (F := Ideal) c arg3 harg3 arg4 harg4 x3 x4)) (rd5 _ _ 3 (i 2).val (qt_lt i) _ (off31 i)) (rd6 _ _ (i 2).val (qt_lt i) _ (off28 i))) rfl
    · intro j
      exact congrFun (rd7 _ _ 3 (i 2).val (qt_lt i) _ (off43 i)) (ix3 0 d j)
  · refine (ld11 _ _ 3 rfl _ q).trans ?_
    refine (hit11 _ _ 3 _ _ _ q).trans ?_
    refine (gL3 _ _ _ q).trans ?_
    refine stepL ?_ (toX ?_) ?_ (toS ?_)
    · refine toM (n := 2 * (k0_t1_loop i).trips + 1) ?_ hq
      refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      refine (hit11 _ _ 3 _ _ _ q).trans ?_
      refine (p22 _ _ q).trans ?_
      refine stepM ?_ ?_
      · refine (ld11 _ _ 3 rfl _ q).trans ?_
        refine (skip11 _ _ 2 3 (by decide) _ _ _ q).trans ?_
        refine (skip11 _ _ 1 3 (by decide) _ _ _ q).trans ?_
        refine (skip11 _ _ 0 3 (by decide) _ _ _ q).trans ?_
        exact inv_m rfl inv0 (nil11 (trips2 i)) 3 q
      · refine (ld10 _ _ 0 3 rfl _ q).trans ?_
        refine (slot10 _ _ 1 0 3 3 (by decide) _ _ _ q).trans ?_
        refine (slot10 _ _ 1 0 2 3 (by decide) _ _ _ q).trans ?_
        refine (slot10 _ _ 1 0 1 3 (by decide) _ _ _ q).trans ?_
        refine (slot10 _ _ 1 0 0 3 (by decide) _ _ _ q).trans ?_
        exact inv_x rfl inv0 (nil10 (trips2 i)) 3 q (cov10 3 q)
    · intro j
      refine (ld9 _ _ 1 3 ((off42 i).trans (by rw [E1]; rfl)) _ j q).trans ?_
      refine (hit9 _ _ 1 3 _ _ _ j q).trans ?_
      refine (p6 (runOdd.sl.r_8 (F := Ideal) c arg3 harg3 arg4 harg4 x3 x4) _ _ j q).trans ?_
      exact congr (congrArg₂ (k0_pay5 (F := Ideal) (runOdd.sl.r_8 (F := Ideal) c arg3 harg3 arg4 harg4 x3 x4)) (rd5 _ _ 3 (i 2).val (qt_lt i) _ (off31 i)) (rd6 _ _ (i 2).val (qt_lt i) _ (off28 i))) rfl
    · refine toL (n := 2 * (k0_t1_loop i).trips + 1) ?_ hq
      refine (ld11 _ _ 3 rfl _ q).trans ?_
      refine (skip11 _ _ 2 3 (by decide) _ _ _ q).trans ?_
      refine (skip11 _ _ 1 3 (by decide) _ _ _ q).trans ?_
      refine (skip11 _ _ 0 3 (by decide) _ _ _ q).trans ?_
      refine (hit11 _ _ 3 _ _ _ q).trans ?_
      refine (p23 _ _ _ _ q).trans ?_
      refine stepL ?_ ?_ ?_ ?_
      · refine (ld11 _ _ 3 rfl _ q).trans ?_
        refine (skip11 _ _ 2 3 (by decide) _ _ _ q).trans ?_
        refine (skip11 _ _ 1 3 (by decide) _ _ _ q).trans ?_
        refine (skip11 _ _ 0 3 (by decide) _ _ _ q).trans ?_
        exact inv_m rfl inv0 (nil11 (trips2 i)) 3 q
      · refine (ld10 _ _ 0 3 rfl _ q).trans ?_
        refine (slot10 _ _ 1 0 3 3 (by decide) _ _ _ q).trans ?_
        refine (slot10 _ _ 1 0 2 3 (by decide) _ _ _ q).trans ?_
        refine (slot10 _ _ 1 0 1 3 (by decide) _ _ _ q).trans ?_
        refine (slot10 _ _ 1 0 0 3 (by decide) _ _ _ q).trans ?_
        exact inv_x rfl inv0 (nil10 (trips2 i)) 3 q (cov10 3 q)
      · refine (ld11 _ _ 3 rfl _ q).trans ?_
        refine (skip11 _ _ 2 3 (by decide) _ _ _ q).trans ?_
        refine (skip11 _ _ 1 3 (by decide) _ _ _ q).trans ?_
        refine (skip11 _ _ 0 3 (by decide) _ _ _ q).trans ?_
        exact inv_l rfl inv0 (nil12 (trips2 i)) 3 q
      · intro j
        refine (ld9 _ _ 0 3 rfl _ j q).trans ?_
        refine (slot9 _ _ 1 0 3 3 (by decide) _ _ _ j q).trans ?_
        refine (slot9 _ _ 1 0 2 3 (by decide) _ _ _ j q).trans ?_
        refine (slot9 _ _ 1 0 1 3 (by decide) _ _ _ j q).trans ?_
        refine (slot9 _ _ 1 0 0 3 (by decide) _ _ _ j q).trans ?_
        exact inv_s rfl inv0 (nil9 (trips2 i)) 3 j q (cov9 3 j q)
    · intro j
      refine (ld9 _ _ 1 3 ((off42 i).trans (by rw [E1]; rfl)) _ j q).trans ?_
      refine (hit9 _ _ 1 3 _ _ _ j q).trans ?_
      refine (p6 (runOdd.sl.r_8 (F := Ideal) c arg3 harg3 arg4 harg4 x3 x4) _ _ j q).trans ?_
      exact congr (congrArg₂ (k0_pay5 (F := Ideal) (runOdd.sl.r_8 (F := Ideal) c arg3 harg3 arg4 harg4 x3 x4)) (rd5 _ _ 3 (i 2).val (qt_lt i) _ (off31 i)) (rd6 _ _ (i 2).val (qt_lt i) _ (off28 i))) rfl

end Cert.KernelIdeal.Mla
-- ==== Proof.MlaVal.lean ====
module

public import proofs.«01_k».proof.Proof.BodyOdd
public import Idealize.ShloMosaic.Lib.WritesUnit
public import Idealize.ShloMosaic.Lib.VecWindow
public import Idealize.ShloMosaic.Lib.Pointwise
public import Idealize.ShloMosaic.PureOps.Ideal
public import proofs.«01_k».proof.Proof.MlaEven
public import proofs.«01_k».proof.Proof.MlaOdd
public import proofs.«01_k».proof.Proof.MlaOdd2

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.Sem

/-- A head's query operand: its columns of the first query block, then its half of a pair's columns of the second, zero elsewhere. -/
def QW (h : Fin 4) (x3 : FVec Ideal S1x512x512 .bf16) (x4 : FVec Ideal S1x512x256 .bf16) (w : FVec Ideal S512x256 .bf16) : Prop :=
  ∀ (q : Fin 512) (e : Fin 128), w (ix2 q ⟨e.val, by omega⟩) = x3 (ix3 0 q ⟨128 * h.val + e.val, by omega⟩)
    ∧ w (ix2 q ⟨128 + e.val, by omega⟩) = if e.val / 64 = h.val % 2 then x4 (ix3 0 q ⟨128 * (h.val / 2) + e.val, by omega⟩) else 0

theorem blk_eq : ∀ (e : Fin 128) (b : Fin 2), IntOp.cmpi CmpIPredicate.eq (fb (BitVec.ofNat 32 e.val)) (BitVec.ofNat 32 b.val) = if e.val / 64 = b.val then 1#1 else 0#1 := by
  decide +kernel

theorem sel_blk (e : Fin 128) (b : Fin 2) (x : EReal) :
    Scalar.select (IntOp.cmpi CmpIPredicate.eq (fb (BitVec.ofNat 32 e.val)) (BitVec.ofNat 32 b.val)) x 0 = if e.val / 64 = b.val then x else 0 := by
  rw [blk_eq]
  split <;> rfl

theorem wlo0 (r n : FVec Ideal S1x512x128 .bf16) (q : Fin 512) (e : Fin 128) :
    (k0_pay224 (F := Ideal) r n) (ix2 q ⟨e.val, by omega⟩) = n (ix3 0 q e) := by
  pointwise [k0_pay224]

theorem whi0 (r n : FVec Ideal S1x512x128 .bf16) (q : Fin 512) (e : Fin 128) :
    (k0_pay224 (F := Ideal) r n) (ix2 q ⟨128 + e.val, by omega⟩) = if e.val / 64 = 0 then r (ix3 0 q e) else 0 := by
  pointwise [k0_pay224]
  exact sel_blk e 0 (r (ix3 0 q e))

theorem qw0 {arg3 : Memref sig .tc .vmem S1x512x512 .bf16} {arg4 : Memref sig .tc .vmem S1x512x256 .bf16} {X3 : BufTy.Contents (Elt Ideal) arg3.view.ty} {X4 : BufTy.Contents (Elt Ideal) arg4.view.ty}
    {i3 : ∀ a, ![0, 0, 0] a + S1x512x128.size a ≤ S1x512x512.size a} {i4 : ∀ a, ![0, 0, 0] a + S1x512x128.size a ≤ S1x512x256.size a} :
    QW 0 (arg3.view.read (Elt Ideal) X3) (arg4.view.read (Elt Ideal) X4) (k0_pay224 (F := Ideal) (arg4.view.readAt (Elt Ideal) (Rect.unit (s := S1x512x256) ![0, 0, 0] S1x512x128.size i4).toLoadRect X4) (arg3.view.readAt (Elt Ideal) (Rect.unit (s := S1x512x512) ![0, 0, 0] S1x512x128.size i3).toLoadRect X3)) := fun q e =>
  ⟨(wlo0 _ _ q e).trans (ldAt arg3.view X3 i3 (ix3 0 q e) _ rfl (fin3 rfl (Nat.zero_add _).symm rfl)),
   (whi0 _ _ q e).trans (congrArg (fun x => if e.val / 64 = 0 then x else 0) (ldAt arg4.view X4 i4 (ix3 0 q e) (ix3 0 q ⟨128 * (0 / 2) + e.val, by omega⟩) rfl (fin3 rfl (Nat.zero_add _).symm rfl)))⟩

theorem wlo1 (r n : FVec Ideal S1x512x128 .bf16) (q : Fin 512) (e : Fin 128) :
    (k0_pay226 (F := Ideal) (k0_pay225 r) n) (ix2 q ⟨e.val, by omega⟩) = n (ix3 0 q e) := by
  pointwise [k0_pay226, k0_pay225]

theorem whi1 (r n : FVec Ideal S1x512x128 .bf16) (q : Fin 512) (e : Fin 128) :
    (k0_pay226 (F := Ideal) (k0_pay225 r) n) (ix2 q ⟨128 + e.val, by omega⟩) = if e.val / 64 = 1 then r (ix3 0 q e) else 0 := by
  pointwise [k0_pay226, k0_pay225]
  exact sel_blk e 1 (r (ix3 0 q e))

theorem qw1 {arg3 : Memref sig .tc .vmem S1x512x512 .bf16} {arg4 : Memref sig .tc .vmem S1x512x256 .bf16} {X3 : BufTy.Contents (Elt Ideal) arg3.view.ty} {X4 : BufTy.Contents (Elt Ideal) arg4.view.ty}
    {i3 : ∀ a, ![0, 0, 128] a + S1x512x128.size a ≤ S1x512x512.size a} {i4 : ∀ a, ![0, 0, 0] a + S1x512x128.size a ≤ S1x512x256.size a} :
    QW 1 (arg3.view.read (Elt Ideal) X3) (arg4.view.read (Elt Ideal) X4) (k0_pay226 (F := Ideal) (k0_pay225 (arg4.view.readAt (Elt Ideal) (Rect.unit (s := S1x512x256) ![0, 0, 0] S1x512x128.size i4).toLoadRect X4)) (arg3.view.readAt (Elt Ideal) (Rect.unit (s := S1x512x512) ![0, 0, 128] S1x512x128.size i3).toLoadRect X3)) := fun q e =>
  ⟨(wlo1 _ _ q e).trans (ldAt arg3.view X3 i3 (ix3 0 q e) _ rfl (fin3 rfl (Nat.zero_add _).symm rfl)),
   (whi1 _ _ q e).trans (congrArg (fun x => if e.val / 64 = 1 then x else 0) (ldAt arg4.view X4 i4 (ix3 0 q e) (ix3 0 q ⟨128 * (1 / 2) + e.val, by omega⟩) rfl (fin3 rfl (Nat.zero_add _).symm rfl)))⟩

theorem wlo2 (r n : FVec Ideal S1x512x128 .bf16) (q : Fin 512) (e : Fin 128) :
    (k0_pay230 (F := Ideal) (k0_pay227 r) (k0_pay228 n) (iota Kind.tc S1x128 32 [1] iota_S1x128_d1_w32) 64#32 k0_pay229 0#32) (ix2 q ⟨e.val, by omega⟩) = n (ix3 0 q e) := by
  pointwise [k0_pay230, k0_pay227, k0_pay228, k0_pay229]

theorem whi2 (r n : FVec Ideal S1x512x128 .bf16) (q : Fin 512) (e : Fin 128) :
    (k0_pay230 (F := Ideal) (k0_pay227 r) (k0_pay228 n) (iota Kind.tc S1x128 32 [1] iota_S1x128_d1_w32) 64#32 k0_pay229 0#32) (ix2 q ⟨128 + e.val, by omega⟩) = if e.val / 64 = 0 then r (ix3 0 q e) else 0 := by
  pointwise [k0_pay230, k0_pay227, k0_pay228, k0_pay229]
  exact sel_blk e 0 (r (ix3 0 q e))

theorem qw2 {arg3 : Memref sig .tc .vmem S1x512x512 .bf16} {arg4 : Memref sig .tc .vmem S1x512x256 .bf16} {X3 : BufTy.Contents (Elt Ideal) arg3.view.ty} {X4 : BufTy.Contents (Elt Ideal) arg4.view.ty}
    {i3 : ∀ a, ![0, 0, 256] a + S1x512x128.size a ≤ S1x512x512.size a} {i4 : ∀ a, ![0, 0, 128] a + S1x512x128.size a ≤ S1x512x256.size a} :
    QW 2 (arg3.view.read (Elt Ideal) X3) (arg4.view.read (Elt Ideal) X4) (k0_pay230 (F := Ideal) (k0_pay227 (arg4.view.readAt (Elt Ideal) (Rect.unit (s := S1x512x256) ![0, 0, 128] S1x512x128.size i4).toLoadRect X4)) (k0_pay228 (arg3.view.readAt (Elt Ideal) (Rect.unit (s := S1x512x512) ![0, 0, 256] S1x512x128.size i3).toLoadRect X3)) (iota Kind.tc S1x128 32 [1] iota_S1x128_d1_w32) 64#32 k0_pay229 0#32) := fun q e =>
  ⟨(wlo2 _ _ q e).trans (ldAt arg3.view X3 i3 (ix3 0 q e) _ rfl (fin3 rfl (Nat.zero_add _).symm rfl)),
   (whi2 _ _ q e).trans (congrArg (fun x => if e.val / 64 = 0 then x else 0) (ldAt arg4.view X4 i4 (ix3 0 q e) (ix3 0 q ⟨128 * (2 / 2) + e.val, by omega⟩) rfl (fin3 rfl (Nat.zero_add _).symm rfl)))⟩

theorem wlo3 (r n : FVec Ideal S1x512x128 .bf16) (q : Fin 512) (e : Fin 128) :
    (k0_pay235 (F := Ideal) (k0_pay231 r) (k0_pay232 n) (iota Kind.tc S1x128 32 [1] iota_S1x128_d1_w32) 64#32 k0_pay233 k0_pay234 0#32) (ix2 q ⟨e.val, by omega⟩) = n (ix3 0 q e) := by
  pointwise [k0_pay235, k0_pay231, k0_pay232, k0_pay233, k0_pay234]

theorem whi3 (r n : FVec Ideal S1x512x128 .bf16) (q : Fin 512) (e : Fin 128) :
    (k0_pay235 (F := Ideal) (k0_pay231 r) (k0_pay232 n) (iota Kind.tc S1x128 32 [1] iota_S1x128_d1_w32) 64#32 k0_pay233 k0_pay234 0#32) (ix2 q ⟨128 + e.val, by omega⟩) = if e.val / 64 = 1 then r (ix3 0 q e) else 0 := by
  pointwise [k0_pay235, k0_pay231, k0_pay232, k0_pay233, k0_pay234]
  exact sel_blk e 1 (r (ix3 0 q e))

theorem qw3 {arg3 : Memref sig .tc .vmem S1x512x512 .bf16} {arg4 : Memref sig .tc .vmem S1x512x256 .bf16} {X3 : BufTy.Contents (Elt Ideal) arg3.view.ty} {X4 : BufTy.Contents (Elt Ideal) arg4.view.ty}
    {i3 : ∀ a, ![0, 0, 384] a + S1x512x128.size a ≤ S1x512x512.size a} {i4 : ∀ a, ![0, 0, 128] a + S1x512x128.size a ≤ S1x512x256.size a} :
    QW 3 (arg3.view.read (Elt Ideal) X3) (arg4.view.read (Elt Ideal) X4) (k0_pay235 (F := Ideal) (k0_pay231 (arg4.view.readAt (Elt Ideal) (Rect.unit (s := S1x512x256) ![0, 0, 128] S1x512x128.size i4).toLoadRect X4)) (k0_pay232 (arg3.view.readAt (Elt Ideal) (Rect.unit (s := S1x512x512) ![0, 0, 384] S1x512x128.size i3).toLoadRect X3)) (iota Kind.tc S1x128 32 [1] iota_S1x128_d1_w32) 64#32 k0_pay233 k0_pay234 0#32) := fun q e =>
  ⟨(wlo3 _ _ q e).trans (ldAt arg3.view X3 i3 (ix3 0 q e) _ rfl (fin3 rfl (Nat.zero_add _).symm rfl)),
   (whi3 _ _ q e).trans (congrArg (fun x => if e.val / 64 = 1 then x else 0) (ldAt arg4.view X4 i4 (ix3 0 q e) (ix3 0 q ⟨128 * (3 / 2) + e.val, by omega⟩) rfl (fin3 rfl (Nat.zero_add _).symm rfl)))⟩

theorem p5 (w : FVec Ideal S512x256 .bf16) (kn kr : FVec Ideal S1x512x128 .bf16) (j q : Fin 512) :
    k0_pay5 (F := Ideal) w kn kr (ix2 j q)
      = (∑ e : Fin 128, kn (ix3 0 j e) * w (ix2 q ⟨e.val, by omega⟩)) + ∑ e : Fin 128, kr (ix3 0 j e) * w (ix2 q ⟨128 + e.val, by omega⟩) := by
  pointwise [k0_pay5]

/-- A sum over a pair's 128 columns, of which one half of 64 is kept. -/
theorem half_sum (b : ℕ) (hb : b < 2) (f g : Fin 128 → EReal) :
    (∑ e : Fin 128, f e * (if e.val / 64 = b then g e else 0)) = ∑ e : Fin 64, f ⟨64 * b + e.val, by omega⟩ * g ⟨64 * b + e.val, by omega⟩ := by
  have h := Fin.sum_univ_add (a := 64) (b := 64) (fun e : Fin 128 => f e * (if e.val / 64 = b then g e else 0))
  refine h.trans ?_
  have hlo : ∀ e : Fin 64, (Fin.castAdd 64 e).val / 64 = 0 := fun e => by show e.val / 64 = 0; omega
  have hhi : ∀ e : Fin 64, (Fin.natAdd 64 e).val / 64 = 1 := fun e => by show (64 + e.val) / 64 = 1; omega
  rcases (show b = 0 ∨ b = 1 by omega) with rfl | rfl
  · refine (congrArg₂ (· + ·) (Finset.sum_congr rfl fun e _ => ?_) (Finset.sum_eq_zero fun e _ => ?_)).trans (add_zero _)
    · rw [if_pos (hlo e)]
      have : (Fin.castAdd 64 e) = (⟨64 * 0 + e.val, by omega⟩ : Fin 128) := Fin.ext (by show e.val = 64 * 0 + e.val; omega)
      rw [this]
    · rw [if_neg (by rw [hhi e]; decide), mul_zero]
  · refine (congrArg₂ (· + ·) (Finset.sum_eq_zero fun e _ => ?_) (Finset.sum_congr rfl fun e _ => ?_)).trans (zero_add _)
    · rw [if_neg (by rw [hlo e]; decide), mul_zero]
    · rw [if_pos (hhi e)]
      have : (Fin.natAdd 64 e) = (⟨64 * 1 + e.val, by omega⟩ : Fin 128) := Fin.ext (by show 64 + e.val = 64 * 1 + e.val; omega)
      rw [this]

/-- The logit of query `q` and key `512 n + j`, in head `h` of the block. -/
def lgv (x3 : FVec Ideal S1x512x512 .bf16) (x4 : FVec Ideal S1x512x256 .bf16) (x5 : FVec Ideal S1x4096x512 .bf16) (x6 : FVec Ideal S1x4096x128 .bf16)
    (h : Fin 4) (q : Fin 512) (n : ℕ) (j : Fin 512) : EReal :=
  (∑ e : Fin 128, x5 (ix3 0 ⟨(512 * n + j.val) % 4096, Nat.mod_lt _ (by decide)⟩ ⟨128 * h.val + e.val, by omega⟩) * x3 (ix3 0 q ⟨128 * h.val + e.val, by omega⟩))
    + ∑ e : Fin 64, x6 (ix3 0 ⟨(512 * n + j.val) % 4096, Nat.mod_lt _ (by decide)⟩ ⟨64 * (h.val % 2) + e.val, by omega⟩) * x4 (ix3 0 q ⟨64 * h.val + e.val, by omega⟩)

theorem lg_eq {h : Fin 4} {x3 : FVec Ideal S1x512x512 .bf16} {x4 : FVec Ideal S1x512x256 .bf16} {w : FVec Ideal S512x256 .bf16} (H : QW h x3 x4 w)
    (x5 : FVec Ideal S1x4096x512 .bf16) (x6 : FVec Ideal S1x4096x128 .bf16) (q : Fin 512) : lg w x5 x6 h q = lgv x3 x4 x5 x6 h q := by
  funext n j
  refine (p5 w _ _ j q).trans (congrArg₂ (· + ·) (Finset.sum_congr rfl fun e _ => ?_) ?_)
  · rw [(H q e).1]; rfl
  · refine (Finset.sum_congr rfl fun e _ => congrArg (_ * ·) (H q e).2).trans ?_
    refine (half_sum (h.val % 2) (by omega) (fun e => x6 (ix3 0 ⟨(512 * n + j.val) % 4096, Nat.mod_lt _ (by decide)⟩ e)) (fun e => x4 (ix3 0 q ⟨128 * (h.val / 2) + e.val, by omega⟩))).trans ?_
    refine Finset.sum_congr rfl fun e _ => congrArg (_ * ·) (congrArg (fun k => x4 (ix3 0 q k)) (Fin.ext ?_))
    show 128 * (h.val / 2) + (64 * (h.val % 2) + e.val) = 64 * h.val + e.val
    omega

/-- The attention of one row in one head of the block, by the online recurrence over the tiles up to the diagonal. -/
def rowv (qt : ℕ) (x3 : FVec Ideal S1x512x512 .bf16) (x4 : FVec Ideal S1x512x256 .bf16) (x5 : FVec Ideal S1x4096x512 .bf16) (x6 : FVec Ideal S1x4096x128 .bf16)
    (x7 : FVec Ideal S1x512x4096 .bf16) (h : Fin 4) (d : Fin 128) (q : Fin 512) : EReal :=
  Ideal.div (Cert.Mla.A (am qt q (lgv x3 x4 x5 x6 h q)) (vl x7 h d) (qt + 1)) (Cert.Mla.L (am qt q (lgv x3 x4 x5 x6 h q)) (qt + 1))

/-- The block the kernel writes. -/
def outB (qt : ℕ) (x3 : FVec Ideal S1x512x512 .bf16) (x4 : FVec Ideal S1x512x256 .bf16) (x5 : FVec Ideal S1x4096x512 .bf16) (x6 : FVec Ideal S1x4096x128 .bf16)
    (x7 : FVec Ideal S1x512x4096 .bf16) : FVec Ideal S1x512x512 .bf16 := fun y =>
  rowv qt x3 x4 x5 x6 x7 ⟨(y 2).val / 128, by have : (y 2).val < 512 := (y 2).isLt; omega⟩ ⟨(y 2).val % 128, Nat.mod_lt _ (by decide)⟩ (y 1)

theorem rowv_eq {qt : ℕ} {h : Fin 4} {x3 : FVec Ideal S1x512x512 .bf16} {x4 : FVec Ideal S1x512x256 .bf16} {w : FVec Ideal S512x256 .bf16} (H : QW h x3 x4 w)
    (x5 : FVec Ideal S1x4096x512 .bf16) (x6 : FVec Ideal S1x4096x128 .bf16) (x7 : FVec Ideal S1x512x4096 .bf16) (q : Fin 512) (d : Fin 128) :
    Ideal.div (Cert.Mla.A (am qt q (lg w x5 x6 h q)) (vl x7 h d) (qt + 1)) (Cert.Mla.L (am qt q (lg w x5 x6 h q)) (qt + 1)) = rowv qt x3 x4 x5 x6 x7 h d q := by
  rw [lg_eq H]; rfl

theorem outB_of {o : FVec Ideal S1x512x512 .bf16} {qt : ℕ} {x3 : FVec Ideal S1x512x512 .bf16} {x4 : FVec Ideal S1x512x256 .bf16} {x5 : FVec Ideal S1x4096x512 .bf16}
    {x6 : FVec Ideal S1x4096x128 .bf16} {x7 : FVec Ideal S1x512x4096 .bf16}
    (H : ∀ (h : Fin 4) (q : Fin 512) (d : Fin 128) (e : Fin 512), e.val = 128 * h.val + d.val → o (ix3 0 q e) = rowv qt x3 x4 x5 x6 x7 h d q) :
    o = outB qt x3 x4 x5 x6 x7 := by
  funext y
  have hy : y = ix3 0 (y 1) (y 2) := by
    refine (ix3_eta y).symm.trans ?_
    exact congrArg (fun z : Fin 1 => (ix3 z (y 1) (y 2) : S1x512x512.Idx)) (Subsingleton.elim (α := Fin 1) (y 0) 0)
  have h2 : (y 2).val < 512 := (y 2).isLt
  refine (congrArg o hy).trans ((H ⟨(y 2).val / 128, by omega⟩ (y 1) ⟨(y 2).val % 128, Nat.mod_lt _ (by decide)⟩ (y 2) ?_).trans rfl)
  show (y 2).val = 128 * ((y 2).val / 128) + (y 2).val % 128
  omega

theorem out_even (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : ¬ k0_cond1 i = 1#1) :
    arg8.view.read (Elt Ideal) (arg8.view.writes (Elt Ideal) f8 (runEven (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) = outB (i 2).val x3 x4 x5 x6 x7 := by
  refine Eq.trans (outB_of (x3 := arg3.view.read (Elt Ideal) (harg3.unread x3)) (x4 := arg4.view.read (Elt Ideal) (harg4.unread x4)) (x5 := arg5.view.read (Elt Ideal) (harg5.unread x5))
    (x6 := arg6.view.read (Elt Ideal) (harg6.unread x6)) (x7 := arg7.view.read (Elt Ideal) (harg7.unread x7)) (fin4 ?_ ?_ ?_ ?_)) (by
      rw [harg3.read_unread, harg4.read_unread, harg5.read_unread, harg6.read_unread, harg7.read_unread])
  · exact fun q d e he => (evOut0 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw0 _ _ _ q d)
  · exact fun q d e he => (evOut1 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw1 _ _ _ q d)
  · exact fun q d e he => (evOut2 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw2 _ _ _ q d)
  · exact fun q d e he => (evOut3 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw3 _ _ _ q d)

theorem out_odd (c : Dev nD) (i : grid0.Coords) (arg3 : Memref sig .tc .vmem S1x512x512 .bf16) (harg3 : arg3.IsWhole) (arg4 : Memref sig .tc .vmem S1x512x256 .bf16) (harg4 : arg4.IsWhole) (arg5 : Memref sig .tc .vmem S1x4096x512 .bf16) (harg5 : arg5.IsWhole) (arg6 : Memref sig .tc .vmem S1x4096x128 .bf16) (harg6 : arg6.IsWhole) (arg7 : Memref sig .tc .vmem S1x512x4096 .bf16) (harg7 : arg7.IsWhole) (arg8 : Memref sig .tc .vmem S1x512x512 .bf16) (harg8 : arg8.IsWhole) (arg9 : Memref sig .tc .vmem S2x4x512x512 .f32) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x1x512 .f32) (harg12 : arg12.IsWhole) (arg13 : Memref sig .tc .vmem S4x128x512 .f32) (harg13 : arg13.IsWhole)
    (x3 : Vec Ideal S1x512x512 .bf16) (x4 : Vec Ideal S1x512x256 .bf16) (x5 : Vec Ideal S1x4096x512 .bf16) (x6 : Vec Ideal S1x4096x128 .bf16) (x7 : Vec Ideal S1x512x4096 .bf16) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (hc : k0_cond1 i = 1#1) :
    arg8.view.read (Elt Ideal) (arg8.view.writes (Elt Ideal) f8 (runOdd (F := Ideal) c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc).1) = outB (i 2).val x3 x4 x5 x6 x7 := by
  refine Eq.trans (outB_of (x3 := arg3.view.read (Elt Ideal) (harg3.unread x3)) (x4 := arg4.view.read (Elt Ideal) (harg4.unread x4)) (x5 := arg5.view.read (Elt Ideal) (harg5.unread x5))
    (x6 := arg6.view.read (Elt Ideal) (harg6.unread x6)) (x7 := arg7.view.read (Elt Ideal) (harg7.unread x7)) (fin4 ?_ ?_ ?_ ?_)) (by
      rw [harg3.read_unread, harg4.read_unread, harg5.read_unread, harg6.read_unread, harg7.read_unread])
  · exact fun q d e he => (odOut0 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw0 _ _ _ q d)
  · exact fun q d e he => (odOut1 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw1 _ _ _ q d)
  · exact fun q d e he => (odOut2 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw2 _ _ _ q d)
  · exact fun q d e he => (odOut3 c i arg3 harg3 arg4 harg4 arg5 harg5 arg6 harg6 arg7 harg7 arg8 harg8 arg9 harg9 arg10 harg10 arg11 harg11 arg12 harg12 arg13 harg13 x3 x4 x5 x6 x7 f8 f9 f10 f11 f12 f13 hc q d e he).trans (rowv_eq qw3 _ _ _ q d)

end Cert.KernelIdeal.Mla
-- ==== Proof.MlaRun.lean ====
module

public import proofs.«01_k».proof.Proof.MlaFrame
public import proofs.«01_k».proof.Proof.MlaVal
public import Idealize.ShloMosaic.Lib.Claim

/-! The attention call's launch with its value: each grid point leaves the block its five inputs determine, and the five
scratch buffers pass from point to point at whatever contents. What follows is the array the call leaves. -/

@[expose] public section

set_option maxRecDepth 16384

noncomputable section

namespace Cert.KernelIdeal.Mla

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)
/-- The block each grid point leaves. -/
def oB (c : Dev nD) (t : Fin cfg0.N) : Vec Ideal S1x512x512 .bf16 :=
  outB (crd t 2).val (iblk m c 0 t) (iblk m c 1 t) (iblk m c 2 t) (iblk m c 3 t) (iblk m c 4 t)

variable (o : Dev nD → Fin cfg0.N → Vec Ideal S1x512x512 .bf16)

def bodyPostV (c : Dev nD) (t : Fin cfg0.N) : sProp (MT nD τ sig Unit (Elt Ideal) ℕ (UR sig nD τ) ℕ) :=
  iprop((dats m o 0 c).Φ t.succ ∗ (dats m o 0 c).owesAt () t.succ
    ∗ owns (c : Thread nD τ) (w0 t) fullShare ((dats m o 0 c).after 0 t)
    ∗ owns (c : Thread nD τ) (w1 t) fullShare ((dats m o 0 c).after 1 t)
    ∗ owns (c : Thread nD τ) (w2 t) fullShare ((dats m o 0 c).after 2 t)
    ∗ owns (c : Thread nD τ) (w3 t) fullShare ((dats m o 0 c).after 3 t)
    ∗ owns (c : Thread nD τ) (w4 t) fullShare ((dats m o 0 c).after 4 t)
    ∗ owns (c : Thread nD τ) (w5 t) fullShare ((dats m o 0 c).after 5 t))

set_option maxHeartbeats 4000000 in
theorem sound_bodyV (c : Dev nD) (t : Fin cfg0.N) :
    bodyPre m (oB m) c t ⊢ wp Idealize.ShloMosaic.frame (wpE (defs₀ (F := Ideal)) Variants.none c none) Set.univ (bodyAt0 t) (fun _ => bodyPostV m (oB m) c t) := by
  unfold bodyPre bodyPostV bodyAt0
  simp only [before_0, before_1, before_2, before_3, before_4]
  rw [show (dats m (oB m) 0 c).Φ t.succ = (dats m (oB m) 0 c).Φ t.castSucc from rfl,
    show (dats m (oB m) 0 c).owesAt () t.succ = (dats m (oB m) 0 c).owesAt () t.castSucc from rfl,
    after_0, after_1, after_2, after_3, after_4, after_5]
  rw [show (dats m (oB m) 0 c).Φ t.castSucc = Pipeline.ΦA spec0 c from rfl, PhiA_eq]
  simp only [own_eq c s0, own_eq c s1, own_eq c s2, own_eq c s3, own_eq c s4, own_eq c (w5 t)]
  iintro ⟨⟨⟨⟨%u9, %g9, -, H9⟩, ⟨%u10, %g10, -, H10⟩, ⟨%u11, %g11, -, H11⟩, ⟨%u12, %g12, -, H12⟩, ⟨%u13, %g13, -, H13⟩⟩, Hg⟩, Ho, ⟨%d0, H0⟩, ⟨%d1, H1⟩, ⟨%d2, H2⟩, ⟨%d3, H3⟩, ⟨%d4, H4⟩, ⟨%u8, %g8, -, H8⟩⟩
  by_cases hc : k0_cond1 (crd t) = 1#1
  · iapply ((runOdd c (crd t) (w0 t) (h0 t) (w1 t) (h1 t) (w2 t) (h2 t) (w3 t) (h3 t) (w4 t) (h4 t) (w5 t) (h5 t) s0 (Memref.isWhole_whole _) s1 (Memref.isWhole_whole _) s2 (Memref.isWhole_whole _) s3 (Memref.isWhole_whole _) s4 (Memref.isWhole_whole _) (iblk m c 0 t) (iblk m c 1 t) (iblk m c 2 t) (iblk m c 3 t) (iblk m c 4 t) g8 g9 g10 g11 g12 g13 hc).2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]
        · iexists _; iexists _; isplitr; swap; · iexact H9
          ipureintro; rfl
        isplitl [H10]
        · iexists _; iexists _; isplitr; swap; · iexact H10
          ipureintro; rfl
        isplitl [H11]
        · iexists _; iexists _; isplitr; swap; · iexact H11
          ipureintro; rfl
        isplitl [H12]
        · iexists _; iexists _; isplitr; swap; · iexact H12
          ipureintro; rfl
        iexists _; iexists _; isplitr; swap; · iexact H13
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; isplitr; swap; · iexact H8
    ipureintro; exact out_odd _ _ _ _ _ _ _ _ _ _ _ _ _ _ _ _ _ _ _ _ _ _ _ _ _ _ _ _ _ _ _ _ _ _ _ hc
  · iapply ((runEven c (crd t) (w0 t) (h0 t) (w1 t) (h1 t) (w2 t) (h2 t) (w3 t) (h3 t) (w4 t) (h4 t) (w5 t) (h5 t) s0 (Memref.isWhole_whole _) s1 (Memref.isWhole_whole _) s2 (Memref.isWhole_whole _) s3 (Memref.isWhole_whole _) s4 (Memref.isWhole_whole _) (iblk m c 0 t) (iblk m c 1 t) (iblk m c 2 t) (iblk m c 3 t) (iblk m c 4 t) g8 g9 g10 g11 g12 g13 hc).2 Set.univ _)
    isplitl [H0]; · iexact H0
    isplitl [H1]; · iexact H1
    isplitl [H2]; · iexact H2
    isplitl [H3]; · iexact H3
    isplitl [H4]; · iexact H4
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H8, ⟨%e9, H9⟩, ⟨%e10, H10⟩, ⟨%e11, H11⟩, ⟨%e12, H12⟩, ⟨%e13, H13⟩⟩
    isplitl [H9 H10 H11 H12 H13 Hg]
    · isplitl [H9 H10 H11 H12 H13]
      · isplitl [H9]
        · iexists _; iexists _; isplitr; swap; · iexact H9
          ipureintro; rfl
        isplitl [H10]
        · iexists _; iexists _; isplitr; swap; · iexact H10
          ipureintro; rfl
        isplitl [H11]
        · iexists _; iexists _; isplitr; swap; · iexact H11
          ipureintro; rfl
        isplitl [H12]
        · iexists _; iexists _; isplitr; swap; · iexact H12
          ipureintro; rfl
        iexists _; iexists _; isplitr; swap; · iexact H13
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexists _; isplitr; swap; · iexact H8
    ipureintro; exact out_even _ _ _ _ _ _ _ _ _ _ _ _ _ _ _ _ _ _ _ _ _ _ _ _ _ _ _ _ _ _ _ _ _ _ _ hc

/-- What a point's body is handed. -/
def bodyPreV (c : Dev nD) (t : Fin cfg0.N) : sProp (MT nD τ sig Unit (Elt Ideal) ℕ (UR sig nD τ) ℕ) :=
  iprop((dats m (oB m) 0 c).Φ t.castSucc ∗ (dats m (oB m) 0 c).owesAt () t.castSucc
    ∗ (∃ d, owns (c : Thread nD τ) (w0 t) fullShare ((dats m (oB m) 0 c).before 0 t d))
    ∗ (∃ d, owns (c : Thread nD τ) (w1 t) fullShare ((dats m (oB m) 0 c).before 1 t d))
    ∗ (∃ d, owns (c : Thread nD τ) (w2 t) fullShare ((dats m (oB m) 0 c).before 2 t d))
    ∗ (∃ d, owns (c : Thread nD τ) (w3 t) fullShare ((dats m (oB m) 0 c).before 3 t d))
    ∗ (∃ d, owns (c : Thread nD τ) (w4 t) fullShare ((dats m (oB m) 0 c).before 4 t d))
    ∗ (∃ d, owns (c : Thread nD τ) (w5 t) fullShare ((dats m (oB m) 0 c).before 5 t d)))

/-- The output window's contents at the start of a point are not read. -/
theorem pre_le (c : Dev nD) (t : Fin cfg0.N) : bodyPreV m c t ⊢ bodyPre m (oB m) c t := by
  unfold bodyPreV bodyPre
  iintro ⟨HP, Ho, H0, H1, H2, H3, H4, ⟨%d5, H5⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexists _; iexact H5

theorem body_obligationV (c : Dev nD) : BodyObligation (dats m (oB m) 0 c) (defs₀ (F := Ideal)) Variants.none () Set.univ := fun t => by
  rw [bigSep_W0, bigSep_W0, defs₀_row]
  exact triple_restated ((pre_le m c t).trans (sound_bodyV m c t)) rfl .rfl fun _ => .rfl

set_option backward.isDefEq.respectTransparency.types false in
theorem run_mainV : θ_run defs (onTc (τ := τ) (main (F := Ideal))) (s₀ m ρ) (fun r => (Pipeline.FramePost cfgs (dats m (oB m)) 0 (V m)) r ∧ r.2.sem = fun _ => 0) :=
  Pipeline.θ_run_frame (Q' := _) cfgs (dats m (oB m)) (0 : Fin 1) launch0 defs₀ Variants.none m ρ main
    (hbody := fun c => (body_obligationV m c).loose) (hshare := fun c => (dats m (oB m) 0 c).share_full fun _ => rfl)
    (howed := fun _ _ => rfl) (V := V m) (hmain := hmain m Variants.none) (hA := A_eq m (oB m)) (hΦ := fun _ _ => rfl)

theorem run_out : θ_run defs (onTc (τ := τ) (main (F := Ideal))) ⟨m, fun _ => 0, ρ⟩ (fun r => ∀ c : Dev nD,
      r.2.mem ((c.tc : Thread nD τ).loc main_v19) = (dats m (oB m) 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_mainV m ρ)

end Cert.KernelIdeal.Mla

end
-- ==== Proof.MlaBlk.lean ====
module

public import proofs.«01_k».proof.Proof.MlaFrame
public import Idealize.ShloMosaic.Lib.Tactic.CleanTypes
public import Idealize.ShloMosaic.Lib.Pipeline.ValueKit
public import Idealize.ShloMosaic.Lib.Pipeline.ReadBack
public import Idealize.ShloMosaic.Lib.Pointwise
public import Idealize.ShloMosaic.Lib.StableHlo.Run
public import Idealize.ShloMosaic.Lib.Pipeline.Covers

/-! The attention call's five input blocks, read at an element as the arguments. -/

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ)

theorem N_eq : cfg0.N = 256 := by decide
/-- Which block each window reads at a point. -/
theorem idx : ∀ t : Fin grid0.N,
    win0_0.index t = ![t.val / 16, t.val % 8, t.val / 8 % 2] ∧ win0_1.index t = ![t.val / 16, t.val % 8, t.val / 8 % 2]
    ∧ win0_2.index t = ![t.val / 16, 0, t.val / 8 % 2] ∧ win0_3.index t = ![t.val / 16, 0, 0]
    ∧ win0_4.index t = ![t.val / 16, t.val / 8 % 2, 0] ∧ win0_5.index t = ![t.val / 16, t.val % 8, t.val / 8 % 2] := by decide +kernel
theorem crd_eq : ∀ t : Fin grid0.N, (grid0.coords t 2).val = t.val % 8 := by decide +kernel

/-- The batch a grid point reads. -/
def bOf (t : Fin cfg0.N) : Fin 16 := ⟨t.val / 16, by have := lt_of_lt_of_eq t.isLt N_eq; omega⟩
/-- The sequence position of a row of the block. -/
def sOf (t : Fin cfg0.N) (r : Fin 512) : Fin 4096 := ⟨512 * (t.val % 8) + r.val, by omega⟩
/-- The head of a head of the block. -/
def hOf (t : Fin cfg0.N) (h : Fin 4) : Fin 8 := ⟨4 * (t.val / 8 % 2) + h.val, by omega⟩
/-- What the queries are scaled by before the call. -/
def sc2 : Ideal .f32 := Ideal.div 1 (Ideal.sqrt (Ideal.ofBits .f32 0x43400000#32) * Ideal.log (Ideal.ofBits .f32 0x40000000#32))

/-- The scaled queries the call is given. -/
theorem v0 (c : Dev nD) (b : Fin 16) (s : Fin 4096) (H : Fin 8) (e : Fin 128) :
    V m c main_v7 (ix3 b s ⟨128 * H.val + e.val, by omega⟩) = FloatOps.mulf ((show Vec Ideal S16x4096x8x128 .f32 from m ((c : Thread nD τ).loc main_arg0)) (ix4 b s H e)) sc2 := by
  simp only [V]
  after_results_simp
  pointwise
  have e1 : (⟨(128 * H.val + e.val) / 128, by omega⟩ : Fin 8) = H := Fin.ext (by simp only; omega)
  have e2 : (⟨(128 * H.val + e.val) % 128, by omega⟩ : Fin 128) = e := Fin.ext (by simp only; omega)
  rw [e1, e2]
  rfl
theorem b0 (c : Dev nD) (t : Fin cfg0.N) (r : Fin 512) (h : Fin 4) (e : Fin 128) :
    iblk m c 0 t (ix3 0 r ⟨128 * h.val + e.val, by omega⟩) = FloatOps.mulf ((show Vec Ideal S16x4096x8x128 .f32 from m ((c : Thread nD τ).loc main_arg0)) (ix4 (bOf t) (sOf t r) (hOf t h) e)) sc2 := by
  have hh := lt_of_lt_of_eq t.isLt N_eq
  refine Eq.trans ?_ (v0 m c (bOf t) (sOf t r) (hOf t h) e)
  show V m c main_v7 _ = V m c main_v7 _
  refine congrArg _ ?_
  blk_ext [idx t, bOf, sOf, hOf]
/-- The scaled queries the call is given. -/
theorem v1 (c : Dev nD) (b : Fin 16) (s : Fin 4096) (H : Fin 8) (e : Fin 64) :
    V m c main_v11 (ix3 b s ⟨64 * H.val + e.val, by omega⟩) = FloatOps.mulf ((show Vec Ideal S16x4096x8x64 .f32 from m ((c : Thread nD τ).loc main_arg1)) (ix4 b s H e)) sc2 := by
  simp only [V]
  after_results_simp
  pointwise
  have e1 : (⟨(64 * H.val + e.val) / 64, by omega⟩ : Fin 8) = H := Fin.ext (by simp only; omega)
  have e2 : (⟨(64 * H.val + e.val) % 64, by omega⟩ : Fin 64) = e := Fin.ext (by simp only; omega)
  rw [e1, e2]
  rfl
theorem b1 (c : Dev nD) (t : Fin cfg0.N) (r : Fin 512) (h : Fin 4) (e : Fin 64) :
    iblk m c 1 t (ix3 0 r ⟨64 * h.val + e.val, by omega⟩) = FloatOps.mulf ((show Vec Ideal S16x4096x8x64 .f32 from m ((c : Thread nD τ).loc main_arg1)) (ix4 (bOf t) (sOf t r) (hOf t h) e)) sc2 := by
  have hh := lt_of_lt_of_eq t.isLt N_eq
  refine Eq.trans ?_ (v1 m c (bOf t) (sOf t r) (hOf t h) e)
  show V m c main_v11 _ = V m c main_v11 _
  refine congrArg _ ?_
  blk_ext [idx t, bOf, sOf, hOf]
theorem b2 (c : Dev nD) (t : Fin cfg0.N) (k : Fin 4096) (h : Fin 4) (e : Fin 128) :
    iblk m c 2 t (ix3 0 k ⟨128 * h.val + e.val, by omega⟩) = (show Vec Ideal S16x4096x8x128 .f32 from m ((c : Thread nD τ).loc main_arg2)) (ix4 (bOf t) k (hOf t h) e) := by
  have hh := lt_of_lt_of_eq t.isLt N_eq
  blk_ext! [iblk, V, idx t, bOf, sOf, hOf, sc2, Ideal.mulf_def]
theorem v3a (c : Dev nD) (b : Fin 16) (s : Fin 4096) (e : Fin 64) :
    V m c main_v15 (ix3 b s ⟨e.val, by omega⟩) = (show Vec Ideal S16x4096x64 .f32 from m ((c : Thread nD τ).loc main_arg3)) (ix3 b s e) := by
  simp only [V]
  after_results_simp
  pointwise
  after_results_simp
theorem b3a (c : Dev nD) (t : Fin cfg0.N) (k : Fin 4096) (e : Fin 64) :
    iblk m c 3 t (ix3 0 k ⟨e.val, by omega⟩) = (show Vec Ideal S16x4096x64 .f32 from m ((c : Thread nD τ).loc main_arg3)) (ix3 (bOf t) k e) := by
  have hh := lt_of_lt_of_eq t.isLt N_eq
  refine Eq.trans ?_ (v3a m c (bOf t) k e)
  show V m c main_v15 _ = V m c main_v15 _
  refine congrArg _ ?_
  blk_ext [idx t, bOf]
theorem v3b (c : Dev nD) (b : Fin 16) (s : Fin 4096) (e : Fin 64) :
    V m c main_v15 (ix3 b s ⟨64 + e.val, by omega⟩) = (show Vec Ideal S16x4096x64 .f32 from m ((c : Thread nD τ).loc main_arg3)) (ix3 b s e) := by
  simp only [V]
  after_results_simp
  pointwise
  after_results_simp
theorem b3b (c : Dev nD) (t : Fin cfg0.N) (k : Fin 4096) (e : Fin 64) :
    iblk m c 3 t (ix3 0 k ⟨64 + e.val, by omega⟩) = (show Vec Ideal S16x4096x64 .f32 from m ((c : Thread nD τ).loc main_arg3)) (ix3 (bOf t) k e) := by
  have hh := lt_of_lt_of_eq t.isLt N_eq
  refine Eq.trans ?_ (v3b m c (bOf t) k e)
  show V m c main_v15 _ = V m c main_v15 _
  refine congrArg _ ?_
  blk_ext [idx t, bOf]
set_option maxHeartbeats 2000000 in
theorem b4 (c : Dev nD) (t : Fin cfg0.N) (k : Fin 4096) (h : Fin 4) (d : Fin 128) :
    iblk m c 4 t (ix3 0 ⟨128 * h.val + d.val, by omega⟩ k) = (show Vec Ideal S16x4096x8x128 .f32 from m ((c : Thread nD τ).loc main_arg4)) (ix4 (bOf t) k (hOf t h) d) := by
  have hh := lt_of_lt_of_eq t.isLt N_eq
  blk_ext! [iblk, V, idx t, bOf, sOf, hOf, sc2, Ideal.mulf_def]
end Cert.KernelIdeal.Mla

end
-- ==== Proof.MlaRef.lean ====
module

public import proofs.«01_k».proof.Proof.Gen.ReferenceIdeal.Run
public import proofs.«01_k».proof.Proof.MlaMath
public import Idealize.ShloMosaic.Lib.Pointwise
public import Idealize.ShloMosaic.Lib.Tactic.CleanTypes

/-! The attention reference, read at an element: its chunk numbers, its masked logits, its exponentials and its result. -/

@[expose] public section

set_option maxRecDepth 16384

noncomputable section

namespace Cert.ReferenceIdeal.Row
open Cert.ReferenceIdeal Cert.ReferenceIdeal.Gen
open Idealize.ShloMosaic Idealize.ShloMosaic.TcCoe Idealize.SL.Sem

variable (a0 a2 a4 : FVec Ideal S16x4096x8x128 .f32) (a1 : FVec Ideal S16x4096x8x64 .f32) (a3 : FVec Ideal S16x4096x64 .f32)

/-- The chunk each position lies in, as the reference's floor division gives it. -/
def chunks : IVec S4096 32 := (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

/-- The masked logits. -/
def logits : FVec Ideal S16x8x4096x4096 .f32 := (select (broadcastInDim S16x8x4096x4096 ![2, 3] bcast_S4096x4096_S16x8x4096x4096_2_3 (cmpi .sle (broadcastInDim S4096x4096 ![0, 1] bcast_S1x4096_S4096x4096_0_1 (broadcastInDim S1x4096 ![1] bcast_S4096_S1x4096_1 chunks)) (broadcastInDim S4096x4096 ![0, 1] bcast_S4096x1_S4096x4096_0_1 (broadcastInDim S4096x1 ![0] bcast_S4096_S4096x1_0 chunks)))) (mulf (addf (Host.dotGeneral dot_S16x4096x8x128_S16x4096x8x128_S16x8x4096x4096_3_3_1_1_02_02 none a0 a2) (transpose S16x8x4096x4096 [0, 3, 2, 1] (Host.dotGeneral dot_S16x4096x64_S16x4096x8x64_S16x4096x4096x8_2_3_1_12_0_0 none a3 a1) transposes_S16x4096x4096x8_S16x8x4096x4096_0_3_2_1)) (broadcastInDim S16x8x4096x4096 ![] bcast_S_S16x8x4096x4096 (Host.divf (constant S_ .f32 0x3F800000#32) (Host.sqrt (constant S_ .f32 0x43400000#32))))) (broadcastInDim S16x8x4096x4096 ![] bcast_S_S16x8x4096x4096 (id (constant S_ .f32 0xFF800000#32))))

/-- Each row's maximum. -/
def rowMax (X : FVec Ideal S16x8x4096x4096 .f32) : FVec Ideal S16x8x4096 .f32 :=
  Host.reduce FloatOps.maximumf X (constant S_ .f32 0xFF800000#32) reducesTo_S16x8x4096x4096_S16x8x4096_d3 h_S_

/-- A row's number at every key. -/
def spread (R : FVec Ideal S16x8x4096 .f32) : FVec Ideal S16x8x4096x4096 .f32 :=
  broadcastInDim S16x8x4096x4096 ![0, 1, 2, 3] bcast_S16x8x4096x1_S16x8x4096x4096_0_1_2_3 (broadcastInDim S16x8x4096x1 ![0, 1, 2] bcast_S16x8x4096_S16x8x4096x1_0_1_2 R)

/-- Each row's maximum, at least minus infinity. -/
def rowTop (X : FVec Ideal S16x8x4096x4096 .f32) : FVec Ideal S16x8x4096 .f32 :=
  maximumf (broadcastInDim S16x8x4096 ![] bcast_S_S16x8x4096 (constant S_ .f32 0xFF800000#32)) (rowMax X)

/-- The exponentials of the logits less each row's maximum. -/
def expo (X : FVec Ideal S16x8x4096x4096 .f32) : FVec Ideal S16x8x4096x4096 .f32 := Host.exp (subf X (spread (rowTop X)))

/-- The values weighted by the normalised exponentials. -/
def outp (E : FVec Ideal S16x8x4096x4096 .f32) : FVec Ideal S16x4096x1024 .bf16 := truncf .bf16 (shapeCast _ (transpose S16x4096x8x128 [0, 3, 1, 2] (Host.dotGeneral dot_S16x4096x8x128_S16x8x4096x4096_S16x8x128x4096_1_3_3_2_02_01 none a4 (Host.divf E (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd E (constant S_ .f32 0x00000000#32) reducesTo_S16x8x4096x4096_S16x8x4096_d3 h_S_))))) transposes_S16x8x128x4096_S16x4096x8x128_0_3_1_2) shapeCasts_S16x4096x8x128_S16x4096x1024) bitsLt_bf16_f32

theorem res_eq (m : (ℓ : Loc nD τ sig) → Buf (Elt Ideal) ℓ) (c : Dev nD)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) :
    Cert.ReferenceIdeal.Value.res_main_v30 m c = outp a4 (expo (logits a0 a2 a1 a3)) := by
  subst h0 h1 h2 h3 h4
  rfl

/-- The reference's chunk word of a position. -/
def cw (x : BitVec 32) : BitVec 32 :=
  Scalar.select
    (IntOp.andi (IntOp.cmpi .ne (if x = 0 then (0 : BitVec 32) else if x.msb = true then -1 else 1) (if (64#32 : BitVec 32) = 0 then (0 : BitVec 32) else if (64#32 : BitVec 32).msb = true then -1 else 1))
      (IntOp.cmpi .ne (IntOp.remsi ArithUnit.host x 64#32) 0#32))
    (IntOp.subi (IntOp.divsi ArithUnit.host x 64#32) 1#32) (IntOp.divsi ArithUnit.host x 64#32)

theorem chunks_at (k : Fin 4096) : chunks (ix1 k) = cw (BitVec.ofNat 32 k.val) := by
  unfold chunks
  pointwise
  rfl

theorem cw_eq : ∀ k : Fin 4096, cw (BitVec.ofNat 32 k.val) = BitVec.ofNat 32 (k.val / 64) := by decide +kernel

theorem sle_eq : ∀ a b : Fin 64, IntOp.cmpi .sle (BitVec.ofNat 32 a.val) (BitVec.ofNat 32 b.val) = if a.val ≤ b.val then 1#1 else 0#1 := by decide +kernel

/-- A masked logit. -/
def lg (b : Fin 16) (H : Fin 8) (s k : Fin 4096) : EReal :=
  if k.val / 64 ≤ s.val / 64 then
    ((∑ e : Fin 128, a0 (ix4 b s H e) * a2 (ix4 b k H e)) + ∑ e : Fin 64, a3 (ix3 b k e) * a1 (ix4 b s H e))
      * Ideal.div 1 (Ideal.sqrt (Ideal.ofBits .f32 0x43400000#32))
  else ⊥

theorem logits_at (b : Fin 16) (H : Fin 8) (s k : Fin 4096) : logits a0 a2 a1 a3 (ix4 b H s k) = lg a0 a2 a1 a3 b H s k := by
  unfold logits
  pointwise
  rw [chunks_at, chunks_at, cw_eq, cw_eq, sle_eq ⟨k.val / 64, by omega⟩ ⟨s.val / 64, by omega⟩]
  unfold lg
  split
  · rfl
  · rfl

theorem rowMax_at (X : FVec Ideal S16x8x4096x4096 .f32) (b : Fin 16) (H : Fin 8) (s : Fin 4096) :
    rowMax X (ix3 b H s) = Cert.Mla.mx fun k' => X (ix4 b H s k') := by
  have h : S16x8x4096x4096.Reduces [3] S16x8x4096 := by decide
  have e : ∀ k, h.lift (ix3 b H s) k = ix4 b H s k := fun k => by
    funext a; fin_cases a <;> rfl
  refine (Host.reduce_eq_fold_single (α := EReal) max X _ _ h _ (ix3 b H s)).trans ?_
  exact congrArg (fun g => Finset.univ.fold max ⊥ g) (funext fun k => congrArg X (e k))

theorem spread_at (R : FVec Ideal S16x8x4096 .f32) (b : Fin 16) (H : Fin 8) (s k : Fin 4096) : spread R (ix4 b H s k) = R (ix3 b H s) := by
  unfold spread
  pointwise

theorem negInf : Ideal.ofBits .f32 0xFF800000#32 = (⊥ : EReal) := by
  simp [Ideal.ofBits, Ideal.ieee]

theorem max_at (C R : FVec Ideal S16x8x4096 .f32) (i : S16x8x4096.Idx) : maximumf C R i = max (C i) (R i) := rfl
theorem fill_at (C : FVec Ideal S_ .f32) (b : Fin 16) (H : Fin 8) (s : Fin 4096) :
    broadcastInDim S16x8x4096 ![] bcast_S_S16x8x4096 C (ix3 b H s) = C ix0 := by
  pointwise
theorem const_at (w : BitVec 32) : constant (F := Ideal) S_ .f32 w ix0 = Ideal.ofBits .f32 w := rfl

theorem rowTop_at (X : FVec Ideal S16x8x4096x4096 .f32) (b : Fin 16) (H : Fin 8) (s : Fin 4096) : rowTop X (ix3 b H s) = rowMax X (ix3 b H s) := by
  unfold rowTop
  rw [max_at, fill_at, const_at, negInf]
  exact max_bot_left (α := EReal) _

theorem expo_at (X : FVec Ideal S16x8x4096x4096 .f32) (b : Fin 16) (H : Fin 8) (s k : Fin 4096) :
    expo X (ix4 b H s k) = Ideal.exp (X (ix4 b H s k) - Cert.Mla.mx fun k' => X (ix4 b H s k')) := by
  rw [← rowMax_at, ← rowTop_at, ← spread_at (rowTop X) b H s k]
  rfl

theorem outp_at (E : FVec Ideal S16x8x4096x4096 .f32) (b : Fin 16) (s : Fin 4096) (H : Fin 8) (d : Fin 128) :
    outp a4 E (ix3 b s ⟨128 * H.val + d.val, by omega⟩) = ∑ k : Fin 4096, a4 (ix4 b k H d) * Ideal.div (E (ix4 b H s k)) (∑ k', E (ix4 b H s k')) := by
  unfold outp
  pointwise

/-- The reference at an element: the softmax of the masked logits, weighing the values. -/
theorem ref_at (m : (ℓ : Loc nD τ sig) → Buf (Elt Ideal) ℓ) (c : Dev nD)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (b : Fin 16) (s : Fin 4096) (H : Fin 8) (d : Fin 128) :
    Cert.ReferenceIdeal.Value.res_main_v30 m c (ix3 b s ⟨128 * H.val + d.val, by omega⟩)
      = ∑ k : Fin 4096, a4 (ix4 b k H d) * Ideal.div (Ideal.exp (lg a0 a2 a1 a3 b H s k - Cert.Mla.mx (lg a0 a2 a1 a3 b H s)))
          (∑ k', Ideal.exp (lg a0 a2 a1 a3 b H s k' - Cert.Mla.mx (lg a0 a2 a1 a3 b H s))) := by
  rw [res_eq a0 a2 a4 a1 a3 m c h0 h1 h2 h3 h4, outp_at]
  simp only [expo_at, logits_at]

end Cert.ReferenceIdeal.Row

end
-- ==== Proof.MlaFinal.lean ====
module

public import proofs.«01_k».proof.Proof.MlaRun
public import proofs.«01_k».proof.Proof.MlaBlk
public import proofs.«01_k».proof.Proof.MlaRef

/-! The attention call's result array is the reference's, of the same finite arguments. -/

@[expose] public section

set_option maxRecDepth 16384

noncomputable section

namespace Cert.Mla
open Idealize.ShloMosaic

theorem b192 : Ideal.ofBits .f32 0x43400000#32 = ((192 : ℝ) : EReal) := by
  have h : Ideal.ofBits .f32 0x43400000#32 = (((12582912 : ℝ) * (2 ^ 16)⁻¹ : ℝ) : EReal) := by simp [Ideal.ofBits, Ideal.ieee]
  rw [h]; norm_num
theorem bTwo : Ideal.ofBits .f32 0x40000000#32 = ((2 : ℝ) : EReal) := by
  have h : Ideal.ofBits .f32 0x40000000#32 = (((8388608 : ℝ) * (2 ^ 22)⁻¹ : ℝ) : EReal) := by simp [Ideal.ofBits, Ideal.ieee]
  rw [h]; norm_num

/-- The reference's scale. -/
abbrev sc1 : EReal := Ideal.div 1 (Ideal.sqrt (Ideal.ofBits .f32 0x43400000#32))

theorem sc1_eq : sc1 = ((1 / Real.sqrt 192 : ℝ) : EReal) := by
  have h : Real.sqrt 192 ≠ 0 := (Real.sqrt_pos.2 (by norm_num)).ne'
  rw [sc1, b192, Ideal.sqrt_coe, if_neg (by norm_num), Ideal.div_coe h, one_mul]

theorem sc2_eq : Ideal.div 1 (Ideal.sqrt (Ideal.ofBits .f32 0x43400000#32) * Ideal.log (Ideal.ofBits .f32 0x40000000#32))
    = ((1 / Real.sqrt 192 / Real.log 2 : ℝ) : EReal) := by
  have h : Real.sqrt 192 ≠ 0 := (Real.sqrt_pos.2 (by norm_num)).ne'
  have h2 : Real.log 2 ≠ 0 := (Real.log_pos one_lt_two).ne'
  rw [b192, bTwo, Ideal.sqrt_coe, if_neg (by norm_num), Ideal.log_coe, if_neg (by norm_num), ← EReal.coe_mul,
    Ideal.div_coe (mul_ne_zero h h2), one_mul]
  congr 1
  field_simp

/-- Real queries and keys: the reference's logit is real, and the kernel's is it over log 2. -/
theorem scale_log2 (Q K : Fin 128 → EReal) (QR KR : Fin 64 → EReal) (hQ : ∀ e, ∃ r : ℝ, Q e = r) (hK : ∀ e, ∃ r : ℝ, K e = r)
    (hQR : ∀ e, ∃ r : ℝ, QR e = r) (hKR : ∀ e, ∃ r : ℝ, KR e = r) (s1 s2 : EReal) (σ l : ℝ) (h1 : s1 = σ) (h2 : s2 = ((σ / l : ℝ) : EReal)) :
    ∃ r : ℝ, ((∑ e, Q e * K e) + ∑ e, KR e * QR e) * s1 = r ∧ (∑ e, K e * (Q e * s2)) + (∑ e, KR e * (QR e * s2)) = ((r / l : ℝ) : EReal) := by
  choose q hq using hQ
  choose k hk using hK
  choose x hx using hQR
  choose y hy using hKR
  refine ⟨((∑ e, q e * k e) + ∑ e, y e * x e) * σ, ?_, ?_⟩
  · simp only [hq, hk, hx, hy, h1, EReal.coe_mul, EReal.coe_add, coe_sum]
  · have e : (((∑ e, q e * k e) + ∑ e, y e * x e) * σ) / l = (∑ e, k e * (q e * (σ / l))) + ∑ e, y e * (x e * (σ / l)) := by
      rw [mul_div_assoc, add_mul, Finset.sum_mul, Finset.sum_mul]
      congr 1 <;> exact Finset.sum_congr rfl fun _ _ => by ring
    rw [e]
    simp only [hq, hk, hx, hy, h2, EReal.coe_mul, EReal.coe_add, coe_sum]

end Cert.Mla

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ)
variable (a0 a2 a4 : FVec Ideal S16x4096x8x128 .f32) (a1 : FVec Ideal S16x4096x8x64 .f32) (a3 : FVec Ideal S16x4096x64 .f32)

/-- The kernel's logit, of the arguments. -/
theorem lgv_eq (c : Dev nD) (t : Fin cfg0.N) (h : Fin 4) (q : Fin 512) (n : Fin 8) (j : Fin 512)
    (h0 : m ((c : Thread nD τ).loc main_arg0) = a0) (h1 : m ((c : Thread nD τ).loc main_arg1) = a1)
    (h2 : m ((c : Thread nD τ).loc main_arg2) = a2) (h3 : m ((c : Thread nD τ).loc main_arg3) = a3) :
    lgv (iblk m c 0 t) (iblk m c 1 t) (iblk m c 2 t) (iblk m c 3 t) h q n.val j
      = (∑ e : Fin 128, a2 (ix4 (bOf t) (Cert.Mla.key n j) (hOf t h) e) * (a0 (ix4 (bOf t) (sOf t q) (hOf t h) e) * sc2))
        + ∑ e : Fin 64, a3 (ix3 (bOf t) (Cert.Mla.key n j) e) * (a1 (ix4 (bOf t) (sOf t q) (hOf t h) e) * sc2) := by
  subst h0 h1 h2 h3
  have ek : (⟨(512 * n.val + j.val) % 4096, Nat.mod_lt _ (by decide)⟩ : Fin 4096) = Cert.Mla.key n j :=
    Fin.ext (by simp only [Cert.Mla.key]; omega)
  unfold lgv
  rw [ek]
  refine congrArg₂ (· + ·) (Finset.sum_congr rfl fun e _ => congrArg₂ (· * ·) (b2 m c t _ h e) (b0 m c t q h e))
    (Finset.sum_congr rfl fun e _ => congrArg₂ (· * ·) ?_ (b1 m c t q h e))
  have hh : h.val % 2 = 0 ∨ h.val % 2 = 1 := by omega
  rcases hh with hh | hh
  · rw [show (⟨64 * (h.val % 2) + e.val, by omega⟩ : Fin 128) = ⟨e.val, by omega⟩ from Fin.ext (by simp only [hh]; omega)]
    exact b3a m c t _ e
  · rw [show (⟨64 * (h.val % 2) + e.val, by omega⟩ : Fin 128) = ⟨64 + e.val, by omega⟩ from Fin.ext (by simp only [hh])]
    exact b3b m c t _ e

/-- What the call leaves at an element is the reference's softmax. -/
theorem row_eq (c : Dev nD) (t : Fin cfg0.N) (h : Fin 4) (q : Fin 512) (d : Fin 128)
    (h0 : m ((c : Thread nD τ).loc main_arg0) = a0) (h1 : m ((c : Thread nD τ).loc main_arg1) = a1)
    (h2 : m ((c : Thread nD τ).loc main_arg2) = a2) (h3 : m ((c : Thread nD τ).loc main_arg3) = a3) (h4 : m ((c : Thread nD τ).loc main_arg4) = a4)
    (r0 : ∀ i, ∃ r : ℝ, a0 i = r) (r1 : ∀ i, ∃ r : ℝ, a1 i = r) (r2 : ∀ i, ∃ r : ℝ, a2 i = r) (r3 : ∀ i, ∃ r : ℝ, a3 i = r) :
    rowv (t.val % 8) (iblk m c 0 t) (iblk m c 1 t) (iblk m c 2 t) (iblk m c 3 t) (iblk m c 4 t) h d q
      = ∑ k : Fin 4096, a4 (ix4 (bOf t) k (hOf t h) d) * Ideal.div (Ideal.exp (Cert.ReferenceIdeal.Row.lg a0 a2 a1 a3 (bOf t) (hOf t h) (sOf t q) k - Cert.Mla.mx (Cert.ReferenceIdeal.Row.lg a0 a2 a1 a3 (bOf t) (hOf t h) (sOf t q))))
          (∑ k', Ideal.exp (Cert.ReferenceIdeal.Row.lg a0 a2 a1 a3 (bOf t) (hOf t h) (sOf t q) k' - Cert.Mla.mx (Cert.ReferenceIdeal.Row.lg a0 a2 a1 a3 (bOf t) (hOf t h) (sOf t q)))) := by
  have hq := q.isLt
  have hr : ∀ (n : Fin 8) (j : Fin 512), (512 * n.val + j.val) / 64 ≤ (512 * (t.val % 8) + q.val) / 64 →
      ∃ r : ℝ, Cert.ReferenceIdeal.Row.lg a0 a2 a1 a3 (bOf t) (hOf t h) (sOf t q) (Cert.Mla.key n j) = r
        ∧ lgv (iblk m c 0 t) (iblk m c 1 t) (iblk m c 2 t) (iblk m c 3 t) h q n.val j = ((r / Real.log 2 : ℝ) : EReal) := fun n j hle => by
    obtain ⟨r, e1, e2⟩ := Cert.Mla.scale_log2 (fun e => a0 (ix4 (bOf t) (sOf t q) (hOf t h) e)) (fun e => a2 (ix4 (bOf t) (Cert.Mla.key n j) (hOf t h) e))
      (fun e => a1 (ix4 (bOf t) (sOf t q) (hOf t h) e)) (fun e => a3 (ix3 (bOf t) (Cert.Mla.key n j) e))
      (fun _ => r0 _) (fun _ => r2 _) (fun _ => r1 _) (fun _ => r3 _) Cert.Mla.sc1 sc2 (1 / Real.sqrt 192) (Real.log 2) Cert.Mla.sc1_eq Cert.Mla.sc2_eq
    refine ⟨r, ?_, (lgv_eq m a0 a2 a1 a3 c t h q n j h0 h1 h2 h3).trans e2⟩
    unfold Cert.ReferenceIdeal.Row.lg
    rw [if_pos (show (Cert.Mla.key n j).val / 64 ≤ (sOf t q).val / 64 from hle)]
    exact e1
  have hb : ∀ (n : Fin 8) (j : Fin 512), ¬ (512 * n.val + j.val) / 64 ≤ (512 * (t.val % 8) + q.val) / 64 →
      Cert.ReferenceIdeal.Row.lg a0 a2 a1 a3 (bOf t) (hOf t h) (sOf t q) (Cert.Mla.key n j) = ⊥ := fun n j hle => by
    unfold Cert.ReferenceIdeal.Row.lg
    rw [if_neg (show ¬ (Cert.Mla.key n j).val / 64 ≤ (sOf t q).val / 64 from hle)]
  unfold rowv
  rw [Cert.Mla.final (Cert.ReferenceIdeal.Row.lg a0 a2 a1 a3 (bOf t) (hOf t h) (sOf t q)) (fun k => a4 (ix4 (bOf t) k (hOf t h) d)) _ _ (t.val % 8 + 1) (by omega) (by omega)
    ?_ ?_ ?_ ?_]
  · exact Finset.sum_congr rfl fun k _ => mul_comm (G := EReal) _ _
  · intro n hn j
    have hj := j.isLt
    unfold am
    by_cases hc : n.val = t.val % 8 ∧ ¬ j.val / 64 ≤ q.val / 64
    · rw [if_pos hc]
      exact Or.inl ⟨hb n j (by omega), rfl⟩
    · rw [if_neg hc]
      exact Or.inr (hr n j (by omega))
  · intro n hn j
    have ek : (⟨(512 * n.val + j.val) % 4096, Nat.mod_lt _ (by decide)⟩ : Fin 4096) = Cert.Mla.key n j :=
      Fin.ext (by simp only [Cert.Mla.key]; omega)
    subst h4
    refine Eq.trans ?_ (b4 m c t (Cert.Mla.key n j) h d)
    rw [← ek]
    rfl
  · intro n hn j
    exact hb n j (by omega)
  · intro n hn
    obtain ⟨r, e, _⟩ := hr n 0 (by simp only [Fin.val_zero]; omega)
    exact ⟨0, r, e⟩

/-- The array the call leaves is the reference's. -/
theorem final (m' : (ℓ : Loc Cert.ReferenceIdeal.nD Cert.ReferenceIdeal.τ Cert.ReferenceIdeal.sig) → Buf (Elt Ideal) ℓ) (c : Dev nD)
    (h0 : m' ((c.tc : Thread _ _).loc Cert.ReferenceIdeal.main_arg0) = m ((c : Thread nD τ).loc main_arg0))
    (h1 : m' ((c.tc : Thread _ _).loc Cert.ReferenceIdeal.main_arg1) = m ((c : Thread nD τ).loc main_arg1))
    (h2 : m' ((c.tc : Thread _ _).loc Cert.ReferenceIdeal.main_arg2) = m ((c : Thread nD τ).loc main_arg2))
    (h3 : m' ((c.tc : Thread _ _).loc Cert.ReferenceIdeal.main_arg3) = m ((c : Thread nD τ).loc main_arg3))
    (h4 : m' ((c.tc : Thread _ _).loc Cert.ReferenceIdeal.main_arg4) = m ((c : Thread nD τ).loc main_arg4))
    (e0 : m ((c : Thread nD τ).loc main_arg0) = a0) (e1 : m ((c : Thread nD τ).loc main_arg1) = a1)
    (e2 : m ((c : Thread nD τ).loc main_arg2) = a2) (e3 : m ((c : Thread nD τ).loc main_arg3) = a3) (e4 : m ((c : Thread nD τ).loc main_arg4) = a4)
    (r0 : ∀ i, ∃ r : ℝ, a0 i = r) (r1 : ∀ i, ∃ r : ℝ, a1 i = r) (r2 : ∀ i, ∃ r : ℝ, a2 i = r) (r3 : ∀ i, ∃ r : ℝ, a3 i = r) :
    (dats m (oB m) 0 c).arrAt 5 cfg0.N = Cert.ReferenceIdeal.Value.res_main_v30 m' c := by
  refine (dats m (oB m) 0 c).arrAt_eq_of_covers 5 _ (by decide +kernel) fun t hf y => ?_
  have hh := lt_of_lt_of_eq t.isLt N_eq
  obtain ⟨q, D, rfl⟩ : ∃ (q : Fin 512) (D : Fin 512), y = ix3 0 q D :=
    ⟨y 1, y 2, by funext a; fin_cases a; · exact Subsingleton.elim (α := Fin 1) _ _
                  · rfl
                  · rfl⟩
  have hD := D.isLt
  have e : (dats m (oB m) 0 c).after 5 t (ix3 0 q D)
      = Cert.ReferenceIdeal.Value.res_main_v30 m' c (ix3 (bOf t) (sOf t q) ⟨128 * (hOf t ⟨D.val / 128, by omega⟩).val + (⟨D.val % 128, by omega⟩ : Fin 128).val, by simp only [hOf]; omega⟩) := by
    rw [Cert.ReferenceIdeal.Row.ref_at a0 a2 a4 a1 a3 m' c (h0.trans e0) (h1.trans e1) (h2.trans e2) (h3.trans e3) (h4.trans e4)
      (bOf t) (sOf t q) (hOf t ⟨D.val / 128, by omega⟩) ⟨D.val % 128, by omega⟩]
    refine Eq.trans ?_ (row_eq m a0 a2 a4 a1 a3 c t ⟨D.val / 128, by omega⟩ q ⟨D.val % 128, by omega⟩ e0 e1 e2 e3 e4 r0 r1 r2 r3)
    rw [← crd_eq t]
    rfl
  refine e.trans (congrArg _ ?_)
  blk_ext [idx t, bOf, sOf, hOf]

end Cert.KernelIdeal.Mla

end
-- ==== Proof.MlaPre.lean ====
module

public import proofs.«01_k».proof.Pre_finite
public import Idealize.ShloMosaic.Lib.ReduceAll
public import Idealize.ShloMosaic.PureOps.Ideal.Laws

/-! The precondition's side conditions, and what it gives: the queries and the keys are real numbers. -/

@[expose] public section

set_option maxRecDepth 16384

noncomputable section

namespace Cert.Pre_finite
open Idealize.ShloMosaic

theorem facts : Facts where
  bcast_S_S16x4096x8x128 := by decide
  reducesTo_S16x4096x8x128_S_d0_1_2_3 := by decide
  h_S_ := by decide
  bcast_S_S16x4096x8x64 := by decide
  reducesTo_S16x4096x8x64_S_d0_1_2_3 := by decide
  bcast_S_S16x4096x64 := by decide
  reducesTo_S16x4096x64_S_d0_1_2 := by decide

theorem inf_eq : Ideal.ofBits .f32 0x7F800000#32 = (⊤ : EReal) := by
  simp [Ideal.ofBits, Ideal.ieee]

/-- A number whose absolute value is below plus infinity is real. -/
theorem real_of_lt (x : EReal) (h : Ideal.cmp .olt (max x (-x)) (Ideal.ofBits .f32 0x7F800000#32) = 1#1) : ∃ r : ℝ, x = r := by
  rw [inf_eq] at h
  induction x using EReal.rec with
  | bot => simp [Ideal.cmp] at h
  | coe r => exact ⟨r, rfl⟩
  | top => simp [Ideal.cmp] at h

instance : Subsingleton S_.Idx := ⟨fun a b => funext fun i => i.elim0⟩

theorem andi_split (a b : IVec S_ 1) (h : andi a b = fun _ => 1#1) : a = (fun _ => 1#1) ∧ b = fun _ => 1#1 := by
  have key : ∀ x y : BitVec 1, IntOp.andi x y = 1#1 → x = 1#1 ∧ y = 1#1 := by decide
  exact ⟨funext fun i => (key _ _ (congrFun h i)).1, funext fun i => (key _ _ (congrFun h i)).2⟩

variable [Facts]
open Facts

theorem of_fn (a0 : FVec Ideal S16x4096x8x128 .f32) (a1 : FVec Ideal S16x4096x8x64 .f32) (a2 : FVec Ideal S16x4096x8x128 .f32) (a3 : FVec Ideal S16x4096x64 .f32)
    (a4 : FVec Ideal S16x4096x8x128 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ ∀ i, ∃ r : ℝ, a3 i = r := by
  unfold fn fn_part1 at h
  obtain ⟨h, h3⟩ := andi_split _ _ h
  obtain ⟨h, h2⟩ := andi_split _ _ h
  obtain ⟨h0, h1⟩ := andi_split _ _ h
  refine ⟨fun i => real_of_lt _ ?_, fun i => real_of_lt _ ?_, fun i => real_of_lt _ ?_, fun i => real_of_lt _ ?_⟩
  · exact Host.reduce_andi_all _ _ _ _ (fun a => a.elim0) (congrFun h0 _) i
  · exact Host.reduce_andi_all _ _ _ _ (fun a => a.elim0) (congrFun h1 _) i
  · exact Host.reduce_andi_all _ _ _ _ (fun a => a.elim0) (congrFun h2 _) i
  · exact Host.reduce_andi_all _ _ _ _ (fun a => a.elim0) (congrFun h3 _) i

end Cert.Pre_finite

end
-- ==== Proof.FfnRow.lean ====
/- One row of the feed-forward half-step: the row mathematics over the extended reals, and the kernel's payloads
   read at an element as that mathematics. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

noncomputable section

namespace Cert.Kernel2Ideal.Half

open Cert.Kernel2Ideal Cert.Kernel2Ideal.Gen Idealize.ShloMosaic

/-- A row, a matrix of extended reals. -/
abbrev Row (n : ℕ) := Fin n → EReal

/-- `u w` at column `f`: a row times a matrix. -/
def rowDot {n k : ℕ} (u : Row n) (w : Fin n → Fin k → EReal) (f : Fin k) : EReal := ∑ j, u j * w j f

/-- The residual row `h + g · (mixed w)`. -/
def mixRow (h mx : Row 1024) (wo : Fin 1024 → Fin 1024 → EReal) (g : Row 1024) : Row 1024 :=
  fun d => h d + g d * rowDot mx wo d

/-- The reciprocal root mean square of a row. -/
def rms (x : Row 1024) : EReal :=
  Ideal.rsqrt (Ideal.div (∑ j, x j * x j) (Ideal.ofBits .f32 0x44800000#32) + Ideal.ofBits .f32 0x358637BD#32)

/-- The normalised row `x · rms x · g`. -/
def nrm (x g : Row 1024) : Row 1024 := fun d => x d * rms x * g d

/-- The modulated normalised row. -/
def modRow (x ng sc sh : Row 1024) : Row 1024 := fun d => nrm x ng d * (1 + sc d) + sh d

/-- One gated unit: `silu (u·wg) · (u·wu)`. -/
def unit {n k : ℕ} (u : Row n) (wg wu : Fin n → Fin k → EReal) (f : Fin k) : EReal :=
  rowDot u wg f * Ideal.logistic (rowDot u wg f) * rowDot u wu f

/-- The half step of one row, without the projection before it or the norm after it. -/
def stepRow (x sh sc g3 ng : Row 1024)
    (wg wu : Fin 1024 → Fin 2816 → EReal) (wd : Fin 2816 → Fin 1024 → EReal) : Row 1024 :=
  fun d => x d + Ideal.ofBits .f32 0x3F000000#32 * g3 d * rowDot (unit (modRow x ng sc sh) wg wu) wd d

/-- The half step of one row, of a projected residual, normed. -/
def halfRow (h mx : Row 1024) (wo : Fin 1024 → Fin 1024 → EReal) (g2 sh sc g3 ng : Row 1024)
    (wg wu : Fin 1024 → Fin 2816 → EReal) (wd : Fin 2816 → Fin 1024 → EReal) (fg : Row 1024) : Row 1024 :=
  nrm (fun d => mixRow h mx wo g2 d + Ideal.ofBits .f32 0x3F000000#32 * g3 d
    * rowDot (unit (modRow (mixRow h mx wo g2) ng sc sh) wg wu) wd d) fg

set_option maxRecDepth 16384 in
theorem pay2_row (v0 : Vec Ideal S512x1024 .f32) (v2 : Vec Ideal S512x1024 .bf16) (v4 : Vec Ideal S1024x1024 .bf16)
    (v7 : Vec Ideal S1x1x1024 .f32) (r : Fin 512) (d : Fin 1024) :
    k0_pay2 v0 v2 v4 v7 (ix2 r d)
      = mixRow (fun k => v0 (ix2 r k)) (fun k => v2 (ix2 r k)) (fun k e => v4 (ix2 k e)) (fun k => v7 (ix3 0 0 k)) d := by
  pointwise [k0_pay2, mixRow, rowDot]
  try rfl

set_option maxRecDepth 16384 in
theorem pay3_row (v0 : Vec Ideal S512x1024 .f32) (v2 : Vec Ideal S512x1024 .bf16) (v4 : Vec Ideal S1024x1024 .bf16)
    (v7 : Vec Ideal S1x1x1024 .f32) (v12 : Vec Ideal S1x1024 .f32) (v14 v16 : Vec Ideal S1x1x1024 .f32)
    (r : Fin 512) (d : Fin 1024) :
    k0_pay3 v0 v2 v4 v7 v12 v14 v16 (ix2 r d)
      = modRow (fun k => k0_pay2 v0 v2 v4 v7 (ix2 r k)) (fun k => v12 (ix2 0 k)) (fun k => v14 (ix3 0 0 k))
          (fun k => v16 (ix3 0 0 k)) d := by
  generalize hX : k0_pay2 v0 v2 v4 v7 = X
  unfold k0_pay3
  rw [hX]
  pointwise [modRow, nrm, rms]
  try rfl

set_option maxRecDepth 16384 in
theorem pay4_row (u : FVec Ideal S512x1024 .bf16) (g w : Vec Ideal S1024x256 .bf16) (o : Vec Ideal S256x1024 .bf16)
    (r : Fin 512) (d : Fin 1024) :
    k0_pay4 u g w o (ix2 r d)
      = rowDot (unit (fun k => u (ix2 r k)) (fun k f => g (ix2 k f)) (fun k f => w (ix2 k f))) (fun f e => o (ix2 f e)) d := by
  pointwise [k0_pay4, rowDot, unit]
  try rfl

set_option maxRecDepth 16384 in
theorem pay5_row (u : FVec Ideal S512x1024 .bf16) (g w : Vec Ideal S1024x256 .bf16) (o : Vec Ideal S256x1024 .bf16)
    (a : Vec Ideal S512x1024 .f32) (r : Fin 512) (d : Fin 1024) :
    k0_pay5 u g w o a (ix2 r d)
      = a (ix2 r d) + rowDot (unit (fun k => u (ix2 r k)) (fun k f => g (ix2 k f)) (fun k f => w (ix2 k f))) (fun f e => o (ix2 f e)) d := by
  pointwise [k0_pay5, rowDot, unit]
  try rfl

set_option maxRecDepth 16384 in
theorem pay1_row (x : FVec Ideal S512x1024 .f32) (acc : Vec Ideal S512x1024 .f32) (g3 : Vec Ideal S1x1x1024 .f32)
    (fg : Vec Ideal S1x1024 .f32) (r : Fin 512) (d : Fin 1024) :
    k0_pay1 x acc (k0_pay20 g3) fg (ix2 r d)
      = nrm (fun k => x (ix2 r k) + Ideal.ofBits .f32 0x3F000000#32 * g3 (ix3 0 0 k) * acc (ix2 r k))
          (fun k => fg (ix2 0 k)) d := by
  pointwise [k0_pay1, k0_pay20, nrm, rms]
  try rfl

end Cert.Kernel2Ideal.Half

end
-- ==== Proof.FfnBody.lean ====
/- The feed-forward half-step at one grid point: what the body stores is the row mathematics of its blocks. -/
module
public import proofs.«01_k».proof.Proof.FfnRow
@[expose] public section
noncomputable section
namespace Cert.Kernel2Ideal.Half
open Cert.Kernel2Ideal Cert.Kernel2Ideal.Gen Idealize.ShloMosaic Idealize.ShloMosaic.TcCoe Idealize.SL.Sem
open Idealize.ShloMosaic.Pipeline (Dat)

/-- Columns `256 q …` of a matrix. -/
def cols {n : ℕ} (w : Fin n → Fin 2816 → EReal) (q : Fin 11) : Fin n → Fin 256 → EReal :=
  fun k f => w k ⟨256 * q.val + f.val, by omega⟩
/-- Rows `256 q …` of a matrix. -/
def rows {n : ℕ} (w : Fin 2816 → Fin n → EReal) (q : Fin 11) : Fin 256 → Fin n → EReal :=
  fun f e => w ⟨256 * q.val + f.val, by omega⟩ e

/-- The half step's hidden units summed in blocks of 256. -/
theorem blocks_sum (u : Row 1024) (wg wu : Fin 1024 → Fin 2816 → EReal) (wd : Fin 2816 → Fin 1024 → EReal) (d : Fin 1024) :
    rowDot (unit u wg wu) wd d = ∑ q : Fin 11, rowDot (unit u (cols wg q) (cols wu q)) (rows wd q) d := by
  rw [rowDot, ← (finProdFinEquiv (m := 11) (n := 256)).sum_comp, Fintype.sum_prod_type]
  refine Finset.sum_congr rfl fun q _ => Finset.sum_congr rfl fun f _ => ?_
  have e : (finProdFinEquiv (q, f) : Fin (11 * 256)) = (⟨256 * q.val + f.val, by omega⟩ : Fin 2816) :=
    Fin.ext (by simp only [finProdFinEquiv_apply_val]; omega)
  rw [e]; rfl

variable (m : (ℓ : Loc nD τ sig) → Buf (Elt Ideal) ℓ)

theorem ld_cols (X : Vec Ideal S1024x2816 .bf16) (o : ℕ) (q : Fin 11) (h : o = 256 * q.val) (inb) :
    (fun k f => View.ld X (Rect.unit (s := S1024x2816) ![0, o] S1024x256.size inb) (ix2 k f)) = cols (fun k f => X (ix2 k f)) q := by
  subst h
  funext k f
  pointwise [cols]
  try rfl
theorem ld_rows (X : Vec Ideal S2816x1024 .bf16) (o : ℕ) (q : Fin 11) (h : o = 256 * q.val) (inb) :
    (fun k f => View.ld X (Rect.unit (s := S2816x1024) ![o, 0] S256x1024.size inb) (ix2 k f)) = rows (fun k f => X (ix2 k f)) q := by
  subst h
  funext k f
  pointwise [rows]
  try rfl

/-- The hidden units' products accumulated block by block, from the modulated rows. -/
def accAll (u : FVec Ideal S512x1024 .bf16) (x5 x6 : Vec Ideal S1024x2816 .bf16) (x7 : Vec Ideal S2816x1024 .bf16) : FVec Ideal S512x1024 .f32 :=
  (k0_pay5 u (View.ld x5 (Rect.unit ![0, 2560] ![1024, 256] inb_S1024x2816_S1024x256_0_2560))
      (View.ld x6 (Rect.unit ![0, 2560] ![1024, 256] inb_S1024x2816_S1024x256_0_2560))
      (View.ld x7 (Rect.unit ![2560, 0] ![256, 1024] inb_S2816x1024_S256x1024_2560_0))
      (k0_pay5 u (View.ld x5 (Rect.unit ![0, 2304] ![1024, 256] inb_S1024x2816_S1024x256_0_2304))
      (View.ld x6 (Rect.unit ![0, 2304] ![1024, 256] inb_S1024x2816_S1024x256_0_2304))
      (View.ld x7 (Rect.unit ![2304, 0] ![256, 1024] inb_S2816x1024_S256x1024_2304_0))
      (k0_pay5 u (View.ld x5 (Rect.unit ![0, 2048] ![1024, 256] inb_S1024x2816_S1024x256_0_2048))
      (View.ld x6 (Rect.unit ![0, 2048] ![1024, 256] inb_S1024x2816_S1024x256_0_2048))
      (View.ld x7 (Rect.unit ![2048, 0] ![256, 1024] inb_S2816x1024_S256x1024_2048_0))
      (k0_pay5 u (View.ld x5 (Rect.unit ![0, 1792] ![1024, 256] inb_S1024x2816_S1024x256_0_1792))
      (View.ld x6 (Rect.unit ![0, 1792] ![1024, 256] inb_S1024x2816_S1024x256_0_1792))
      (View.ld x7 (Rect.unit ![1792, 0] ![256, 1024] inb_S2816x1024_S256x1024_1792_0))
      (k0_pay5 u (View.ld x5 (Rect.unit ![0, 1536] ![1024, 256] inb_S1024x2816_S1024x256_0_1536))
      (View.ld x6 (Rect.unit ![0, 1536] ![1024, 256] inb_S1024x2816_S1024x256_0_1536))
      (View.ld x7 (Rect.unit ![1536, 0] ![256, 1024] inb_S2816x1024_S256x1024_1536_0))
      (k0_pay5 u (View.ld x5 (Rect.unit ![0, 1280] ![1024, 256] inb_S1024x2816_S1024x256_0_1280))
      (View.ld x6 (Rect.unit ![0, 1280] ![1024, 256] inb_S1024x2816_S1024x256_0_1280))
      (View.ld x7 (Rect.unit ![1280, 0] ![256, 1024] inb_S2816x1024_S256x1024_1280_0))
      (k0_pay5 u (View.ld x5 (Rect.unit ![0, 1024] ![1024, 256] inb_S1024x2816_S1024x256_0_1024))
      (View.ld x6 (Rect.unit ![0, 1024] ![1024, 256] inb_S1024x2816_S1024x256_0_1024))
      (View.ld x7 (Rect.unit ![1024, 0] ![256, 1024] inb_S2816x1024_S256x1024_1024_0))
      (k0_pay5 u (View.ld x5 (Rect.unit ![0, 768] ![1024, 256] inb_S1024x2816_S1024x256_0_768))
      (View.ld x6 (Rect.unit ![0, 768] ![1024, 256] inb_S1024x2816_S1024x256_0_768))
      (View.ld x7 (Rect.unit ![768, 0] ![256, 1024] inb_S2816x1024_S256x1024_768_0))
      (k0_pay5 u (View.ld x5 (Rect.unit ![0, 512] ![1024, 256] inb_S1024x2816_S1024x256_0_512))
      (View.ld x6 (Rect.unit ![0, 512] ![1024, 256] inb_S1024x2816_S1024x256_0_512))
      (View.ld x7 (Rect.unit ![512, 0] ![256, 1024] inb_S2816x1024_S256x1024_512_0))
      (k0_pay5 u (View.ld x5 (Rect.unit ![0, 256] ![1024, 256] inb_S1024x2816_S1024x256_0_256))
      (View.ld x6 (Rect.unit ![0, 256] ![1024, 256] inb_S1024x2816_S1024x256_0_256))
      (View.ld x7 (Rect.unit ![256, 0] ![256, 1024] inb_S2816x1024_S256x1024_256_0))
      (k0_pay4 u (View.ld x5 (Rect.unit ![0, 0] ![1024, 256] inb_S1024x2816_S1024x256_0_0)) (View.ld x6 (Rect.unit ![0, 0] ![1024, 256] inb_S1024x2816_S1024x256_0_0)) (View.ld x7 (Rect.unit ![0, 0] ![256, 1024] inb_S2816x1024_S256x1024_0_0)))))))))))))

/-- What one grid point stores, from its blocks. -/
def bodyOut (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (x8 : Vec Ideal S1x1x1024 .f32) (x9 : Vec Ideal S512x1024 .bf16)
    (x10 : Vec Ideal S1024x1024 .bf16) (x11 : Vec Ideal S1x1024 .f32) : FVec Ideal S512x1024 .f32 :=
  k0_pay1 (k0_pay2 x0 x9 x10 x8) (accAll (k0_pay3 x0 x9 x10 x8 x4 x2 x1) x5 x6 x7) (k0_pay20 x3) x11

theorem accAll_row (u : FVec Ideal S512x1024 .bf16) (x5 x6 : Vec Ideal S1024x2816 .bf16) (x7 : Vec Ideal S2816x1024 .bf16)
    (r : Fin 512) (d : Fin 1024) :
    accAll u x5 x6 x7 (ix2 r d)
      = rowDot (unit (fun k => u (ix2 r k)) (fun k f => x5 (ix2 k f)) (fun k f => x6 (ix2 k f))) (fun k f => x7 (ix2 k f)) d := by
  rw [accAll, blocks_sum, pay5_row, pay5_row, pay5_row, pay5_row, pay5_row, pay5_row, pay5_row, pay5_row, pay5_row, pay5_row, pay4_row]
  rw [ld_cols x5 0 0 rfl, ld_cols x6 0 0 rfl, ld_rows x7 0 0 rfl, ld_cols x5 256 1 rfl, ld_cols x6 256 1 rfl, ld_rows x7 256 1 rfl, ld_cols x5 512 2 rfl, ld_cols x6 512 2 rfl, ld_rows x7 512 2 rfl, ld_cols x5 768 3 rfl, ld_cols x6 768 3 rfl, ld_rows x7 768 3 rfl, ld_cols x5 1024 4 rfl, ld_cols x6 1024 4 rfl, ld_rows x7 1024 4 rfl, ld_cols x5 1280 5 rfl, ld_cols x6 1280 5 rfl, ld_rows x7 1280 5 rfl, ld_cols x5 1536 6 rfl, ld_cols x6 1536 6 rfl, ld_rows x7 1536 6 rfl, ld_cols x5 1792 7 rfl, ld_cols x6 1792 7 rfl, ld_rows x7 1792 7 rfl, ld_cols x5 2048 8 rfl, ld_cols x6 2048 8 rfl, ld_rows x7 2048 8 rfl, ld_cols x5 2304 9 rfl, ld_cols x6 2304 9 rfl, ld_rows x7 2304 9 rfl, ld_cols x5 2560 10 rfl, ld_cols x6 2560 10 rfl, ld_rows x7 2560 10 rfl]
  simp only [Fin.sum_univ_succ, Fin.sum_univ_zero, add_zero, add_assoc]
  rfl

theorem bodyOut_row (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (x8 : Vec Ideal S1x1x1024 .f32) (x9 : Vec Ideal S512x1024 .bf16)
    (x10 : Vec Ideal S1024x1024 .bf16) (x11 : Vec Ideal S1x1024 .f32) (r : Fin 512) (d : Fin 1024) :
    bodyOut x0 x1 x2 x3 x4 x5 x6 x7 x8 x9 x10 x11 (ix2 r d)
      = halfRow (fun k => x0 (ix2 r k)) (fun k => x9 (ix2 r k)) (fun k e => x10 (ix2 k e)) (fun k => x8 (ix3 0 0 k))
          (fun k => x1 (ix3 0 0 k)) (fun k => x2 (ix3 0 0 k)) (fun k => x3 (ix3 0 0 k)) (fun k => x4 (ix2 0 k))
          (fun k f => x5 (ix2 k f)) (fun k f => x6 (ix2 k f)) (fun k f => x7 (ix2 k f)) (fun k => x11 (ix2 0 k)) d := by
  rw [bodyOut, pay1_row, halfRow]
  simp only [accAll_row, pay3_row, pay2_row]

theorem outs_eq (c : Dev nD) (t : Fin cfg0.N) :
    outsAt0 m c t = bodyOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) := by
  unfold outsAt0
  frame_open
  simp (disch := decide) only [↓ View.readCov_skip, ↓ View.readCov_cons_toLoadRect, ↓ View.readCov_fill]
  frame_out
  rfl
end Cert.Kernel2Ideal.Half

end
-- ==== Proof.FfnRef.lean ====
/- The feed-forward reference, read at an element as the row mathematics. -/
module
public import proofs.«01_k».proof.Proof.Gen.Reference2Ideal.Run
public import proofs.«01_k».proof.Proof.FfnRow
public import Idealize.ShloMosaic.Lib.Tactic.CleanTypes
@[expose] public section
noncomputable section
namespace Cert.Kernel2Ideal.Half
open Idealize.ShloMosaic Idealize.ShloMosaic.TcCoe Idealize.SL.Sem

set_option maxRecDepth 16384 in
/-- The reference at a row and column is the half step of that row. -/
theorem ref_row (m : (ℓ : Loc Cert.Reference2Ideal.nD Cert.Reference2Ideal.τ Cert.Reference2Ideal.sig) → Buf (Elt Ideal) ℓ) (c : Dev Cert.Reference2Ideal.nD) (R : Fin 65536) (d : Fin 1024) (b : Fin 16) (s : Fin 4096)
   (hR : R.val = 4096 * b.val + s.val)
   (a0 a1 : FVec Ideal Cert.Reference2Ideal.S16x4096x1024 .f32) (a2 : FVec Ideal Cert.Reference2Ideal.S1024x1024 .f32)
   (a3 a4 a5 a6 : FVec Ideal Cert.Reference2Ideal.S16x1x1024 .f32) (a7 : FVec Ideal Cert.Reference2Ideal.S1024 .f32)
   (a8 a9 : FVec Ideal Cert.Reference2Ideal.S1024x2816 .f32) (a10 : FVec Ideal Cert.Reference2Ideal.S2816x1024 .f32) (a11 : FVec Ideal Cert.Reference2Ideal.S1024 .f32)
   (h0 : m ((c.tc : Thread _ _).loc Cert.Reference2Ideal.main_arg0) = a0)
   (h1 : m ((c.tc : Thread _ _).loc Cert.Reference2Ideal.main_arg1) = a1)
   (h2 : m ((c.tc : Thread _ _).loc Cert.Reference2Ideal.main_arg2) = a2)
   (h3 : m ((c.tc : Thread _ _).loc Cert.Reference2Ideal.main_arg3) = a3)
   (h4 : m ((c.tc : Thread _ _).loc Cert.Reference2Ideal.main_arg4) = a4)
   (h5 : m ((c.tc : Thread _ _).loc Cert.Reference2Ideal.main_arg5) = a5)
   (h6 : m ((c.tc : Thread _ _).loc Cert.Reference2Ideal.main_arg6) = a6)
   (h7 : m ((c.tc : Thread _ _).loc Cert.Reference2Ideal.main_arg7) = a7)
   (h8 : m ((c.tc : Thread _ _).loc Cert.Reference2Ideal.main_arg8) = a8)
   (h9 : m ((c.tc : Thread _ _).loc Cert.Reference2Ideal.main_arg9) = a9)
   (h10 : m ((c.tc : Thread _ _).loc Cert.Reference2Ideal.main_arg10) = a10)
   (h11 : m ((c.tc : Thread _ _).loc Cert.Reference2Ideal.main_arg11) = a11) :
   Cert.Reference2Ideal.Value.res_main_v46 m c (ix2 R d)
     = halfRow (fun k => a0 (ix3 b s k)) (fun k => a1 (ix3 b s k)) (fun k e => a2 (ix2 k e)) (fun k => a3 (ix3 b 0 k))
       (fun k => a4 (ix3 b 0 k)) (fun k => a5 (ix3 b 0 k)) (fun k => a6 (ix3 b 0 k)) (fun k => a7 (ix1 k))
       (fun k f => a8 (ix2 k f)) (fun k f => a9 (ix2 k f)) (fun k f => a10 (ix2 k f)) (fun k => a11 (ix1 k)) d := by
  unfold Cert.Reference2Ideal.Value.res_main_v46
  clean_types
  rw [h0, h1, h2, h3, h4, h5, h6, h7, h8, h9, h10, h11]
  have e1 : (⟨R.val / 4096, by omega⟩ : Fin 16) = b := Fin.ext (by simp only; omega)
  have e2 : (⟨R.val % 4096, by omega⟩ : Fin 4096) = s := Fin.ext (by simp only; omega)
  pointwise
  simp only [e1, e2]
  rfl
end Cert.Kernel2Ideal.Half

end
-- ==== Proof.FfnValue.lean ====
/- The feed-forward half-step: the kernel's result array is the reference's. -/
module

public import proofs.«01_k».proof.Proof.FfnBody
public import proofs.«01_k».proof.Proof.FfnRef
public import Idealize.ShloMosaic.Lib.Pipeline.Covers

@[expose] public section

noncomputable section

namespace Cert.Kernel2Ideal.Half

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Which block each window reads at a point: its rows, its batch, or the whole array. -/
theorem idx : ∀ t : Fin grid0.N,
    win0_0.index t = ![t.val, 0] ∧ win0_9.index t = ![t.val, 0] ∧ win0_12.index t = ![t.val, 0]
    ∧ win0_1.index t = ![t.val / 8, 0, 0] ∧ win0_2.index t = ![t.val / 8, 0, 0] ∧ win0_3.index t = ![t.val / 8, 0, 0]
    ∧ win0_8.index t = ![t.val / 8, 0, 0]
    ∧ win0_4.index t = ![0, 0] ∧ win0_5.index t = ![0, 0] ∧ win0_6.index t = ![0, 0] ∧ win0_7.index t = ![0, 0]
    ∧ win0_10.index t = ![0, 0] ∧ win0_11.index t = ![0, 0] := by decide +kernel

theorem N_eq : cfg0.N = 128 := by decide

/-- The batch and the position of row `r` of point `t`'s block. -/
theorem bOf_lt (t : Fin cfg0.N) : t.val / 8 < 16 := by have h := lt_of_lt_of_eq t.isLt N_eq; omega
theorem sOf_lt (t : Fin cfg0.N) (r : Fin 512) : 512 * (t.val % 8) + r.val < 4096 := by have := r.isLt; omega
def bOf (t : Fin cfg0.N) : Fin 16 := ⟨t.val / 8, bOf_lt t⟩
def sOf (t : Fin cfg0.N) (r : Fin 512) : Fin 4096 := ⟨512 * (t.val % 8) + r.val, sOf_lt t r⟩

theorem b0 (c : Dev nD) (t : Fin cfg0.N) (r : Fin 512) (k : Fin 1024) :
    iblk m c 0 t (ix2 r k) = m ((c : Thread nD τ).loc main_arg0) (ix3 (bOf t) (sOf t r) k) := by
  have h := lt_of_lt_of_eq t.isLt N_eq
  blk_ext! [iblk, V, idx t, bOf, sOf]
theorem b9 (c : Dev nD) (t : Fin cfg0.N) (r : Fin 512) (k : Fin 1024) :
    iblk m c 9 t (ix2 r k) = m ((c : Thread nD τ).loc main_arg1) (ix3 (bOf t) (sOf t r) k) := by
  have h := lt_of_lt_of_eq t.isLt N_eq
  blk_ext! [iblk, V, idx t, bOf, sOf]
theorem b1 (c : Dev nD) (t : Fin cfg0.N) (k : Fin 1024) :
    iblk m c 1 t (ix3 0 0 k) = m ((c : Thread nD τ).loc main_arg4) (ix3 (bOf t) 0 k) := by
  have h := lt_of_lt_of_eq t.isLt N_eq
  blk_ext! [iblk, V, idx t, bOf]
theorem b2 (c : Dev nD) (t : Fin cfg0.N) (k : Fin 1024) :
    iblk m c 2 t (ix3 0 0 k) = m ((c : Thread nD τ).loc main_arg5) (ix3 (bOf t) 0 k) := by
  have h := lt_of_lt_of_eq t.isLt N_eq
  blk_ext! [iblk, V, idx t, bOf]
theorem b3 (c : Dev nD) (t : Fin cfg0.N) (k : Fin 1024) :
    iblk m c 3 t (ix3 0 0 k) = m ((c : Thread nD τ).loc main_arg6) (ix3 (bOf t) 0 k) := by
  have h := lt_of_lt_of_eq t.isLt N_eq
  blk_ext! [iblk, V, idx t, bOf]
theorem b8 (c : Dev nD) (t : Fin cfg0.N) (k : Fin 1024) :
    iblk m c 8 t (ix3 0 0 k) = m ((c : Thread nD τ).loc main_arg3) (ix3 (bOf t) 0 k) := by
  have h := lt_of_lt_of_eq t.isLt N_eq
  blk_ext! [iblk, V, idx t, bOf]
theorem b4 (c : Dev nD) (t : Fin cfg0.N) (k : Fin 1024) :
    iblk m c 4 t (ix2 0 k) = m ((c : Thread nD τ).loc main_arg7) (ix1 k) := by
  blk_ext! [iblk, V, idx t]
theorem b11 (c : Dev nD) (t : Fin cfg0.N) (k : Fin 1024) :
    iblk m c 11 t (ix2 0 k) = m ((c : Thread nD τ).loc main_arg11) (ix1 k) := by
  blk_ext! [iblk, V, idx t]
theorem b5 (c : Dev nD) (t : Fin cfg0.N) (k : Fin 1024) (f : Fin 2816) :
    iblk m c 5 t (ix2 k f) = m ((c : Thread nD τ).loc main_arg8) (ix2 k f) := by
  blk_ext! [iblk, V, idx t]
theorem b6 (c : Dev nD) (t : Fin cfg0.N) (k : Fin 1024) (f : Fin 2816) :
    iblk m c 6 t (ix2 k f) = m ((c : Thread nD τ).loc main_arg9) (ix2 k f) := by
  blk_ext! [iblk, V, idx t]
theorem b7 (c : Dev nD) (t : Fin cfg0.N) (k : Fin 2816) (f : Fin 1024) :
    iblk m c 7 t (ix2 k f) = m ((c : Thread nD τ).loc main_arg10) (ix2 k f) := by
  blk_ext! [iblk, V, idx t]
theorem b10 (c : Dev nD) (t : Fin cfg0.N) (k : Fin 1024) (f : Fin 1024) :
    iblk m c 10 t (ix2 k f) = m ((c : Thread nD τ).loc main_arg2) (ix2 k f) := by
  blk_ext! [iblk, V, idx t]

/-- The array the kernel leaves is the reference's, of the same arguments. -/
theorem final (m' : (ℓ : Loc Cert.Reference2Ideal.nD Cert.Reference2Ideal.τ Cert.Reference2Ideal.sig) → Buf (Elt Ideal) ℓ) (c : Dev nD)
    (h0 : m' ((c.tc : Thread _ _).loc Cert.Reference2Ideal.main_arg0) = m ((c : Thread nD τ).loc main_arg0))
    (h1 : m' ((c.tc : Thread _ _).loc Cert.Reference2Ideal.main_arg1) = m ((c : Thread nD τ).loc main_arg1))
    (h2 : m' ((c.tc : Thread _ _).loc Cert.Reference2Ideal.main_arg2) = m ((c : Thread nD τ).loc main_arg2))
    (h3 : m' ((c.tc : Thread _ _).loc Cert.Reference2Ideal.main_arg3) = m ((c : Thread nD τ).loc main_arg3))
    (h4 : m' ((c.tc : Thread _ _).loc Cert.Reference2Ideal.main_arg4) = m ((c : Thread nD τ).loc main_arg4))
    (h5 : m' ((c.tc : Thread _ _).loc Cert.Reference2Ideal.main_arg5) = m ((c : Thread nD τ).loc main_arg5))
    (h6 : m' ((c.tc : Thread _ _).loc Cert.Reference2Ideal.main_arg6) = m ((c : Thread nD τ).loc main_arg6))
    (h7 : m' ((c.tc : Thread _ _).loc Cert.Reference2Ideal.main_arg7) = m ((c : Thread nD τ).loc main_arg7))
    (h8 : m' ((c.tc : Thread _ _).loc Cert.Reference2Ideal.main_arg8) = m ((c : Thread nD τ).loc main_arg8))
    (h9 : m' ((c.tc : Thread _ _).loc Cert.Reference2Ideal.main_arg9) = m ((c : Thread nD τ).loc main_arg9))
    (h10 : m' ((c.tc : Thread _ _).loc Cert.Reference2Ideal.main_arg10) = m ((c : Thread nD τ).loc main_arg10))
    (h11 : m' ((c.tc : Thread _ _).loc Cert.Reference2Ideal.main_arg11) = m ((c : Thread nD τ).loc main_arg11)) :
    (dats m 0 c).arrAt 12 cfg0.N = Cert.Reference2Ideal.Value.res_main_v46 m' c := by
  refine (dats m 0 c).arrAt_eq_of_covers 12 _ (by decide +kernel) fun t hf y => ?_
  have h := lt_of_lt_of_eq t.isLt N_eq
  obtain ⟨r, d, rfl⟩ : ∃ (r : Fin 512) (d : Fin 1024), y = ix2 r d := ⟨y 0, y 1, by funext a; fin_cases a <;> rfl⟩
  have hlt : 512 * t.val + r.val < 65536 := by have := r.isLt; omega
  have e : (dats m 0 c).after 12 t (ix2 r d) = Cert.Reference2Ideal.Value.res_main_v46 m' c (ix2 ⟨512 * t.val + r.val, hlt⟩ d) := by
    rw [after0_12, outs_eq]
    refine (bodyOut_row _ _ _ _ _ _ _ _ _ _ _ _ r d).trans ?_
    rw [ref_row m' c ⟨512 * t.val + r.val, hlt⟩ d (bOf t) (sOf t r) (by simp only [bOf, sOf]; omega) _ _ _ _ _ _ _ _ _ _ _ _
      h0 h1 h2 h3 h4 h5 h6 h7 h8 h9 h10 h11]
    simp only [b0, b1, b2, b3, b4, b5, b6, b7, b8, b9, b10, b11]
  refine e.trans (congrArg _ ?_)
  blk_ext [idx t]
end Cert.Kernel2Ideal.Half
end
-- ==== Proof.Ffn4.lean ====
/- The feed-forward half-step after an output projection: the kernel's result array is the reference's. -/
module

public import proofs.«01_k».proof.Proof.FfnBody
public import proofs.«01_k».proof.Proof.Gen.Kernel4Ideal.Value
public import proofs.«01_k».proof.Proof.Gen.Reference4Ideal.Run
public import Idealize.ShloMosaic.Lib.Pipeline.Covers
public import Idealize.ShloMosaic.Lib.Tactic.CleanTypes

@[expose] public section

noncomputable section

namespace Cert.Kernel4Ideal.Half

open Cert.Kernel4Ideal Cert.Kernel4Ideal.Gen Idealize.ShloMosaic Idealize.ShloMosaic.TcCoe Idealize.SL.Sem
open Idealize.ShloMosaic.Pipeline (Dat)
open Cert.Kernel2Ideal.Half (Row rowDot mixRow rms nrm modRow unit stepRow accAll accAll_row pay2_row pay3_row)

set_option maxRecDepth 16384 in
theorem pay1_row (x : FVec Ideal S512x1024 .f32) (acc : Vec Ideal S512x1024 .f32) (g3 : Vec Ideal S1x1x1024 .f32)
    (r : Fin 512) (d : Fin 1024) :
    k0_pay1 x acc (k0_pay20 g3) (ix2 r d)
      = x (ix2 r d) + Ideal.ofBits .f32 0x3F000000#32 * g3 (ix3 0 0 d) * acc (ix2 r d) := by
  pointwise [k0_pay1, k0_pay20]
  try rfl

/-- What one grid point stores, from its blocks. -/
def bodyOut (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (x8 : Vec Ideal S1x1x1024 .f32) (x9 : Vec Ideal S512x1024 .bf16)
    (x10 : Vec Ideal S1024x1024 .bf16) : FVec Ideal S512x1024 .f32 :=
  k0_pay1 (Cert.Kernel2Ideal.Gen.k0_pay2 x0 x9 x10 x8)
    (accAll (Cert.Kernel2Ideal.Gen.k0_pay3 x0 x9 x10 x8 x4 x2 x1) x5 x6 x7) (k0_pay20 x3)

theorem bodyOut_row (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (x8 : Vec Ideal S1x1x1024 .f32) (x9 : Vec Ideal S512x1024 .bf16)
    (x10 : Vec Ideal S1024x1024 .bf16) (r : Fin 512) (d : Fin 1024) :
    bodyOut x0 x1 x2 x3 x4 x5 x6 x7 x8 x9 x10 (ix2 r d)
      = stepRow (mixRow (fun k => x0 (ix2 r k)) (fun k => x9 (ix2 r k)) (fun k e => x10 (ix2 k e)) (fun k => x8 (ix3 0 0 k))) (fun k => x1 (ix3 0 0 k)) (fun k => x2 (ix3 0 0 k)) (fun k => x3 (ix3 0 0 k)) (fun k => x4 (ix2 0 k))
          (fun k f => x5 (ix2 k f)) (fun k f => x6 (ix2 k f)) (fun k f => x7 (ix2 k f)) d := by
  refine (pay1_row _ _ x3 r d).trans ?_
  rw [stepRow]
  simp only [accAll_row, pay3_row, pay2_row]

variable (m : (ℓ : Loc nD τ sig) → Buf (Elt Ideal) ℓ)

theorem outs_eq (c : Dev nD) (t : Fin cfg0.N) :
    outsAt0 m c t = bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold outsAt0
  frame_open
  simp (disch := decide) only [↓ View.readCov_skip, ↓ View.readCov_cons_toLoadRect, ↓ View.readCov_fill]
  frame_out
  rfl

set_option maxRecDepth 16384 in
set_option maxHeartbeats 1600000 in
/-- The reference's result, row by row. -/
theorem ref_row (m : (ℓ : Loc Cert.Reference4Ideal.nD Cert.Reference4Ideal.τ Cert.Reference4Ideal.sig) → Buf (Elt Ideal) ℓ) (c : Dev Cert.Reference4Ideal.nD) (R : Fin 65536) (d : Fin 1024) (b : Fin 16) (s : Fin 4096)
   (hR : R.val = 4096 * b.val + s.val)
   (a0 : FVec Ideal Cert.Reference4Ideal.S16x4096x1024 .f32)
   (a1 : FVec Ideal Cert.Reference4Ideal.S16x4096x1024 .f32)
   (a2 : FVec Ideal Cert.Reference4Ideal.S1024x1024 .f32)
   (a3 : FVec Ideal Cert.Reference4Ideal.S16x1x1024 .f32)
   (a4 : FVec Ideal Cert.Reference4Ideal.S16x1x1024 .f32)
   (a5 : FVec Ideal Cert.Reference4Ideal.S16x1x1024 .f32)
   (a6 : FVec Ideal Cert.Reference4Ideal.S16x1x1024 .f32)
   (a7 : FVec Ideal Cert.Reference4Ideal.S1024 .f32)
   (a8 : FVec Ideal Cert.Reference4Ideal.S1024x2816 .f32)
   (a9 : FVec Ideal Cert.Reference4Ideal.S1024x2816 .f32)
   (a10 : FVec Ideal Cert.Reference4Ideal.S2816x1024 .f32)
   (h0 : m ((c.tc : Thread _ _).loc Cert.Reference4Ideal.main_arg0) = a0)
   (h1 : m ((c.tc : Thread _ _).loc Cert.Reference4Ideal.main_arg1) = a1)
   (h2 : m ((c.tc : Thread _ _).loc Cert.Reference4Ideal.main_arg2) = a2)
   (h3 : m ((c.tc : Thread _ _).loc Cert.Reference4Ideal.main_arg3) = a3)
   (h4 : m ((c.tc : Thread _ _).loc Cert.Reference4Ideal.main_arg4) = a4)
   (h5 : m ((c.tc : Thread _ _).loc Cert.Reference4Ideal.main_arg5) = a5)
   (h6 : m ((c.tc : Thread _ _).loc Cert.Reference4Ideal.main_arg6) = a6)
   (h7 : m ((c.tc : Thread _ _).loc Cert.Reference4Ideal.main_arg7) = a7)
   (h8 : m ((c.tc : Thread _ _).loc Cert.Reference4Ideal.main_arg8) = a8)
   (h9 : m ((c.tc : Thread _ _).loc Cert.Reference4Ideal.main_arg9) = a9)
   (h10 : m ((c.tc : Thread _ _).loc Cert.Reference4Ideal.main_arg10) = a10) :
   Cert.Reference4Ideal.Value.res_main_v33 m c (ix2 R d)
     = stepRow (mixRow (fun k => a0 (ix3 b s k)) (fun k => a1 (ix3 b s k)) (fun k e => a2 (ix2 k e)) (fun k => a3 (ix3 b 0 k)))
       (fun k => a4 (ix3 b 0 k)) (fun k => a5 (ix3 b 0 k)) (fun k => a6 (ix3 b 0 k)) (fun k => a7 (ix1 k))
       (fun k f => a8 (ix2 k f)) (fun k f => a9 (ix2 k f)) (fun k f => a10 (ix2 k f)) d := by
  unfold Cert.Reference4Ideal.Value.res_main_v33
  clean_types
  rw [h0, h1, h2, h3, h4, h5, h6, h7, h8, h9, h10]
  have e1 : (⟨R.val / 4096, by omega⟩ : Fin 16) = b := Fin.ext (by simp only; omega)
  have e2 : (⟨R.val % 4096, by omega⟩ : Fin 4096) = s := Fin.ext (by simp only; omega)
  pointwise
  simp only [e1, e2]
  rfl

/-- Which block each window reads at a point: its rows, its batch, or the whole array. -/
theorem idx : ∀ t : Fin grid0.N,
    win0_0.index t = ![t.val, 0]
    ∧ win0_9.index t = ![t.val, 0]
    ∧ win0_1.index t = ![t.val / 8, 0, 0]
    ∧ win0_2.index t = ![t.val / 8, 0, 0]
    ∧ win0_3.index t = ![t.val / 8, 0, 0]
    ∧ win0_8.index t = ![t.val / 8, 0, 0]
    ∧ win0_4.index t = ![0, 0]
    ∧ win0_5.index t = ![0, 0]
    ∧ win0_6.index t = ![0, 0]
    ∧ win0_7.index t = ![0, 0]
    ∧ win0_10.index t = ![0, 0]
    ∧ win0_11.index t = ![t.val, 0] := by decide +kernel

theorem N_eq : cfg0.N = 128 := by decide

/-- The batch and the position of row `r` of point `t`'s block. -/
theorem bOf_lt (t : Fin cfg0.N) : t.val / 8 < 16 := by have h := lt_of_lt_of_eq t.isLt N_eq; omega
theorem sOf_lt (t : Fin cfg0.N) (r : Fin 512) : 512 * (t.val % 8) + r.val < 4096 := by have := r.isLt; omega
def bOf (t : Fin cfg0.N) : Fin 16 := ⟨t.val / 8, bOf_lt t⟩
def sOf (t : Fin cfg0.N) (r : Fin 512) : Fin 4096 := ⟨512 * (t.val % 8) + r.val, sOf_lt t r⟩

theorem b0 (c : Dev nD) (t : Fin cfg0.N) (r : Fin 512) (k : Fin 1024) :
    iblk m c 0 t (ix2 r k) = m ((c : Thread nD τ).loc main_arg0) (ix3 (bOf t) (sOf t r) k) := by
  have h := lt_of_lt_of_eq t.isLt N_eq
  blk_ext! [iblk, V, idx t, bOf, sOf]
theorem b9 (c : Dev nD) (t : Fin cfg0.N) (r : Fin 512) (k : Fin 1024) :
    iblk m c 9 t (ix2 r k) = m ((c : Thread nD τ).loc main_arg1) (ix3 (bOf t) (sOf t r) k) := by
  have h := lt_of_lt_of_eq t.isLt N_eq
  blk_ext! [iblk, V, idx t, bOf, sOf]
theorem b1 (c : Dev nD) (t : Fin cfg0.N) (k : Fin 1024) :
    iblk m c 1 t (ix3 0 0 k) = m ((c : Thread nD τ).loc main_arg4) (ix3 (bOf t) 0 k) := by
  have h := lt_of_lt_of_eq t.isLt N_eq
  blk_ext! [iblk, V, idx t, bOf]
theorem b2 (c : Dev nD) (t : Fin cfg0.N) (k : Fin 1024) :
    iblk m c 2 t (ix3 0 0 k) = m ((c : Thread nD τ).loc main_arg5) (ix3 (bOf t) 0 k) := by
  have h := lt_of_lt_of_eq t.isLt N_eq
  blk_ext! [iblk, V, idx t, bOf]
theorem b3 (c : Dev nD) (t : Fin cfg0.N) (k : Fin 1024) :
    iblk m c 3 t (ix3 0 0 k) = m ((c : Thread nD τ).loc main_arg6) (ix3 (bOf t) 0 k) := by
  have h := lt_of_lt_of_eq t.isLt N_eq
  blk_ext! [iblk, V, idx t, bOf]
theorem b8 (c : Dev nD) (t : Fin cfg0.N) (k : Fin 1024) :
    iblk m c 8 t (ix3 0 0 k) = m ((c : Thread nD τ).loc main_arg3) (ix3 (bOf t) 0 k) := by
  have h := lt_of_lt_of_eq t.isLt N_eq
  blk_ext! [iblk, V, idx t, bOf]
theorem b4 (c : Dev nD) (t : Fin cfg0.N) (k : Fin 1024) :
    iblk m c 4 t (ix2 0 k) = m ((c : Thread nD τ).loc main_arg7) (ix1 k) := by
  blk_ext! [iblk, V, idx t]
theorem b5 (c : Dev nD) (t : Fin cfg0.N) (k : Fin 1024) (f : Fin 2816) :
    iblk m c 5 t (ix2 k f) = m ((c : Thread nD τ).loc main_arg8) (ix2 k f) := by
  blk_ext! [iblk, V, idx t]
theorem b6 (c : Dev nD) (t : Fin cfg0.N) (k : Fin 1024) (f : Fin 2816) :
    iblk m c 6 t (ix2 k f) = m ((c : Thread nD τ).loc main_arg9) (ix2 k f) := by
  blk_ext! [iblk, V, idx t]
theorem b7 (c : Dev nD) (t : Fin cfg0.N) (k : Fin 2816) (f : Fin 1024) :
    iblk m c 7 t (ix2 k f) = m ((c : Thread nD τ).loc main_arg10) (ix2 k f) := by
  blk_ext! [iblk, V, idx t]
theorem b10 (c : Dev nD) (t : Fin cfg0.N) (k : Fin 1024) (f : Fin 1024) :
    iblk m c 10 t (ix2 k f) = m ((c : Thread nD τ).loc main_arg2) (ix2 k f) := by
  blk_ext! [iblk, V, idx t]

/-- The array the kernel leaves is the reference's, of the same arguments. -/
theorem final (m' : (ℓ : Loc Cert.Reference4Ideal.nD Cert.Reference4Ideal.τ Cert.Reference4Ideal.sig) → Buf (Elt Ideal) ℓ) (c : Dev nD)
    (h0 : m' ((c.tc : Thread _ _).loc Cert.Reference4Ideal.main_arg0) = m ((c : Thread nD τ).loc main_arg0))
    (h1 : m' ((c.tc : Thread _ _).loc Cert.Reference4Ideal.main_arg1) = m ((c : Thread nD τ).loc main_arg1))
    (h2 : m' ((c.tc : Thread _ _).loc Cert.Reference4Ideal.main_arg2) = m ((c : Thread nD τ).loc main_arg2))
    (h3 : m' ((c.tc : Thread _ _).loc Cert.Reference4Ideal.main_arg3) = m ((c : Thread nD τ).loc main_arg3))
    (h4 : m' ((c.tc : Thread _ _).loc Cert.Reference4Ideal.main_arg4) = m ((c : Thread nD τ).loc main_arg4))
    (h5 : m' ((c.tc : Thread _ _).loc Cert.Reference4Ideal.main_arg5) = m ((c : Thread nD τ).loc main_arg5))
    (h6 : m' ((c.tc : Thread _ _).loc Cert.Reference4Ideal.main_arg6) = m ((c : Thread nD τ).loc main_arg6))
    (h7 : m' ((c.tc : Thread _ _).loc Cert.Reference4Ideal.main_arg7) = m ((c : Thread nD τ).loc main_arg7))
    (h8 : m' ((c.tc : Thread _ _).loc Cert.Reference4Ideal.main_arg8) = m ((c : Thread nD τ).loc main_arg8))
    (h9 : m' ((c.tc : Thread _ _).loc Cert.Reference4Ideal.main_arg9) = m ((c : Thread nD τ).loc main_arg9))
    (h10 : m' ((c.tc : Thread _ _).loc Cert.Reference4Ideal.main_arg10) = m ((c : Thread nD τ).loc main_arg10)) :
    (dats m 0 c).arrAt 11 cfg0.N = Cert.Reference4Ideal.Value.res_main_v33 m' c := by
  refine (dats m 0 c).arrAt_eq_of_covers 11 _ (by decide +kernel) fun t hf y => ?_
  have h := lt_of_lt_of_eq t.isLt N_eq
  obtain ⟨r, d, rfl⟩ : ∃ (r : Fin 512) (d : Fin 1024), y = ix2 r d := ⟨y 0, y 1, by funext a; fin_cases a <;> rfl⟩
  have hlt : 512 * t.val + r.val < 65536 := by have := r.isLt; omega
  have e : (dats m 0 c).after 11 t (ix2 r d) = Cert.Reference4Ideal.Value.res_main_v33 m' c (ix2 ⟨512 * t.val + r.val, hlt⟩ d) := by
    rw [after0_11, outs_eq]
    refine (bodyOut_row _ _ _ _ _ _ _ _ _ _ _ r d).trans ?_
    rw [ref_row m' c ⟨512 * t.val + r.val, hlt⟩ d (bOf t) (sOf t r) (by simp only [bOf, sOf]; omega) _ _ _ _ _ _ _ _ _ _ _
      h0 h1 h2 h3 h4 h5 h6 h7 h8 h9 h10]
    simp only [b0, b1, b2, b3, b4, b5, b6, b7, b8, b9, b10]
  refine e.trans (congrArg _ ?_)
  blk_ext [idx t]
end Cert.Kernel4Ideal.Half
end
-- ==== Proof.Ffn3.lean ====
/- The feed-forward half-step alone: the kernel's result array is the reference's. -/
module

public import proofs.«01_k».proof.Proof.FfnBody
public import proofs.«01_k».proof.Proof.Gen.Kernel3Ideal.Value
public import proofs.«01_k».proof.Proof.Gen.Reference3Ideal.Run
public import Idealize.ShloMosaic.Lib.Pipeline.Covers
public import Idealize.ShloMosaic.Lib.Tactic.CleanTypes

@[expose] public section

noncomputable section

namespace Cert.Kernel3Ideal.Half

open Cert.Kernel3Ideal Cert.Kernel3Ideal.Gen Idealize.ShloMosaic Idealize.ShloMosaic.TcCoe Idealize.SL.Sem
open Idealize.ShloMosaic.Pipeline (Dat)
open Cert.Kernel2Ideal.Half (Row rowDot mixRow rms nrm modRow unit stepRow accAll accAll_row)

set_option maxRecDepth 16384 in
theorem pay2_row (x acc : Vec Ideal S512x1024 .f32) (g3 : Vec Ideal S1x1x1024 .f32)
    (r : Fin 512) (d : Fin 1024) :
    k0_pay2 (k0_pay3 x) g3 acc (ix2 r d)
      = x (ix2 r d) + Ideal.ofBits .f32 0x3F000000#32 * g3 (ix3 0 0 d) * acc (ix2 r d) := by
  pointwise [k0_pay2, k0_pay3]
  try rfl

set_option maxRecDepth 16384 in
theorem pay4_row (v0 : Vec Ideal S512x1024 .f32) (v12 : Vec Ideal S1x1024 .f32) (v14 v16 : Vec Ideal S1x1x1024 .f32)
    (r : Fin 512) (d : Fin 1024) :
    k0_pay4 v0 v12 v14 v16 (ix2 r d)
      = modRow (fun k => v0 (ix2 r k)) (fun k => v12 (ix2 0 k)) (fun k => v14 (ix3 0 0 k)) (fun k => v16 (ix3 0 0 k)) d := by
  pointwise [k0_pay4, k0_pay3, modRow, nrm, rms]
  try rfl

/-- What one grid point stores, from its blocks. -/
def bodyOut (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) : FVec Ideal S512x1024 .f32 :=
  k0_pay2 (k0_pay3 x0) x3 (accAll (k0_pay4 x0 x4 x2 x1) x5 x6 x7)

theorem bodyOut_row (x0 : Vec Ideal S512x1024 .f32) (x1 x2 x3 : Vec Ideal S1x1x1024 .f32) (x4 : Vec Ideal S1x1024 .f32)
    (x5 x6 : Vec Ideal S1024x2816 .bf16) (x7 : Vec Ideal S2816x1024 .bf16) (r : Fin 512) (d : Fin 1024) :
    bodyOut x0 x1 x2 x3 x4 x5 x6 x7 (ix2 r d)
      = stepRow (fun k => x0 (ix2 r k)) (fun k => x1 (ix3 0 0 k)) (fun k => x2 (ix3 0 0 k)) (fun k => x3 (ix3 0 0 k)) (fun k => x4 (ix2 0 k))
          (fun k f => x5 (ix2 k f)) (fun k f => x6 (ix2 k f)) (fun k f => x7 (ix2 k f)) d := by
  refine (pay2_row _ _ x3 r d).trans ?_
  rw [stepRow]
  simp only [accAll_row, pay4_row]

variable (m : (ℓ : Loc nD τ sig) → Buf (Elt Ideal) ℓ)

theorem outs_eq (c : Dev nD) (t : Fin cfg0.N) :
    outsAt0 m c t = bodyOut (iblk m c 0 t) (iblk m c 1 t) (iblk m c 2 t) (iblk m c 3 t) (iblk m c 4 t) (iblk m c 5 t) (iblk m c 6 t) (iblk m c 7 t) := by
  unfold outsAt0
  frame_open
  simp (disch := decide) only [↓ View.readCov_skip, ↓ View.readCov_cons_toLoadRect, ↓ View.readCov_fill]
  frame_out
  rfl

set_option maxRecDepth 16384 in
set_option maxHeartbeats 1600000 in
/-- The reference's result, row by row. -/
theorem ref_row (m : (ℓ : Loc Cert.Reference3Ideal.nD Cert.Reference3Ideal.τ Cert.Reference3Ideal.sig) → Buf (Elt Ideal) ℓ) (c : Dev Cert.Reference3Ideal.nD) (R : Fin 65536) (d : Fin 1024) (b : Fin 16) (s : Fin 4096)
   (hR : R.val = 4096 * b.val + s.val)
   (a0 : FVec Ideal Cert.Reference3Ideal.S16x4096x1024 .f32)
   (a1 : FVec Ideal Cert.Reference3Ideal.S16x1x1024 .f32)
   (a2 : FVec Ideal Cert.Reference3Ideal.S16x1x1024 .f32)
   (a3 : FVec Ideal Cert.Reference3Ideal.S16x1x1024 .f32)
   (a4 : FVec Ideal Cert.Reference3Ideal.S1024 .f32)
   (a5 : FVec Ideal Cert.Reference3Ideal.S1024x2816 .f32)
   (a6 : FVec Ideal Cert.Reference3Ideal.S1024x2816 .f32)
   (a7 : FVec Ideal Cert.Reference3Ideal.S2816x1024 .f32)
   (h0 : m ((c.tc : Thread _ _).loc Cert.Reference3Ideal.main_arg0) = a0)
   (h1 : m ((c.tc : Thread _ _).loc Cert.Reference3Ideal.main_arg1) = a1)
   (h2 : m ((c.tc : Thread _ _).loc Cert.Reference3Ideal.main_arg2) = a2)
   (h3 : m ((c.tc : Thread _ _).loc Cert.Reference3Ideal.main_arg3) = a3)
   (h4 : m ((c.tc : Thread _ _).loc Cert.Reference3Ideal.main_arg4) = a4)
   (h5 : m ((c.tc : Thread _ _).loc Cert.Reference3Ideal.main_arg5) = a5)
   (h6 : m ((c.tc : Thread _ _).loc Cert.Reference3Ideal.main_arg6) = a6)
   (h7 : m ((c.tc : Thread _ _).loc Cert.Reference3Ideal.main_arg7) = a7) :
   Cert.Reference3Ideal.Value.res_main_v29 m c (ix2 R d)
     = stepRow (fun k => a0 (ix3 b s k))
       (fun k => a1 (ix3 b 0 k)) (fun k => a2 (ix3 b 0 k)) (fun k => a3 (ix3 b 0 k)) (fun k => a4 (ix1 k))
       (fun k f => a5 (ix2 k f)) (fun k f => a6 (ix2 k f)) (fun k f => a7 (ix2 k f)) d := by
  unfold Cert.Reference3Ideal.Value.res_main_v29
  clean_types
  rw [h0, h1, h2, h3, h4, h5, h6, h7]
  have e1 : (⟨R.val / 4096, by omega⟩ : Fin 16) = b := Fin.ext (by simp only; omega)
  have e2 : (⟨R.val % 4096, by omega⟩ : Fin 4096) = s := Fin.ext (by simp only; omega)
  pointwise
  simp only [e1, e2]
  rfl

/-- Which block each window reads at a point: its rows, its batch, or the whole array. -/
theorem idx : ∀ t : Fin grid0.N,
    win0_0.index t = ![t.val, 0]
    ∧ win0_1.index t = ![t.val / 8, 0, 0]
    ∧ win0_2.index t = ![t.val / 8, 0, 0]
    ∧ win0_3.index t = ![t.val / 8, 0, 0]
    ∧ win0_4.index t = ![0, 0]
    ∧ win0_5.index t = ![0, 0]
    ∧ win0_6.index t = ![0, 0]
    ∧ win0_7.index t = ![0, 0]
    ∧ win0_8.index t = ![t.val, 0] := by decide +kernel

theorem N_eq : cfg0.N = 128 := by decide

/-- The batch and the position of row `r` of point `t`'s block. -/
theorem bOf_lt (t : Fin cfg0.N) : t.val / 8 < 16 := by have h := lt_of_lt_of_eq t.isLt N_eq; omega
theorem sOf_lt (t : Fin cfg0.N) (r : Fin 512) : 512 * (t.val % 8) + r.val < 4096 := by have := r.isLt; omega
def bOf (t : Fin cfg0.N) : Fin 16 := ⟨t.val / 8, bOf_lt t⟩
def sOf (t : Fin cfg0.N) (r : Fin 512) : Fin 4096 := ⟨512 * (t.val % 8) + r.val, sOf_lt t r⟩

theorem b0 (c : Dev nD) (t : Fin cfg0.N) (r : Fin 512) (k : Fin 1024) :
    iblk m c 0 t (ix2 r k) = m ((c : Thread nD τ).loc main_arg0) (ix3 (bOf t) (sOf t r) k) := by
  have h := lt_of_lt_of_eq t.isLt N_eq
  blk_ext! [iblk, V, idx t, bOf, sOf]
theorem b1 (c : Dev nD) (t : Fin cfg0.N) (k : Fin 1024) :
    iblk m c 1 t (ix3 0 0 k) = m ((c : Thread nD τ).loc main_arg1) (ix3 (bOf t) 0 k) := by
  have h := lt_of_lt_of_eq t.isLt N_eq
  blk_ext! [iblk, V, idx t, bOf]
theorem b2 (c : Dev nD) (t : Fin cfg0.N) (k : Fin 1024) :
    iblk m c 2 t (ix3 0 0 k) = m ((c : Thread nD τ).loc main_arg2) (ix3 (bOf t) 0 k) := by
  have h := lt_of_lt_of_eq t.isLt N_eq
  blk_ext! [iblk, V, idx t, bOf]
theorem b3 (c : Dev nD) (t : Fin cfg0.N) (k : Fin 1024) :
    iblk m c 3 t (ix3 0 0 k) = m ((c : Thread nD τ).loc main_arg3) (ix3 (bOf t) 0 k) := by
  have h := lt_of_lt_of_eq t.isLt N_eq
  blk_ext! [iblk, V, idx t, bOf]
theorem b4 (c : Dev nD) (t : Fin cfg0.N) (k : Fin 1024) :
    iblk m c 4 t (ix2 0 k) = m ((c : Thread nD τ).loc main_arg4) (ix1 k) := by
  blk_ext! [iblk, V, idx t]
theorem b5 (c : Dev nD) (t : Fin cfg0.N) (k : Fin 1024) (f : Fin 2816) :
    iblk m c 5 t (ix2 k f) = m ((c : Thread nD τ).loc main_arg5) (ix2 k f) := by
  blk_ext! [iblk, V, idx t]
theorem b6 (c : Dev nD) (t : Fin cfg0.N) (k : Fin 1024) (f : Fin 2816) :
    iblk m c 6 t (ix2 k f) = m ((c : Thread nD τ).loc main_arg6) (ix2 k f) := by
  blk_ext! [iblk, V, idx t]
theorem b7 (c : Dev nD) (t : Fin cfg0.N) (k : Fin 2816) (f : Fin 1024) :
    iblk m c 7 t (ix2 k f) = m ((c : Thread nD τ).loc main_arg7) (ix2 k f) := by
  blk_ext! [iblk, V, idx t]

/-- The array the kernel leaves is the reference's, of the same arguments. -/
theorem final (m' : (ℓ : Loc Cert.Reference3Ideal.nD Cert.Reference3Ideal.τ Cert.Reference3Ideal.sig) → Buf (Elt Ideal) ℓ) (c : Dev nD)
    (h0 : m' ((c.tc : Thread _ _).loc Cert.Reference3Ideal.main_arg0) = m ((c : Thread nD τ).loc main_arg0))
    (h1 : m' ((c.tc : Thread _ _).loc Cert.Reference3Ideal.main_arg1) = m ((c : Thread nD τ).loc main_arg1))
    (h2 : m' ((c.tc : Thread _ _).loc Cert.Reference3Ideal.main_arg2) = m ((c : Thread nD τ).loc main_arg2))
    (h3 : m' ((c.tc : Thread _ _).loc Cert.Reference3Ideal.main_arg3) = m ((c : Thread nD τ).loc main_arg3))
    (h4 : m' ((c.tc : Thread _ _).loc Cert.Reference3Ideal.main_arg4) = m ((c : Thread nD τ).loc main_arg4))
    (h5 : m' ((c.tc : Thread _ _).loc Cert.Reference3Ideal.main_arg5) = m ((c : Thread nD τ).loc main_arg5))
    (h6 : m' ((c.tc : Thread _ _).loc Cert.Reference3Ideal.main_arg6) = m ((c : Thread nD τ).loc main_arg6))
    (h7 : m' ((c.tc : Thread _ _).loc Cert.Reference3Ideal.main_arg7) = m ((c : Thread nD τ).loc main_arg7)) :
    (dats m 0 c).arrAt 8 cfg0.N = Cert.Reference3Ideal.Value.res_main_v29 m' c := by
  refine (dats m 0 c).arrAt_eq_of_covers 8 _ (by decide +kernel) fun t hf y => ?_
  have h := lt_of_lt_of_eq t.isLt N_eq
  obtain ⟨r, d, rfl⟩ : ∃ (r : Fin 512) (d : Fin 1024), y = ix2 r d := ⟨y 0, y 1, by funext a; fin_cases a <;> rfl⟩
  have hlt : 512 * t.val + r.val < 65536 := by have := r.isLt; omega
  have e : (dats m 0 c).after 8 t (ix2 r d) = Cert.Reference3Ideal.Value.res_main_v29 m' c (ix2 ⟨512 * t.val + r.val, hlt⟩ d) := by
    rw [after0_8, outs_eq]
    refine (bodyOut_row _ _ _ _ _ _ _ _ r d).trans ?_
    rw [ref_row m' c ⟨512 * t.val + r.val, hlt⟩ d (bOf t) (sOf t r) (by simp only [bOf, sOf]; omega) _ _ _ _ _ _ _ _
      h0 h1 h2 h3 h4 h5 h6 h7]
    simp only [b0, b1, b2, b3, b4, b5, b6, b7]
  refine e.trans (congrArg _ ?_)
  blk_ext [idx t]
end Cert.Kernel3Ideal.Half
end
-- ==== Proof.lean ====
module

public import proofs.«01_k».proof.Defs
public import proofs.«01_k».proof.Proof.MlaFrame
public import proofs.«01_k».proof.Proof.MlaFinal
public import proofs.«01_k».proof.Proof.MlaPre
public import proofs.«01_k».proof.Proof.KMlaFrame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Loops
public import proofs.«01_k».proof.Proof.Gen.Kernel.Frame
public import proofs.«01_k».proof.Proof.Gen.KernelIdeal.Frame
public import proofs.«01_k».proof.Proof.Gen.ReferenceIdeal.Run
public import proofs.«01_k».proof.Proof.FfnValue
public import proofs.«01_k».proof.Proof.Ffn4
public import proofs.«01_k».proof.Proof.Ffn3
public import proofs.«01_k».proof.Proof.Gen.Reference2Ideal.Run
public import proofs.«01_k».proof.Proof.Gen.Kernel2.Frame
public import proofs.«01_k».proof.Proof.Gen.Kernel2Ideal.Value
public import proofs.«01_k».proof.Proof.Gen.Reference3Ideal.Run
public import proofs.«01_k».proof.Proof.Gen.Kernel3.Frame
public import proofs.«01_k».proof.Proof.Gen.Kernel3Ideal.Value
public import proofs.«01_k».proof.Proof.Gen.Reference4Ideal.Run
public import proofs.«01_k».proof.Proof.Gen.Kernel4.Frame
public import proofs.«01_k».proof.Proof.Gen.Kernel4Ideal.Value
public import Idealize.ShloMosaic.Adequacy
public import Idealize.ShloMosaic.Init

@[expose] public section

noncomputable section

namespace Cert.Proof

open Idealize.ShloMosaic Idealize.SL.Sem

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m g m' g' _ h =>
  ⟨fun c => (Cert.Kernel2Ideal.Gen.dats m 0 c).arrAt 12 Cert.Kernel2Ideal.cfg0.N, Cert.Kernel2Ideal.Value.run_blocks m g,
    (θ_run Cert.Reference2Ideal.defs _ _).mono (fun r k c => by
      obtain ⟨h0, h1, h2, h3, h4, h5, h6, h7, h8, h9, h10, h11⟩ := h c
      exact ⟨(k c).1.trans (Cert.Kernel2Ideal.Half.final m m' c h0 h1 h2 h3 h4 h5 h6 h7 h8 h9 h10 h11).symm, (k c).2⟩)
      (Cert.Reference2Ideal.Value.run m' g')⟩

theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := fun m g m' g' _ h =>
  ⟨fun c => (Cert.Kernel3Ideal.Gen.dats m 0 c).arrAt 8 Cert.Kernel3Ideal.cfg0.N, Cert.Kernel3Ideal.Value.run_blocks m g,
    (θ_run Cert.Reference3Ideal.defs _ _).mono (fun r k c => by
      obtain ⟨h0, h1, h2, h3, h4, h5, h6, h7⟩ := h c
      exact ⟨(k c).1.trans (Cert.Kernel3Ideal.Half.final m m' c h0 h1 h2 h3 h4 h5 h6 h7).symm, (k c).2⟩)
      (Cert.Reference3Ideal.Value.run m' g')⟩

theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m g m' g' _ h =>
  ⟨fun c => (Cert.Kernel4Ideal.Gen.dats m 0 c).arrAt 11 Cert.Kernel4Ideal.cfg0.N, Cert.Kernel4Ideal.Value.run_blocks m g,
    (θ_run Cert.Reference4Ideal.defs _ _).mono (fun r k c => by
      obtain ⟨h0, h1, h2, h3, h4, h5, h6, h7, h8, h9, h10⟩ := h c
      exact ⟨(k c).1.trans (Cert.Kernel4Ideal.Half.final m m' c h0 h1 h2 h3 h4 h5 h6 h7 h8 h9 h10).symm, (k c).2⟩)
      (Cert.Reference4Ideal.Value.run m' g')⟩

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_finite : Cert.quiescent_ReferenceIdeal_pre_finite (hPre_finite := Cert.Pre_finite.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite (hPre_finite := Cert.Pre_finite.facts) := fun m g m' g' hp h =>
  ⟨fun c => (Cert.KernelIdeal.Mla.dats m (Cert.KernelIdeal.Mla.oB m) 0 c).arrAt 5 Cert.KernelIdeal.cfg0.N, Cert.KernelIdeal.Mla.run_out m g,
    (θ_run Cert.ReferenceIdeal.defs _ _).mono (fun r k c => by
      obtain ⟨h0, h1, h2, h3, h4⟩ := h c
      haveI := Cert.Pre_finite.facts
      obtain ⟨r0, r1, r2, r3⟩ := Cert.Pre_finite.of_fn _ _ _ _ _ (hp c)
      exact ⟨(k c).1.trans (Cert.KernelIdeal.Mla.final m _ _ _ _ _ m' c h0 h1 h2 h3 h4 rfl rfl rfl rfl rfl r0 r1 r2 r3).symm, (k c).2⟩)
      (Cert.ReferenceIdeal.Value.run m' g')⟩

theorem preserves : Cert.preserves_Kernel_KernelIdeal := IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts,
  fun m ρ _ => Cert.Kernel.Mla.frame m ρ, fun m ρ _ => Cert.KernelIdeal.Mla.frame m ρ,
  fun m ρ _ => Cert.KernelIdeal.Mla.frame m ρ, frame_ref, frame_ref_finite,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  preserves, algebraic, trivial, algebraic2, trivial, algebraic3, trivial, algebraic4⟩

end Cert.Proof

end
